-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2ReferenceIdeal (m : (ℓ : Loc Cert.Dw2ReferenceIdeal.nD Cert.Dw2ReferenceIdeal.τ Cert.Dw2ReferenceIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1ReferenceIdeal (m : (ℓ : Loc Cert.Dw1ReferenceIdeal.nD Cert.Dw1ReferenceIdeal.τ Cert.Dw1ReferenceIdeal.sig) → Buf (Elt Ideal) ℓ) : Prop :=
  True

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupReferenceIdeal (m : (ℓ : Loc Cert.DupReferenceIdeal.nD Cert.DupReferenceIdeal.τ Cert.DupReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2ReferenceIdeal [hDw2ReferenceIdeal : Cert.Dw2ReferenceIdeal.Facts] : Prop :=
  ∀ (m : (ℓ : Loc Cert.Dw2ReferenceIdeal.nD Cert.Dw2ReferenceIdeal.τ Cert.Dw2ReferenceIdeal.sig) → Buf (Elt Ideal) ℓ) (g : Dev Cert.Dw2ReferenceIdeal.nD → PrngReg), Pre_Dw2ReferenceIdeal m →
    θ_run (Cert.Dw2ReferenceIdeal.defs (F := Ideal)) (onTc (τ := Cert.Dw2ReferenceIdeal.τ) (Cert.Dw2ReferenceIdeal.main (F := Ideal))) ⟨m, fun _ => 0, g⟩ (fun r => (∀ c : Dev Cert.Dw2ReferenceIdeal.nD,
      r.2.mem ((c.tc : Thread Cert.Dw2ReferenceIdeal.nD Cert.Dw2ReferenceIdeal.τ).loc Cert.Dw2ReferenceIdeal.main_arg0) = m ((c.tc : Thread Cert.Dw2ReferenceIdeal.nD Cert.Dw2ReferenceIdeal.τ).loc Cert.Dw2ReferenceIdeal.main_arg0)
      ∧ r.2.mem ((c.tc : Thread Cert.Dw2ReferenceIdeal.nD Cert.Dw2ReferenceIdeal.τ).loc Cert.Dw2ReferenceIdeal.main_arg1) = m ((c.tc : Thread Cert.Dw2ReferenceIdeal.nD Cert.Dw2ReferenceIdeal.τ).loc Cert.Dw2ReferenceIdeal.main_arg1))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_Dw1ReferenceIdeal [hDw1ReferenceIdeal : Cert.Dw1ReferenceIdeal.Facts] : Prop :=
  ∀ (m : (ℓ : Loc Cert.Dw1ReferenceIdeal.nD Cert.Dw1ReferenceIdeal.τ Cert.Dw1ReferenceIdeal.sig) → Buf (Elt Ideal) ℓ) (g : Dev Cert.Dw1ReferenceIdeal.nD → PrngReg), Pre_Dw1ReferenceIdeal m →
    θ_run (Cert.Dw1ReferenceIdeal.defs (F := Ideal)) (onTc (τ := Cert.Dw1ReferenceIdeal.τ) (Cert.Dw1ReferenceIdeal.main (F := Ideal))) ⟨m, fun _ => 0, g⟩ (fun r => (∀ c : Dev Cert.Dw1ReferenceIdeal.nD,
      r.2.mem ((c.tc : Thread Cert.Dw1ReferenceIdeal.nD Cert.Dw1ReferenceIdeal.τ).loc Cert.Dw1ReferenceIdeal.main_arg0) = m ((c.tc : Thread Cert.Dw1ReferenceIdeal.nD Cert.Dw1ReferenceIdeal.τ).loc Cert.Dw1ReferenceIdeal.main_arg0)
      ∧ r.2.mem ((c.tc : Thread Cert.Dw1ReferenceIdeal.nD Cert.Dw1ReferenceIdeal.τ).loc Cert.Dw1ReferenceIdeal.main_arg1) = m ((c.tc : Thread Cert.Dw1ReferenceIdeal.nD Cert.Dw1ReferenceIdeal.τ).loc Cert.Dw1ReferenceIdeal.main_arg1))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1)
      ∧ r.2.mem ((c.tc : Thread Cert.Dup.nD Cert.Dup.τ).loc Cert.Dup.main_arg2) = m ((c.tc : Thread Cert.Dup.nD Cert.Dup.τ).loc Cert.Dup.main_arg2)
      ∧ r.2.mem ((c.tc : Thread Cert.Dup.nD Cert.Dup.τ).loc Cert.Dup.main_arg3) = m ((c.tc : Thread Cert.Dup.nD Cert.Dup.τ).loc Cert.Dup.main_arg3)
      ∧ r.2.mem ((c.tc : Thread Cert.Dup.nD Cert.Dup.τ).loc Cert.Dup.main_arg4) = m ((c.tc : Thread Cert.Dup.nD Cert.Dup.τ).loc Cert.Dup.main_arg4))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
      ∧ r.2.mem ((c.tc : Thread Cert.DupIdeal.nD Cert.DupIdeal.τ).loc Cert.DupIdeal.main_arg2) = m ((c.tc : Thread Cert.DupIdeal.nD Cert.DupIdeal.τ).loc Cert.DupIdeal.main_arg2)
      ∧ r.2.mem ((c.tc : Thread Cert.DupIdeal.nD Cert.DupIdeal.τ).loc Cert.DupIdeal.main_arg3) = m ((c.tc : Thread Cert.DupIdeal.nD Cert.DupIdeal.τ).loc Cert.DupIdeal.main_arg3)
      ∧ r.2.mem ((c.tc : Thread Cert.DupIdeal.nD Cert.DupIdeal.τ).loc Cert.DupIdeal.main_arg4) = m ((c.tc : Thread Cert.DupIdeal.nD Cert.DupIdeal.τ).loc Cert.DupIdeal.main_arg4))
      ∧ r.2.sem = fun _ => 0)

def quiescent_DupReferenceIdeal [hDupReferenceIdeal : Cert.DupReferenceIdeal.Facts] : Prop :=
  ∀ (m : (ℓ : Loc Cert.DupReferenceIdeal.nD Cert.DupReferenceIdeal.τ Cert.DupReferenceIdeal.sig) → Buf (Elt Ideal) ℓ) (g : Dev Cert.DupReferenceIdeal.nD → PrngReg), Pre_DupReferenceIdeal m →
    θ_run (Cert.DupReferenceIdeal.defs (F := Ideal)) (onTc (τ := Cert.DupReferenceIdeal.τ) (Cert.DupReferenceIdeal.main (F := Ideal))) ⟨m, fun _ => 0, g⟩ (fun r => (∀ c : Dev Cert.DupReferenceIdeal.nD,
      r.2.mem ((c.tc : Thread Cert.DupReferenceIdeal.nD Cert.DupReferenceIdeal.τ).loc Cert.DupReferenceIdeal.main_arg0) = m ((c.tc : Thread Cert.DupReferenceIdeal.nD Cert.DupReferenceIdeal.τ).loc Cert.DupReferenceIdeal.main_arg0)
      ∧ r.2.mem ((c.tc : Thread Cert.DupReferenceIdeal.nD Cert.DupReferenceIdeal.τ).loc Cert.DupReferenceIdeal.main_arg1) = m ((c.tc : Thread Cert.DupReferenceIdeal.nD Cert.DupReferenceIdeal.τ).loc Cert.DupReferenceIdeal.main_arg1)
      ∧ r.2.mem ((c.tc : Thread Cert.DupReferenceIdeal.nD Cert.DupReferenceIdeal.τ).loc Cert.DupReferenceIdeal.main_arg2) = m ((c.tc : Thread Cert.DupReferenceIdeal.nD Cert.DupReferenceIdeal.τ).loc Cert.DupReferenceIdeal.main_arg2)
      ∧ r.2.mem ((c.tc : Thread Cert.DupReferenceIdeal.nD Cert.DupReferenceIdeal.τ).loc Cert.DupReferenceIdeal.main_arg3) = m ((c.tc : Thread Cert.DupReferenceIdeal.nD Cert.DupReferenceIdeal.τ).loc Cert.DupReferenceIdeal.main_arg3)
      ∧ r.2.mem ((c.tc : Thread Cert.DupReferenceIdeal.nD Cert.DupReferenceIdeal.τ).loc Cert.DupReferenceIdeal.main_arg4) = m ((c.tc : Thread Cert.DupReferenceIdeal.nD Cert.DupReferenceIdeal.τ).loc Cert.DupReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dw2_Dw2Ideal : Prop :=
  True

def algebraic_Dw2Ideal_Dw2ReferenceIdeal [hDw2Ideal : Cert.Dw2Ideal.Facts] [hDw2ReferenceIdeal : Cert.Dw2ReferenceIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2ReferenceIdeal.nD Cert.Dw2ReferenceIdeal.τ Cert.Dw2ReferenceIdeal.sig) → Buf (Elt Ideal) ℓ) (g' : Dev Cert.Dw2ReferenceIdeal.nD → PrngReg), Pre_Dw2Ideal m →
    (∀ c : Dev Cert.Dw2Ideal.nD,
      m' ((c.tc : Thread Cert.Dw2ReferenceIdeal.nD Cert.Dw2ReferenceIdeal.τ).loc Cert.Dw2ReferenceIdeal.main_arg0) = m ((c.tc : Thread Cert.Dw2Ideal.nD Cert.Dw2Ideal.τ).loc Cert.Dw2Ideal.main_arg0)
      ∧ m' ((c.tc : Thread Cert.Dw2ReferenceIdeal.nD Cert.Dw2ReferenceIdeal.τ).loc Cert.Dw2ReferenceIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v0)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v0) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2ReferenceIdeal.defs (F := Ideal)) (onTc (τ := Cert.Dw2ReferenceIdeal.τ) (Cert.Dw2ReferenceIdeal.main (F := Ideal))) ⟨m', fun _ => 0, g'⟩ (fun r => ∀ c : Dev Cert.Dw2ReferenceIdeal.nD,
          r.2.mem ((c.tc : Thread Cert.Dw2ReferenceIdeal.nD Cert.Dw2ReferenceIdeal.τ).loc Cert.Dw2ReferenceIdeal.main_v7) = v0 c
          ∧ r.2.mem ((c.tc : Thread Cert.Dw2ReferenceIdeal.nD Cert.Dw2ReferenceIdeal.τ).loc Cert.Dw2ReferenceIdeal.main_arg0) = m' ((c.tc : Thread Cert.Dw2ReferenceIdeal.nD Cert.Dw2ReferenceIdeal.τ).loc Cert.Dw2ReferenceIdeal.main_arg0)
          ∧ r.2.mem ((c.tc : Thread Cert.Dw2ReferenceIdeal.nD Cert.Dw2ReferenceIdeal.τ).loc Cert.Dw2ReferenceIdeal.main_arg1) = m' ((c.tc : Thread Cert.Dw2ReferenceIdeal.nD Cert.Dw2ReferenceIdeal.τ).loc Cert.Dw2ReferenceIdeal.main_arg1))

def preserves_Dw1_Dw1Ideal : Prop :=
  True

def algebraic_Dw1Ideal_Dw1ReferenceIdeal [hDw1Ideal : Cert.Dw1Ideal.Facts] [hDw1ReferenceIdeal : Cert.Dw1ReferenceIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1ReferenceIdeal.nD Cert.Dw1ReferenceIdeal.τ Cert.Dw1ReferenceIdeal.sig) → Buf (Elt Ideal) ℓ) (g' : Dev Cert.Dw1ReferenceIdeal.nD → PrngReg), Pre_Dw1Ideal m →
    (∀ c : Dev Cert.Dw1Ideal.nD,
      m' ((c.tc : Thread Cert.Dw1ReferenceIdeal.nD Cert.Dw1ReferenceIdeal.τ).loc Cert.Dw1ReferenceIdeal.main_arg0) = m ((c.tc : Thread Cert.Dw1Ideal.nD Cert.Dw1Ideal.τ).loc Cert.Dw1Ideal.main_arg0)
      ∧ m' ((c.tc : Thread Cert.Dw1ReferenceIdeal.nD Cert.Dw1ReferenceIdeal.τ).loc Cert.Dw1ReferenceIdeal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v0)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v0) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.Dw1ReferenceIdeal.defs (F := Ideal)) (onTc (τ := Cert.Dw1ReferenceIdeal.τ) (Cert.Dw1ReferenceIdeal.main (F := Ideal))) ⟨m', fun _ => 0, g'⟩ (fun r => ∀ c : Dev Cert.Dw1ReferenceIdeal.nD,
          r.2.mem ((c.tc : Thread Cert.Dw1ReferenceIdeal.nD Cert.Dw1ReferenceIdeal.τ).loc Cert.Dw1ReferenceIdeal.main_v8) = v0 c
          ∧ r.2.mem ((c.tc : Thread Cert.Dw1ReferenceIdeal.nD Cert.Dw1ReferenceIdeal.τ).loc Cert.Dw1ReferenceIdeal.main_arg0) = m' ((c.tc : Thread Cert.Dw1ReferenceIdeal.nD Cert.Dw1ReferenceIdeal.τ).loc Cert.Dw1ReferenceIdeal.main_arg0)
          ∧ r.2.mem ((c.tc : Thread Cert.Dw1ReferenceIdeal.nD Cert.Dw1ReferenceIdeal.τ).loc Cert.Dw1ReferenceIdeal.main_arg1) = m' ((c.tc : Thread Cert.Dw1ReferenceIdeal.nD Cert.Dw1ReferenceIdeal.τ).loc Cert.Dw1ReferenceIdeal.main_arg1))

def preserves_Dup_DupIdeal : Prop :=
  True

def algebraic_DupIdeal_DupReferenceIdeal [hDupIdeal : Cert.DupIdeal.Facts] [hDupReferenceIdeal : Cert.DupReferenceIdeal.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupReferenceIdeal.nD Cert.DupReferenceIdeal.τ Cert.DupReferenceIdeal.sig) → Buf (Elt Ideal) ℓ) (g' : Dev Cert.DupReferenceIdeal.nD → PrngReg), Pre_DupIdeal m →
    (∀ c : Dev Cert.DupIdeal.nD,
      m' ((c.tc : Thread Cert.DupReferenceIdeal.nD Cert.DupReferenceIdeal.τ).loc Cert.DupReferenceIdeal.main_arg0) = m ((c.tc : Thread Cert.DupIdeal.nD Cert.DupIdeal.τ).loc Cert.DupIdeal.main_arg0)
      ∧ m' ((c.tc : Thread Cert.DupReferenceIdeal.nD Cert.DupReferenceIdeal.τ).loc Cert.DupReferenceIdeal.main_arg1) = m ((c.tc : Thread Cert.DupIdeal.nD Cert.DupIdeal.τ).loc Cert.DupIdeal.main_arg1)
      ∧ m' ((c.tc : Thread Cert.DupReferenceIdeal.nD Cert.DupReferenceIdeal.τ).loc Cert.DupReferenceIdeal.main_arg2) = m ((c.tc : Thread Cert.DupIdeal.nD Cert.DupIdeal.τ).loc Cert.DupIdeal.main_arg2)
      ∧ m' ((c.tc : Thread Cert.DupReferenceIdeal.nD Cert.DupReferenceIdeal.τ).loc Cert.DupReferenceIdeal.main_arg3) = m ((c.tc : Thread Cert.DupIdeal.nD Cert.DupIdeal.τ).loc Cert.DupIdeal.main_arg3)
      ∧ m' ((c.tc : Thread Cert.DupReferenceIdeal.nD Cert.DupReferenceIdeal.τ).loc Cert.DupReferenceIdeal.main_arg4) = m ((c.tc : Thread Cert.DupIdeal.nD Cert.DupIdeal.τ).loc Cert.DupIdeal.main_arg4)) →
    ∃ (v0 : (c : Dev Cert.DupIdeal.nD) → Buf (Elt Ideal) ((c.tc : Thread Cert.DupIdeal.nD Cert.DupIdeal.τ).loc Cert.DupIdeal.main_v0_0)) (v1 : (c : Dev Cert.DupIdeal.nD) → Buf (Elt Ideal) ((c.tc : Thread Cert.DupIdeal.nD Cert.DupIdeal.τ).loc Cert.DupIdeal.main_v0_1)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v0_0) = v0 c
          ∧ r.2.mem ((c.tc : Thread Cert.DupIdeal.nD Cert.DupIdeal.τ).loc Cert.DupIdeal.main_v0_1) = v1 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
          ∧ r.2.mem ((c.tc : Thread Cert.DupIdeal.nD Cert.DupIdeal.τ).loc Cert.DupIdeal.main_arg2) = m ((c.tc : Thread Cert.DupIdeal.nD Cert.DupIdeal.τ).loc Cert.DupIdeal.main_arg2)
          ∧ r.2.mem ((c.tc : Thread Cert.DupIdeal.nD Cert.DupIdeal.τ).loc Cert.DupIdeal.main_arg3) = m ((c.tc : Thread Cert.DupIdeal.nD Cert.DupIdeal.τ).loc Cert.DupIdeal.main_arg3)
          ∧ r.2.mem ((c.tc : Thread Cert.DupIdeal.nD Cert.DupIdeal.τ).loc Cert.DupIdeal.main_arg4) = m ((c.tc : Thread Cert.DupIdeal.nD Cert.DupIdeal.τ).loc Cert.DupIdeal.main_arg4))
      ∧ θ_run (Cert.DupReferenceIdeal.defs (F := Ideal)) (onTc (τ := Cert.DupReferenceIdeal.τ) (Cert.DupReferenceIdeal.main (F := Ideal))) ⟨m', fun _ => 0, g'⟩ (fun r => ∀ c : Dev Cert.DupReferenceIdeal.nD,
          r.2.mem ((c.tc : Thread Cert.DupReferenceIdeal.nD Cert.DupReferenceIdeal.τ).loc Cert.DupReferenceIdeal.main_v37) = v0 c
          ∧ r.2.mem ((c.tc : Thread Cert.DupReferenceIdeal.nD Cert.DupReferenceIdeal.τ).loc Cert.DupReferenceIdeal.main_v20) = v1 c
          ∧ r.2.mem ((c.tc : Thread Cert.DupReferenceIdeal.nD Cert.DupReferenceIdeal.τ).loc Cert.DupReferenceIdeal.main_arg0) = m' ((c.tc : Thread Cert.DupReferenceIdeal.nD Cert.DupReferenceIdeal.τ).loc Cert.DupReferenceIdeal.main_arg0)
          ∧ r.2.mem ((c.tc : Thread Cert.DupReferenceIdeal.nD Cert.DupReferenceIdeal.τ).loc Cert.DupReferenceIdeal.main_arg1) = m' ((c.tc : Thread Cert.DupReferenceIdeal.nD Cert.DupReferenceIdeal.τ).loc Cert.DupReferenceIdeal.main_arg1)
          ∧ r.2.mem ((c.tc : Thread Cert.DupReferenceIdeal.nD Cert.DupReferenceIdeal.τ).loc Cert.DupReferenceIdeal.main_arg2) = m' ((c.tc : Thread Cert.DupReferenceIdeal.nD Cert.DupReferenceIdeal.τ).loc Cert.DupReferenceIdeal.main_arg2)
          ∧ r.2.mem ((c.tc : Thread Cert.DupReferenceIdeal.nD Cert.DupReferenceIdeal.τ).loc Cert.DupReferenceIdeal.main_arg3) = m' ((c.tc : Thread Cert.DupReferenceIdeal.nD Cert.DupReferenceIdeal.τ).loc Cert.DupReferenceIdeal.main_arg3)
          ∧ r.2.mem ((c.tc : Thread Cert.DupReferenceIdeal.nD Cert.DupReferenceIdeal.τ).loc Cert.DupReferenceIdeal.main_arg4) = m' ((c.tc : Thread Cert.DupReferenceIdeal.nD Cert.DupReferenceIdeal.τ).loc Cert.DupReferenceIdeal.main_arg4))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_v14) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v12) = v0 c
          ∧ r.2.mem ((c.tc : Thread Cert.UpReferenceIdeal.nD Cert.UpReferenceIdeal.τ).loc Cert.UpReferenceIdeal.main_v16) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def Claim : Prop :=
  ∃ (hKernel : Cert.Kernel.Facts) (hKernelIdeal : Cert.KernelIdeal.Facts) (hReferenceIdeal : Cert.ReferenceIdeal.Facts) (hDw2 : Cert.Dw2.Facts) (hDw2Ideal : Cert.Dw2Ideal.Facts) (hDw2ReferenceIdeal : Cert.Dw2ReferenceIdeal.Facts) (hDw1 : Cert.Dw1.Facts) (hDw1Ideal : Cert.Dw1Ideal.Facts) (hDw1ReferenceIdeal : Cert.Dw1ReferenceIdeal.Facts) (hDup : Cert.Dup.Facts) (hDupIdeal : Cert.DupIdeal.Facts) (hDupReferenceIdeal : Cert.DupReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dw2 (hDw2 := hDw2)
    ∧ quiescent_Dw2Ideal (hDw2Ideal := hDw2Ideal)
    ∧ quiescent_Dw2ReferenceIdeal (hDw2ReferenceIdeal := hDw2ReferenceIdeal)
    ∧ quiescent_Dw1 (hDw1 := hDw1)
    ∧ quiescent_Dw1Ideal (hDw1Ideal := hDw1Ideal)
    ∧ quiescent_Dw1ReferenceIdeal (hDw1ReferenceIdeal := hDw1ReferenceIdeal)
    ∧ quiescent_Dup (hDup := hDup)
    ∧ quiescent_DupIdeal (hDupIdeal := hDupIdeal)
    ∧ quiescent_DupReferenceIdeal (hDupReferenceIdeal := hDupReferenceIdeal)
    ∧ quiescent_Down (hDown := hDown)
    ∧ quiescent_DownIdeal (hDownIdeal := hDownIdeal)
    ∧ quiescent_DownReferenceIdeal (hDownReferenceIdeal := hDownReferenceIdeal)
    ∧ quiescent_Up (hUp := hUp)
    ∧ quiescent_UpIdeal (hUpIdeal := hUpIdeal)
    ∧ quiescent_UpReferenceIdeal (hUpReferenceIdeal := hUpReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dw2_Dw2Ideal
    ∧ algebraic_Dw2Ideal_Dw2ReferenceIdeal (hDw2Ideal := hDw2Ideal) (hDw2ReferenceIdeal := hDw2ReferenceIdeal)
    ∧ preserves_Dw1_Dw1Ideal
    ∧ algebraic_Dw1Ideal_Dw1ReferenceIdeal (hDw1Ideal := hDw1Ideal) (hDw1ReferenceIdeal := hDw1ReferenceIdeal)
    ∧ preserves_Dup_DupIdeal
    ∧ algebraic_DupIdeal_DupReferenceIdeal (hDupIdeal := hDupIdeal) (hDupReferenceIdeal := hDupReferenceIdeal)
    ∧ preserves_Down_DownIdeal
    ∧ algebraic_DownIdeal_DownReferenceIdeal (hDownIdeal := hDownIdeal) (hDownReferenceIdeal := hDownReferenceIdeal)
    ∧ preserves_Up_UpIdeal
    ∧ algebraic_UpIdeal_UpReferenceIdeal (hUpIdeal := hUpIdeal) (hUpReferenceIdeal := hUpReferenceIdeal)
-- ==== Pre_finite.lean ====
abbrev S8x4096x192 : Shape := ⟨3, ![8, 4096, 192]⟩
abbrev S8x4096x128 : Shape := ⟨3, ![8, 4096, 128]⟩
abbrev S4096x1024 : Shape := ⟨2, ![4096, 1024]⟩
abbrev S_ : Shape := ⟨0, ![]⟩

class Facts : Prop where
  bcast_S_S8x4096x192 : S_.BroadcastsInDim S8x4096x192 (![] : Fin 0 → Fin S8x4096x192.rank)
  reducesTo_S8x4096x192_S_d0_1_2 : S8x4096x192.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8x4096x192 .f32) (main_arg1 : FVec F S8x4096x192 .f32) (main_arg2 : FVec F S8x4096x128 .f32) (main_arg3 : FVec F S4096x1024 .f32) : IVec S_ 1 :=
  let main_v0 : FVec F S8x4096x192 .f32 := Host.absf main_arg0
  let main_cst : FVec F S_ .f32 := constant S_ .f32 0x7F800000#32
  let main_v1 : FVec F S8x4096x192 .f32 := broadcastInDim S8x4096x192 ![] bcast_S_S8x4096x192 main_cst
  let main_v2 : IVec S8x4096x192 1 := cmpf .olt main_v0 main_v1
  let main_c : IVec S_ 1 := constantI S_ 1 1#1
  let main_v3 : IVec S_ 1 := (fun x v => Host.reduce IntOp.andi x v reducesTo_S8x4096x192_S_d0_1_2 h_S_) main_v2 main_c
  let main_v4 : FVec F S8x4096x192 .f32 := Host.absf main_arg1
  let main_cst_0 : FVec F S_ .f32 := constant S_ .f32 0x7F800000#32
  let main_v5 : FVec F S8x4096x192 .f32 := broadcastInDim S8x4096x192 ![] bcast_S_S8x4096x192 main_cst_0
  let main_v6 : IVec S8x4096x192 1 := cmpf .olt main_v4 main_v5
  let main_c_1 : IVec S_ 1 := constantI S_ 1 1#1
  let main_v7 : IVec S_ 1 := (fun x v => Host.reduce IntOp.andi x v reducesTo_S8x4096x192_S_d0_1_2 h_S_) main_v6 main_c_1
  let main_v8 : FVec F S8x4096x128 .f32 := Host.absf main_arg2
  let main_cst_2 : FVec F S_ .f32 := constant S_ .f32 0x7F800000#32
  let main_v9 : FVec F S8x4096x128 .f32 := broadcastInDim S8x4096x128 ![] bcast_S_S8x4096x128 main_cst_2
  let main_v10 : IVec S8x4096x128 1 := cmpf .olt main_v8 main_v9
  let main_c_3 : IVec S_ 1 := constantI S_ 1 1#1
  let main_v11 : IVec S_ 1 := (fun x v => Host.reduce IntOp.andi x v reducesTo_S8x4096x128_S_d0_1_2 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_v3 main_v7 main_v11 main_v15
-- ==== Kernel.lean ====
abbrev S8x4096x192 : Shape := ⟨3, ![8, 4096, 192]⟩
abbrev S8x4096x128 : Shape := ⟨3, ![8, 4096, 128]⟩
abbrev S4096x1024 : Shape := ⟨2, ![4096, 1024]⟩
abbrev S3 : Shape := ⟨1, ![3]⟩
abbrev S4096 : Shape := ⟨1, ![4096]⟩
abbrev S8x4096x4096 : Shape := ⟨3, ![8, 4096, 4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8x128 : Shape := ⟨3, ![4096, 8, 128]⟩
abbrev S4096x8 : Shape := ⟨2, ![4096, 8]⟩
abbrev S8x1x4096 : Shape := ⟨3, ![8, 1, 4096]⟩
abbrev S1x2048x192 : Shape := ⟨3, ![1, 2048, 192]⟩
abbrev S1 : Shape := ⟨1, ![1]⟩
abbrev S1x2048x128 : Shape := ⟨3, ![1, 2048, 128]⟩
abbrev S2048x128 : Shape := ⟨2, ![2048, 128]⟩
abbrev S1x1x2048 : Shape := ⟨3, ![1, 1, 2048]⟩
abbrev S8x2048 : Shape := ⟨2, ![8, 2048]⟩
abbrev S1x4096x192 : Shape := ⟨3, ![1, 4096, 192]⟩
abbrev S4096x192 : Shape := ⟨2, ![4096, 192]⟩
abbrev S2048x192 : Shape := ⟨2, ![2048, 192]⟩
abbrev S1x512x192 : Shape := ⟨3, ![1, 512, 192]⟩
abbrev S512x192 : Shape := ⟨2, ![512, 192]⟩
abbrev S512x128 : Shape := ⟨2, ![512, 128]⟩
abbrev S1x1x512 : Shape := ⟨3, ![1, 1, 512]⟩
abbrev S1x512 : Shape := ⟨2, ![1, 512]⟩
abbrev S1x512x128 : Shape := ⟨3, ![1, 512, 128]⟩
abbrev S512x512 : Shape := ⟨2, ![512, 512]⟩

abbrev nBuf : Space → Nat
  | .hbm => 47
  | .vmem => 21
  | .smem => 2
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S4096x1024, .f32⟩
  | .hbm, ⟨4, _⟩ => ⟨S4096, .i32⟩
  | .hbm, ⟨5, _⟩ => ⟨S8x4096x4096, .f32⟩
  | .hbm, ⟨6, _⟩ => ⟨S_, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x128x4096, .f32⟩
  | .hbm, ⟨34, _⟩ => ⟨S4096x8x128, .f32⟩
  | .hbm, ⟨35, _⟩ => ⟨S4096x8x128, .f32⟩
  | .hbm, ⟨36, _⟩ => ⟨S4096x8x128, .f32⟩
  | .hbm, ⟨37, _⟩ => ⟨S_, .f32⟩
  | .hbm, ⟨38, _⟩ => ⟨S4096x8, .f32⟩
  | .hbm, ⟨39, _⟩ => ⟨S8x4096, .f32⟩
  | .hbm, ⟨40, _⟩ => ⟨S8x4096x192, .bf16⟩
  | .hbm, ⟨41, _⟩ => ⟨S8x4096x192, .bf16⟩
  | .hbm, ⟨42, _⟩ => ⟨S8x4096x128, .bf16⟩
  | .hbm, ⟨43, _⟩ => ⟨S8x1x4096, .f32⟩
  | .hbm, ⟨44, _⟩ => ⟨S8x4096x192, .bf16⟩
  | .hbm, ⟨45, _⟩ => ⟨S8x4096x192, .bf16⟩
  | .hbm, ⟨46, _⟩ => ⟨S8x4096x128, .bf16⟩
  | .local _ .vmem, ⟨0, _⟩ => ⟨S1x2048x192, .bf16⟩
  | .local _ .vmem, ⟨1, _⟩ => ⟨S1x2048x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .f32⟩
  | .local _ .vmem, ⟨7, _⟩ => ⟨S2048x128, .f32⟩
  | .local _ .vmem, ⟨8, _⟩ => ⟨S1x1x2048, .f32⟩
  | .local _ .vmem, ⟨9, _⟩ => ⟨S1x1x2048, .f32⟩
  | .local _ .vmem, ⟨10, _⟩ => ⟨S8x2048, .f32⟩
  | .local _ .vmem, ⟨11, _⟩ => ⟨S8x2048, .f32⟩
  | .local _ .vmem, ⟨12, _⟩ => ⟨S1x4096x192, .bf16⟩
  | .local _ .vmem, ⟨13, _⟩ => ⟨S1x4096x192, .bf16⟩
  | .local _ .vmem, ⟨14, _⟩ => ⟨S1x2048x192, .bf16⟩
  | .local _ .vmem, ⟨15, _⟩ => ⟨S1x2048x192, .bf16⟩
  | .local _ .vmem, ⟨16, _⟩ => ⟨S1x2048x128, .bf16⟩
  | .local _ .vmem, ⟨17, _⟩ => ⟨S1x2048x128, .bf16⟩
  | .local _ .vmem, ⟨18, _⟩ => ⟨S4096x192, .f32⟩
  | .local _ .vmem, ⟨19, _⟩ => ⟨S2048x192, .f32⟩
  | .local _ .vmem, ⟨20, _⟩ => ⟨S2048x128, .f32⟩
  | .local _ .smem, ⟨0, _⟩ => ⟨S3, .i32⟩
  | .local _ .smem, ⟨1, _⟩ => ⟨S3, .i32⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 3], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 2 → Nat :=
  let arg0 : BitVec 32 := BitVec.ofNat 32 (i 0).val
  let v35 : Index := Scalar.indexCast arg0
  let c0_18 : Index := 0#32
  ![v35.toNat, 0]
def k0_mult1 (v1 : BitVec 32) : BitVec 32 :=
  let c2048_i32 : BitVec 32 := 2048#32
  let v78 : BitVec 32 := Scalar.muli v1 c2048_i32
  let c0_i32_43 : BitVec 32 := 0#32
  let v79 : BitVec 32 := Scalar.addi v78 c0_i32_43
  v79
def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def k0_off3 (v1 : BitVec 32) (c0_i32_43 : BitVec 32) : Fin 2 → Nat :=
  let c2048_i32 : BitVec 32 := 2048#32
  let v78 : BitVec 32 := Scalar.muli v1 c2048_i32
  let v79 : BitVec 32 := Scalar.addi v78 c0_i32_43
  let v80 : BitVec 32 := v79
  let v81 : Index := Scalar.indexCast v80
  let c0_44 : Index := 0#32
  ![v81.toNat, 0]
def k0_off4 (i : grid0.Coords) : Fin 2 → Nat :=
  let arg0 : BitVec 32 := BitVec.ofNat 32 (i 0).val
  let v96 : Index := Scalar.indexCast arg0
  let c512_54 : Index := 512#32
  ![v96.toNat, 512]
def k0_mult2 (v1 : BitVec 32) : BitVec 32 :=
  let c2048_i32_99 : BitVec 32 := 2048#32
  let v171 : BitVec 32 := Scalar.muli v1 c2048_i32_99
  let c512_i32_100 : BitVec 32 := 512#32
  let v172 : BitVec 32 := Scalar.addi v171 c512_i32_100
  v172
def k0_off5 (i : grid0.Coords) : Fin 2 → Nat :=
  let arg0 : BitVec 32 := BitVec.ofNat 32 (i 0).val
  let v189 : Index := Scalar.indexCast arg0
  let c1024_111 : Index := 1024#32
  ![v189.toNat, 1024]
def k0_mult3 (v1 : BitVec 32) : BitVec 32 :=
  let c2048_i32_177 : BitVec 32 := 2048#32
  let v296 : BitVec 32 := Scalar.muli v1 c2048_i32_177
  let c1024_i32_178 : BitVec 32 := 1024#32
  let v297 : BitVec 32 := Scalar.addi v296 c1024_i32_178
  v297
def k0_off6 (i : grid0.Coords) : Fin 2 → Nat :=
  let arg0 : BitVec 32 := BitVec.ofNat 32 (i 0).val
  let v314 : Index := Scalar.indexCast arg0
  let c1536_189 : Index := 1536#32
  ![v314.toNat, 1536]
def k0_mult4 (v1 : BitVec 32) : BitVec 32 :=
  let c2048_i32_276 : BitVec 32 := 2048#32
  let v453 : BitVec 32 := Scalar.muli v1 c2048_i32_276
  let c1536_i32_277 : BitVec 32 := 1536#32
  let v454 : BitVec 32 := Scalar.addi v453 c1536_i32_277
  v454
def k0_off7 (i : grid0.Coords) : Fin 2 → Nat :=
  let arg0 : BitVec 32 := BitVec.ofNat 32 (i 0).val
  let v27 : Index := Scalar.indexCast arg0
  let c0_12 : Index := 0#32
  ![v27.toNat, 0]
def k0_mult5 (v1 : BitVec 32) : BitVec 32 :=
  let c2048_i32 : BitVec 32 := 2048#32
  let v157 : BitVec 32 := Scalar.muli v1 c2048_i32
  let c0_i32_94 : BitVec 32 := 0#32
  let v158 : BitVec 32 := Scalar.addi v157 c0_i32_94
  v158
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off8 (v1 : BitVec 32) (c0_i32_94 : BitVec 32) : Fin 2 → Nat :=
  let c2048_i32 : BitVec 32 := 2048#32
  let v157 : BitVec 32 := Scalar.muli v1 c2048_i32
  let v158 : BitVec 32 := Scalar.addi v157 c0_i32_94
  let v159 : BitVec 32 := v158
  let v160 : Index := Scalar.indexCast v159
  let c0_95 : Index := 0#32
  ![v160.toNat, 0]
def k0_off9 (i : grid0.Coords) : Fin 2 → Nat :=
  let arg0 : BitVec 32 := BitVec.ofNat 32 (i 0).val
  let v175 : Index := Scalar.indexCast arg0
  let c512_106 : Index := 512#32
  ![v175.toNat, 512]
def k0_mult6 (v1 : BitVec 32) : BitVec 32 :=
  let c2048_i32_191 : BitVec 32 := 2048#32
  let v305 : BitVec 32 := Scalar.muli v1 c2048_i32_191
  let c512_i32 : BitVec 32 := 512#32
  let v306 : BitVec 32 := Scalar.addi v305 c512_i32
  v306
def k0_off10 (i : grid0.Coords) : Fin 2 → Nat :=
  let arg0 : BitVec 32 := BitVec.ofNat 32 (i 0).val
  let v323 : Index := Scalar.indexCast arg0
  let c1024_203 : Index := 1024#32
  ![v323.toNat, 1024]
def k0_mult7 (v1 : BitVec 32) : BitVec 32 :=
  let c2048_i32_288 : BitVec 32 := 2048#32
  let v453 : BitVec 32 := Scalar.muli v1 c2048_i32_288
  let c1024_i32 : BitVec 32 := 1024#32
  let v454 : BitVec 32 := Scalar.addi v453 c1024_i32
  v454
def k0_off11 (i : grid0.Coords) : Fin 2 → Nat :=
  let arg0 : BitVec 32 := BitVec.ofNat 32 (i 0).val
  let v471 : Index := Scalar.indexCast arg0
  let c1536_300 : Index := 1536#32
  ![v471.toNat, 1536]
def k0_mult8 (v1 : BitVec 32) : BitVec 32 :=
  let c2048_i32_385 : BitVec 32 := 2048#32
  let v601 : BitVec 32 := Scalar.muli v1 c2048_i32_385
  let c1536_i32 : BitVec 32 := 1536#32
  let v602 : BitVec 32 := Scalar.addi v601 c1536_i32
  v602

def k0_chk1 (v1 : BitVec 32) (v3 : BitVec 32) : Prop :=
  (∀ (k0_h2 : k0_cond2 v1 v3 = 1#1), 512 ∣ (k0_mult1 v1).toNat) ∧
  (∀ (k0_h2 : k0_cond2 v1 v3 = 1#1), ∀ (r : Fin 4), ∀ a, (k0_off3 v1 (BitVec.ofNat 32 (512 * r.val))) a + S512x192.size a ≤ S4096x192.size a) ∧
  (∀ (k0_h2 : k0_cond2 v1 v3 = 1#1), 512 ∣ (k0_mult2 v1).toNat) ∧
  (∀ (k0_h2 : k0_cond2 v1 v3 = 1#1), 512 ∣ (k0_mult3 v1).toNat) ∧
  (∀ (k0_h2 : k0_cond2 v1 v3 = 1#1), 512 ∣ (k0_mult4 v1).toNat) ∧
  (∀ (k0_h3 : k0_cond3 v1 v3 = 1#1), 512 ∣ (k0_mult5 v1).toNat) ∧
  (∀ (k0_h3 : k0_cond3 v1 v3 = 1#1), ∀ (r : Fin 4), ∀ a, (k0_off8 v1 (BitVec.ofNat 32 (512 * r.val))) a + S512x192.size a ≤ S4096x192.size a) ∧
  (∀ (k0_h3 : k0_cond3 v1 v3 = 1#1), 512 ∣ (k0_mult6 v1).toNat) ∧
  (∀ (k0_h3 : k0_cond3 v1 v3 = 1#1), 512 ∣ (k0_mult7 v1).toNat) ∧
  (∀ (k0_h3 : k0_cond3 v1 v3 = 1#1), 512 ∣ (k0_mult8 v1).toNat)
theorem k0_mult1_dvd : ∀ (v1 : BitVec 32) (v3 : BitVec 32) (k0_hw1 : k0_chk1 v1 v3), ∀ (k0_h2 : k0_cond2 v1 v3 = 1#1), 512 ∣ (k0_mult1 v1).toNat := fun v1 v3 k0_hw1 k0_h2 => k0_hw1.1 k0_h2
theorem k0_off3_inb : ∀ (v1 : BitVec 32) (v3 : BitVec 32) (k0_hw1 : k0_chk1 v1 v3), ∀ (k0_h2 : k0_cond2 v1 v3 = 1#1), ∀ (r : Fin 4), ∀ a, (k0_off3 v1 (BitVec.ofNat 32 (512 * r.val))) a + S512x192.size a ≤ S4096x192.size a := fun v1 v3 k0_hw1 k0_h2 r => k0_hw1.2.1 k0_h2 r
theorem k0_mult2_dvd : ∀ (v1 : BitVec 32) (v3 : BitVec 32) (k0_hw1 : k0_chk1 v1 v3), ∀ (k0_h2 : k0_cond2 v1 v3 = 1#1), 512 ∣ (k0_mult2 v1).toNat := fun v1 v3 k0_hw1 k0_h2 => k0_hw1.2.2.1 k0_h2
theorem k0_mult3_dvd : ∀ (v1 : BitVec 32) (v3 : BitVec 32) (k0_hw1 : k0_chk1 v1 v3), ∀ (k0_h2 : k0_cond2 v1 v3 = 1#1), 512 ∣ (k0_mult3 v1).toNat := fun v1 v3 k0_hw1 k0_h2 => k0_hw1.2.2.2.1 k0_h2
theorem k0_mult4_dvd : ∀ (v1 : BitVec 32) (v3 : BitVec 32) (k0_hw1 : k0_chk1 v1 v3), ∀ (k0_h2 : k0_cond2 v1 v3 = 1#1), 512 ∣ (k0_mult4 v1).toNat := fun v1 v3 k0_hw1 k0_h2 => k0_hw1.2.2.2.2.1 k0_h2
theorem k0_mult5_dvd : ∀ (v1 : BitVec 32) (v3 : BitVec 32) (k0_hw1 : k0_chk1 v1 v3), ∀ (k0_h3 : k0_cond3 v1 v3 = 1#1), 512 ∣ (k0_mult5 v1).toNat := fun v1 v3 k0_hw1 k0_h3 => k0_hw1.2.2.2.2.2.1 k0_h3
theorem k0_off8_inb : ∀ (v1 : BitVec 32) (v3 : BitVec 32) (k0_hw1 : k0_chk1 v1 v3), ∀ (k0_h3 : k0_cond3 v1 v3 = 1#1), ∀ (r : Fin 4), ∀ a, (k0_off8 v1 (BitVec.ofNat 32 (512 * r.val))) a + S512x192.size a ≤ S4096x192.size a := fun v1 v3 k0_hw1 k0_h3 r => k0_hw1.2.2.2.2.2.2.1 k0_h3 r
theorem k0_mult6_dvd : ∀ (v1 : BitVec 32) (v3 : BitVec 32) (k0_hw1 : k0_chk1 v1 v3), ∀ (k0_h3 : k0_cond3 v1 v3 = 1#1), 512 ∣ (k0_mult6 v1).toNat := fun v1 v3 k0_hw1 k0_h3 => k0_hw1.2.2.2.2.2.2.2.1 k0_h3
theorem k0_mult7_dvd : ∀ (v1 : BitVec 32) (v3 : BitVec 32) (k0_hw1 : k0_chk1 v1 v3), ∀ (k0_h3 : k0_cond3 v1 v3 = 1#1), 512 ∣ (k0_mult7 v1).toNat := fun v1 v3 k0_hw1 k0_h3 => k0_hw1.2.2.2.2.2.2.2.2.1 k0_h3
theorem k0_mult8_dvd : ∀ (v1 : BitVec 32) (v3 : BitVec 32) (k0_hw1 : k0_chk1 v1 v3), ∀ (k0_h3 : k0_cond3 v1 v3 = 1#1), 512 ∣ (k0_mult8 v1).toNat := fun v1 v3 k0_hw1 k0_h3 => k0_hw1.2.2.2.2.2.2.2.2.2 k0_h3

def k0_cond5 (i : grid0.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_4 : BitVec 32 := 0#32
  let v18 : BitVec 1 := Scalar.cmpi .ne v17 c0_i32_4
  v18

def k0_cond4 (v1 : BitVec 32) : BitVec 1 :=
  let c1_i32 : BitVec 32 := 1#32
  let v13 : BitVec 1 := Scalar.cmpi .eq v1 c1_i32
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4096x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S8x4096x192 : Shape := ⟨3, ![8, 4096, 192]⟩
abbrev S8x4096x128 : Shape := ⟨3, ![8, 4096, 128]⟩
abbrev S4096x1024 : Shape := ⟨2, ![4096, 1024]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8x128 : Shape := ⟨3, ![4096, 8, 128]⟩

abbrev nBuf : Space → Nat
  | .hbm => 92
  | .vmem => 0
  | .smem => 0
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S4096x1024, .f32⟩
  | .hbm, ⟨4, _⟩ => ⟨S8x4096x4096, .f32⟩
  | .hbm, ⟨5, _⟩ => ⟨S_, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x128x4096, .f32⟩
  | .hbm, ⟨61, _⟩ => ⟨S4096x8x128, .f32⟩
  | .hbm, ⟨62, _⟩ => ⟨S4096x1024, .f32⟩
  | .hbm, ⟨63, _⟩ => ⟨S4096x8x128, .f32⟩
  | .hbm, ⟨64, _⟩ => ⟨S8x128x4096, .f32⟩
  | .hbm, ⟨65, _⟩ => ⟨S8x4096x4096, .f32⟩
  | .hbm, ⟨66, _⟩ => ⟨S8x128x4096, .f32⟩
  | .hbm, ⟨67, _⟩ => ⟨S8x4096x128, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S8x4096x1, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S8x4096x192, .f32⟩
  | .hbm, ⟨88, _⟩ => ⟨S8x4096x192, .f32⟩
  | .hbm, ⟨89, _⟩ => ⟨S8x4096x192, .bf16⟩
  | .hbm, ⟨90, _⟩ => ⟨S8x4096x192, .bf16⟩
  | .hbm, ⟨91, _⟩ => ⟨S8x4096x128, .bf16⟩
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Dw2.lean ====
abbrev S4096x4096 : Shape := ⟨2, ![4096, 4096]⟩
abbrev S4096x1024 : Shape := ⟨2, ![4096, 1024]⟩
abbrev S8x512x1024 : Shape := ⟨3, ![8, 512, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S8x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dw2ReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S8x512x1024 : Shape := ⟨3, ![8, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S8x512x1024, .f32⟩
  | .hbm, ⟨10, _⟩ => ⟨S8x512x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dw1.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dw1ReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dup.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DupReferenceIdeal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownReferenceIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Up.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .bf16⟩
  | .hbm, ⟨4, _⟩ => ⟨S4096x4096, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpReferenceIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.BitsRuns.lean ====
module

public import proofs.«01_k».proof.Proof.Gen.Kernel.Skeleton
public import proofs.«01_k».proof.Proof.Gen.Kernel.Launch
public import Idealize.ShloMosaic.Lib.Exec
public import Idealize.ShloMosaic.Lib.Affine
public import Idealize.ShloMosaic.Lib.Tactic
public import Idealize.ShloMosaic.Lib.Pipeline.Frame
public import Idealize.ShloMosaic.PureOps.BitExact

/-!
# One grid point of the attention gradient: what the body leaves

The grid is (head, pair of blocks); the three pairs of a head are (0,0), (1,0), (1,1) (query block, key block). So a grid point
is of one of three kinds, told apart by its pair:

* kind A, pair (0,0): the three accumulators are zeroed, the diagonal block is added;
* kind B, pair (1,0): the full block is added, the gradients of keys and values of block 0 are written;
* kind C, pair (1,1): the accumulators of keys and values are zeroed, the diagonal block is added, and the gradients of the
  keys and values of block 1 and of the head's queries are written.

Each run takes the body from the inputs' blocks, on any whole staging buffers, to what it stores.
-/

@[expose] public section

set_option maxRecDepth 16384
set_option Elab.async false

noncomputable section

namespace Cert.AttnKernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-! ## The tables, the accumulators and the words a point reads -/

/-- The table of query blocks and the table of key blocks, whole. -/
abbrev tbM0 : Memref sig .tc .smem S3 .i32 := Memref.whole main_c
abbrev tbM1 : Memref sig .tc .smem S3 .i32 := Memref.whole main_c_0
/-- The accumulators of the gradients of queries, keys and values, whole. -/
abbrev scM0 : Memref sig .tc .vmem S4096x192 .f32 := Memref.whole cc0_scratch0
abbrev scM1 : Memref sig .tc .vmem S2048x192 .f32 := Memref.whole cc0_scratch1
abbrev scM2 : Memref sig .tc .vmem S2048x128 .f32 := Memref.whole cc0_scratch2

/-- The words a point reads off the tables. -/
abbrev w0 (T0 : S3.Idx → Elt Bits .i32) (i : grid0.Coords) : BitVec 32 :=
  View.readAt (Elt Bits) tbM0.view (Rect.unit (s := S3) (k0_off1 i) S1.size (k0_off1_inb i)).toLoadRect T0 (Shape.Idx.first (numel1_S1.symm ▸ Nat.one_pos))
abbrev w1 (T1 : S3.Idx → Elt Bits .i32) (i : grid0.Coords) : BitVec 32 :=
  View.readAt (Elt Bits) tbM1.view (Rect.unit (s := S3) (k0_off1 i) S1.size (k0_off1_inb i)).toLoadRect T1 (Shape.Idx.first (numel1_S1.symm ▸ Nat.one_pos))

/-- The first decision of the body: the point is a head's first. -/
abbrev isFirst (i : grid0.Coords) : BitVec 1 := Scalar.cmpi .ne (Scalar.extui (Scalar.cmpi .eq (BitVec.ofNat 32 (i 1).val) 0#32)) 0#32

/-- The decisions of a point of each kind: first pair, blocks equal, query block after key block, last query block, last pair. -/
abbrev KindA (T0 T1 : S3.Idx → Elt Bits .i32) (i : grid0.Coords) : Prop :=
  k0_chk1 (w0 T0 i) (w1 T1 i) ∧ isFirst i = 1#1 ∧ k0_cond2 (w0 T0 i) (w1 T1 i) = 1#1 ∧ ¬(k0_cond3 (w0 T0 i) (w1 T1 i) = 1#1) ∧ ¬(k0_cond4 (w0 T0 i) = 1#1) ∧ ¬(k0_cond5 i = 1#1)
abbrev KindB (T0 T1 : S3.Idx → Elt Bits .i32) (i : grid0.Coords) : Prop :=
  k0_chk1 (w0 T0 i) (w1 T1 i) ∧ ¬(isFirst i = 1#1) ∧ ¬(k0_cond2 (w0 T0 i) (w1 T1 i) = 1#1) ∧ k0_cond3 (w0 T0 i) (w1 T1 i) = 1#1 ∧ k0_cond4 (w0 T0 i) = 1#1 ∧ ¬(k0_cond5 i = 1#1)
abbrev KindC (T0 T1 : S3.Idx → Elt Bits .i32) (i : grid0.Coords) : Prop :=
  k0_chk1 (w0 T0 i) (w1 T1 i) ∧ ¬(isFirst i = 1#1) ∧ k0_cond2 (w0 T0 i) (w1 T1 i) = 1#1 ∧ ¬(k0_cond3 (w0 T0 i) (w1 T1 i) = 1#1) ∧ k0_cond4 (w0 T0 i) = 1#1 ∧ k0_cond5 i = 1#1

/-! ## The runs -/

variable (c : Dev nD) (i : grid0.Coords) (T0 T1 : S3.Idx → Elt Bits .i32)
  (a4 : Memref sig .tc .vmem S1x2048x192 .bf16) (h4 : a4.IsWhole) (a5 : Memref sig .tc .vmem S1x2048x192 .bf16) (h5 : a5.IsWhole)
  (a6 : Memref sig .tc .vmem S1x2048x128 .bf16) (h6 : a6.IsWhole) (a7 : Memref sig .tc .vmem S2048x128 .f32) (h7 : a7.IsWhole)
  (a8 : Memref sig .tc .vmem S1x1x2048 .f32) (h8 : a8.IsWhole) (a9 : Memref sig .tc .vmem S8x2048 .f32) (h9 : a9.IsWhole)
  (a10 : Memref sig .tc .vmem S1x4096x192 .bf16) (h10 : a10.IsWhole) (a11 : Memref sig .tc .vmem S1x2048x192 .bf16) (h11 : a11.IsWhole)
  (a12 : Memref sig .tc .vmem S1x2048x128 .bf16) (h12 : a12.IsWhole)
  (x0 : S1x2048x192.Idx → Elt Bits .bf16) (x1 : S1x2048x192.Idx → Elt Bits .bf16) (x2 : S1x2048x128.Idx → Elt Bits .bf16)
  (x3 : S2048x128.Idx → Elt Bits .f32) (x4 : S1x1x2048.Idx → Elt Bits .f32) (x5 : S8x2048.Idx → Elt Bits .f32)

/-- The contents of the three accumulators. -/
abbrev Acc0 := S4096x192.Idx → Elt Bits .f32
abbrev Acc1 := S2048x192.Idx → Elt Bits .f32
abbrev Acc2 := S2048x128.Idx → Elt Bits .f32

/-- The inputs and the tables as a run finds and leaves them. -/
abbrev inputs : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3)
    ∗ (a8.view.loc (c : Thread nD τ) ↦[a8.view.set]{fullShare} a8.view.rep x4)
    ∗ (a9.view.loc (c : Thread nD τ) ↦[a9.view.set]{fullShare} a9.view.rep x5)
    ∗ (tbM0.view.loc (c : Thread nD τ) ↦{fullShare.right} (T0 : Buf (Elt Bits) (tbM0.view.loc (c : Thread nD τ))))
    ∗ (tbM1.view.loc (c : Thread nD τ) ↦{fullShare.right} (T1 : Buf (Elt Bits) (tbM1.view.loc (c : Thread nD τ)))))

/-- The three accumulators at given contents. -/
abbrev accs (s0 : Acc0) (s1 : Acc1) (s2 : Acc2) : sProp 𝕄 :=
  iprop((scM0.view.loc (c : Thread nD τ) ↦{fullShare} (s0 : Buf (Elt Bits) (scM0.view.loc (c : Thread nD τ))))
    ∗ (scM1.view.loc (c : Thread nD τ) ↦{fullShare} (s1 : Buf (Elt Bits) (scM1.view.loc (c : Thread nD τ))))
    ∗ (scM2.view.loc (c : Thread nD τ) ↦{fullShare} (s2 : Buf (Elt Bits) (scM2.view.loc (c : Thread nD τ)))))

/-- The body at a point. -/
abbrev bodyOn : Prog (TpuEff nD τ sig (Elt Bits) Λ₀ .tc) PUnit :=
  cc0_dattn i tbM0 (Memref.isWhole_whole _) tbM1 (Memref.isWhole_whole _) a4 h4 a5 h5 a6 h6 a7 h7 a8 h8 a9 h9 a10 h10 a11 h11 a12 h12
    scM0 (Memref.isWhole_whole _) scM1 (Memref.isWhole_whole _) scM2 (Memref.isWhole_whole _)

set_option backward.proofsInPublic true in
set_option maxHeartbeats 8000000 in
/-- A point of kind A: the accumulators end at contents that do not depend on what they held. -/
def runA (e0 : k0_chk1 (View.readAt (Elt Bits) tbM0.view (Rect.unit (s := S3) (k0_off1 i) S1.size (k0_off1_inb i)).toLoadRect T0 (Shape.Idx.first (numel1_S1.symm ▸ Nat.one_pos))) (View.readAt (Elt Bits) tbM1.view (Rect.unit (s := S3) (k0_off1 i) S1.size (k0_off1_inb i)).toLoadRect T1 (Shape.Idx.first (numel1_S1.symm ▸ Nat.one_pos)))) (e1 : (Scalar.cmpi .ne (Scalar.extui (Scalar.cmpi .eq (BitVec.ofNat 32 (i 1).val) 0#32)) 0#32) = 1#1) (e2 : k0_cond2 (View.readAt (Elt Bits) tbM0.view (Rect.unit (s := S3) (k0_off1 i) S1.size (k0_off1_inb i)).toLoadRect T0 (Shape.Idx.first (numel1_S1.symm ▸ Nat.one_pos))) (View.readAt (Elt Bits) tbM1.view (Rect.unit (s := S3) (k0_off1 i) S1.size (k0_off1_inb i)).toLoadRect T1 (Shape.Idx.first (numel1_S1.symm ▸ Nat.one_pos))) = 1#1) (e3 : ¬(k0_cond3 (View.readAt (Elt Bits) tbM0.view (Rect.unit (s := S3) (k0_off1 i) S1.size (k0_off1_inb i)).toLoadRect T0 (Shape.Idx.first (numel1_S1.symm ▸ Nat.one_pos))) (View.readAt (Elt Bits) tbM1.view (Rect.unit (s := S3) (k0_off1 i) S1.size (k0_off1_inb i)).toLoadRect T1 (Shape.Idx.first (numel1_S1.symm ▸ Nat.one_pos))) = 1#1)) (e4 : ¬(k0_cond4 (View.readAt (Elt Bits) tbM0.view (Rect.unit (s := S3) (k0_off1 i) S1.size (k0_off1_inb i)).toLoadRect T0 (Shape.Idx.first (numel1_S1.symm ▸ Nat.one_pos))) = 1#1)) (e5 : ¬(k0_cond5 i = 1#1)) :
    Σ' (o0 : Acc0) (o1 : Acc1), { o2 : Acc2 //
      ∀ (y6 : S1x4096x192.Idx → Elt Bits .bf16) (y7 : S1x2048x192.Idx → Elt Bits .bf16) (y8 : S1x2048x128.Idx → Elt Bits .bf16)
        (s0 : Acc0) (s1 : Acc1) (s2 : Acc2) (K : PUnit → sProp 𝕄),
        iprop(inputs c T0 T1 a4 a5 a6 a7 a8 a9 x0 x1 x2 x3 x4 x5
          ∗ owns (c : Thread nD τ) a10 fullShare y6 ∗ owns (c : Thread nD τ) a11 fullShare y7 ∗ owns (c : Thread nD τ) a12 fullShare y8
          ∗ accs c s0 s1 s2
          ∗ (iprop(inputs c T0 T1 a4 a5 a6 a7 a8 a9 x0 x1 x2 x3 x4 x5
              ∗ owns (c : Thread nD τ) a10 fullShare y6 ∗ owns (c : Thread nD τ) a11 fullShare y7 ∗ owns (c : Thread nD τ) a12 fullShare y8
              ∗ accs c o0 o1 o2) -∗ K ⟨⟩))
          ⊢ wp frame (wpE (defs₀ (F := Bits)) Variants.none c none) Set.univ (bodyOn i a4 h4 a5 h5 a6 h6 a7 h7 a8 h8 a9 h9 a10 h10 a11 h11 a12 h12) K } :=
  ⟨_, _, _, fun y6 y7 y8 s0 s1 s2 K => by
    unfold inputs accs owns bodyOn
    rw [cc0_dattn_eq_skeleton]; unfold cc0_dattn_skel
    iintro ⟨⟨H0, H1, H2, H3, H4, H5, HT0, HT1⟩, ⟨%f6, %hf6, HO6⟩, ⟨%f7, %hf7, HO7⟩, ⟨%f8, %hf8, HO8⟩, ⟨HS0, HS1, HS2⟩, Hk⟩
    obtain rfl := h10.eq_unread hf6; obtain rfl := h11.eq_unread hf7; obtain rfl := h12.eq_unread hf8
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    sl_exec! (disch := first | (guard_target = k0_chk1 _ _; exact e0) | (guard_target = Scalar.cmpi = _; exact e1) | (guard_target = k0_cond2 _ _ = _; exact e2) | (guard_target = ¬(k0_cond3 _ _ = _); exact e3) | (guard_target = ¬(k0_cond4 _ = _); exact e4) | (guard_target = ¬(k0_cond5 _ = _); exact e5))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; isplitr; · ipureintro; exact h10.read_unread _
      iexact HO6
    isplitl [HO7]
    · iexists _; isplitr; · ipureintro; exact h11.read_unread _
      iexact HO7
    isplitl [HO8]
    · iexists _; isplitr; · ipureintro; exact h12.read_unread _
      iexact HO8
    isplitl [HS0]; · iexact HS0
    isplitl [HS1]; · iexact HS1
    iexact HS2⟩

set_option backward.proofsInPublic true in
set_option maxHeartbeats 8000000 in
/-- A point of kind B: the accumulators carried, the gradients of keys and values stored (as pieces of their staging buffers). -/
def runB (s0 : Acc0) (s1 : Acc1) (s2 : Acc2) (e0 : k0_chk1 (View.readAt (Elt Bits) tbM0.view (Rect.unit (s := S3) (k0_off1 i) S1.size (k0_off1_inb i)).toLoadRect T0 (Shape.Idx.first (numel1_S1.symm ▸ Nat.one_pos))) (View.readAt (Elt Bits) tbM1.view (Rect.unit (s := S3) (k0_off1 i) S1.size (k0_off1_inb i)).toLoadRect T1 (Shape.Idx.first (numel1_S1.symm ▸ Nat.one_pos)))) (e1 : ¬((Scalar.cmpi .ne (Scalar.extui (Scalar.cmpi .eq (BitVec.ofNat 32 (i 1).val) 0#32)) 0#32) = 1#1)) (e2 : ¬(k0_cond2 (View.readAt (Elt Bits) tbM0.view (Rect.unit (s := S3) (k0_off1 i) S1.size (k0_off1_inb i)).toLoadRect T0 (Shape.Idx.first (numel1_S1.symm ▸ Nat.one_pos))) (View.readAt (Elt Bits) tbM1.view (Rect.unit (s := S3) (k0_off1 i) S1.size (k0_off1_inb i)).toLoadRect T1 (Shape.Idx.first (numel1_S1.symm ▸ Nat.one_pos))) = 1#1)) (e3 : k0_cond3 (View.readAt (Elt Bits) tbM0.view (Rect.unit (s := S3) (k0_off1 i) S1.size (k0_off1_inb i)).toLoadRect T0 (Shape.Idx.first (numel1_S1.symm ▸ Nat.one_pos))) (View.readAt (Elt Bits) tbM1.view (Rect.unit (s := S3) (k0_off1 i) S1.size (k0_off1_inb i)).toLoadRect T1 (Shape.Idx.first (numel1_S1.symm ▸ Nat.one_pos))) = 1#1) (e4 : k0_cond4 (View.readAt (Elt Bits) tbM0.view (Rect.unit (s := S3) (k0_off1 i) S1.size (k0_off1_inb i)).toLoadRect T0 (Shape.Idx.first (numel1_S1.symm ▸ Nat.one_pos))) = 1#1) (e5 : ¬(k0_cond5 i = 1#1)) :
    Σ' (p7 : List (View.Piece (Elt Bits) S1x2048x192 .bf16)) (p8 : List (View.Piece (Elt Bits) S1x2048x128 .bf16)) (o0 : Acc0) (o1 : Acc1), { o2 : Acc2 //
      ∀ (y6 : S1x4096x192.Idx → Elt Bits .bf16) (K : PUnit → sProp 𝕄),
        iprop(inputs c T0 T1 a4 a5 a6 a7 a8 a9 x0 x1 x2 x3 x4 x5
          ∗ owns (c : Thread nD τ) a10 fullShare y6 ∗ (∃ d, owns (c : Thread nD τ) a11 fullShare d) ∗ (∃ d, owns (c : Thread nD τ) a12 fullShare d)
          ∗ accs c s0 s1 s2
          ∗ (iprop(inputs c T0 T1 a4 a5 a6 a7 a8 a9 x0 x1 x2 x3 x4 x5
              ∗ owns (c : Thread nD τ) a10 fullShare y6
              ∗ (∃ f, a11.view.loc (c : Thread nD τ) ↦[a11.view.set]{fullShare} a11.view.writes (Elt Bits) f p7)
              ∗ (∃ f, a12.view.loc (c : Thread nD τ) ↦[a12.view.set]{fullShare} a12.view.writes (Elt Bits) f p8)
              ∗ accs c o0 o1 o2) -∗ K ⟨⟩))
          ⊢ wp frame (wpE (defs₀ (F := Bits)) Variants.none c none) Set.univ (bodyOn i a4 h4 a5 h5 a6 h6 a7 h7 a8 h8 a9 h9 a10 h10 a11 h11 a12 h12) K } :=
  ⟨_, _, _, _, _, fun y6 K => by
    unfold inputs accs owns bodyOn
    rw [cc0_dattn_eq_skeleton]; unfold cc0_dattn_skel
    iintro ⟨⟨H0, H1, H2, H3, H4, H5, HT0, HT1⟩, ⟨%f6, %hf6, HO6⟩, ⟨%d7, %f7, -, HO7⟩, ⟨%d8, %f8, -, HO8⟩, ⟨HS0, HS1, HS2⟩, Hk⟩
    obtain rfl := h10.eq_unread hf6
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    sl_exec! (disch := first | (guard_target = k0_chk1 _ _; exact e0) | (guard_target = ¬(Scalar.cmpi = _); exact e1) | (guard_target = ¬(k0_cond2 _ _ = _); exact e2) | (guard_target = k0_cond3 _ _ = _; exact e3) | (guard_target = k0_cond4 _ = _; exact e4) | (guard_target = ¬(k0_cond5 _ = _); exact e5))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; isplitr; · ipureintro; exact h10.read_unread _
      iexact HO6
    isplitl [HO7]; · iexists _; iexact HO7
    isplitl [HO8]; · iexists _; iexact HO8
    isplitl [HS0]; · iexact HS0
    isplitl [HS1]; · iexact HS1
    iexact HS2⟩

set_option backward.proofsInPublic true in
set_option maxHeartbeats 8000000 in
/-- A point of kind C: the queries' accumulator carried, the other two started anew, the three gradients stored. -/
def runC (s0 : Acc0) (e0 : k0_chk1 (View.readAt (Elt Bits) tbM0.view (Rect.unit (s := S3) (k0_off1 i) S1.size (k0_off1_inb i)).toLoadRect T0 (Shape.Idx.first (numel1_S1.symm ▸ Nat.one_pos))) (View.readAt (Elt Bits) tbM1.view (Rect.unit (s := S3) (k0_off1 i) S1.size (k0_off1_inb i)).toLoadRect T1 (Shape.Idx.first (numel1_S1.symm ▸ Nat.one_pos)))) (e1 : ¬((Scalar.cmpi .ne (Scalar.extui (Scalar.cmpi .eq (BitVec.ofNat 32 (i 1).val) 0#32)) 0#32) = 1#1)) (e2 : k0_cond2 (View.readAt (Elt Bits) tbM0.view (Rect.unit (s := S3) (k0_off1 i) S1.size (k0_off1_inb i)).toLoadRect T0 (Shape.Idx.first (numel1_S1.symm ▸ Nat.one_pos))) (View.readAt (Elt Bits) tbM1.view (Rect.unit (s := S3) (k0_off1 i) S1.size (k0_off1_inb i)).toLoadRect T1 (Shape.Idx.first (numel1_S1.symm ▸ Nat.one_pos))) = 1#1) (e3 : ¬(k0_cond3 (View.readAt (Elt Bits) tbM0.view (Rect.unit (s := S3) (k0_off1 i) S1.size (k0_off1_inb i)).toLoadRect T0 (Shape.Idx.first (numel1_S1.symm ▸ Nat.one_pos))) (View.readAt (Elt Bits) tbM1.view (Rect.unit (s := S3) (k0_off1 i) S1.size (k0_off1_inb i)).toLoadRect T1 (Shape.Idx.first (numel1_S1.symm ▸ Nat.one_pos))) = 1#1)) (e4 : k0_cond4 (View.readAt (Elt Bits) tbM0.view (Rect.unit (s := S3) (k0_off1 i) S1.size (k0_off1_inb i)).toLoadRect T0 (Shape.Idx.first (numel1_S1.symm ▸ Nat.one_pos))) = 1#1) (e5 : k0_cond5 i = 1#1) :
    Σ' (p6 : List (View.Piece (Elt Bits) S1x4096x192 .bf16)) (p7 : List (View.Piece (Elt Bits) S1x2048x192 .bf16)) (p8 : List (View.Piece (Elt Bits) S1x2048x128 .bf16)) (o0 : Acc0) (o1 : Acc1), { o2 : Acc2 //
      ∀ (s1 : Acc1) (s2 : Acc2) (K : PUnit → sProp 𝕄),
        iprop(inputs c T0 T1 a4 a5 a6 a7 a8 a9 x0 x1 x2 x3 x4 x5
          ∗ (∃ d, owns (c : Thread nD τ) a10 fullShare d) ∗ (∃ d, owns (c : Thread nD τ) a11 fullShare d) ∗ (∃ d, owns (c : Thread nD τ) a12 fullShare d)
          ∗ accs c s0 s1 s2
          ∗ (iprop(inputs c T0 T1 a4 a5 a6 a7 a8 a9 x0 x1 x2 x3 x4 x5
              ∗ (∃ f, a10.view.loc (c : Thread nD τ) ↦[a10.view.set]{fullShare} a10.view.writes (Elt Bits) f p6)
              ∗ (∃ f, a11.view.loc (c : Thread nD τ) ↦[a11.view.set]{fullShare} a11.view.writes (Elt Bits) f p7)
              ∗ (∃ f, a12.view.loc (c : Thread nD τ) ↦[a12.view.set]{fullShare} a12.view.writes (Elt Bits) f p8)
              ∗ accs c o0 o1 o2) -∗ K ⟨⟩))
          ⊢ wp frame (wpE (defs₀ (F := Bits)) Variants.none c none) Set.univ (bodyOn i a4 h4 a5 h5 a6 h6 a7 h7 a8 h8 a9 h9 a10 h10 a11 h11 a12 h12) K } :=
  ⟨_, _, _, _, _, _, fun s1 s2 K => by
    unfold inputs accs owns bodyOn
    rw [cc0_dattn_eq_skeleton]; unfold cc0_dattn_skel
    iintro ⟨⟨H0, H1, H2, H3, H4, H5, HT0, HT1⟩, ⟨%d6, %f6, -, HO6⟩, ⟨%d7, %f7, -, HO7⟩, ⟨%d8, %f8, -, HO8⟩, ⟨HS0, HS1, HS2⟩, Hk⟩
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    sl_exec! (disch := first | (guard_target = k0_chk1 _ _; exact e0) | (guard_target = ¬(Scalar.cmpi = _); exact e1) | (guard_target = k0_cond2 _ _ = _; exact e2) | (guard_target = ¬(k0_cond3 _ _ = _); exact e3) | (guard_target = k0_cond4 _ = _; exact e4) | (guard_target = k0_cond5 _ = _; exact e5))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]; · iexists _; iexact HO6
    isplitl [HO7]; · iexists _; iexact HO7
    isplitl [HO8]; · iexists _; iexact HO8
    isplitl [HS0]; · iexact HS0
    isplitl [HS1]; · iexact HS1
    iexact HS2⟩

end Cert.AttnKernel

end
-- ==== Proof.BitsFrame.lean ====
module

public import proofs.«01_k».proof.Proof.BitsRuns
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-!
# The attention gradient's run, point by point

The two tables are constants of the program, so the pipeline is the one at those tables: its blocks lie in their arrays, the
kind of a point is its place in the head (`t % 3`), and the contents of the accumulators before each point follow from the
runs of one point. The launch then gives the whole program's run: every argument unchanged, every counter at zero, and the
three results at the blocks the points stored.
-/

@[expose] public section

set_option maxRecDepth 16384
set_option Elab.async false

noncomputable section

namespace Cert.AttnKernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The pipeline at the program's tables -/

/-- The tables' contents: the query block and the key block of each of a head's three pairs. -/
def tab0 : S3.Idx → BitVec 32 := fun i => lit0 (S3.rowMajor i)
def tab1 : S3.Idx → BitVec 32 := fun i => lit1 (S3.rowMajor i)

set_option backward.proofsInPublic true in
def tabs : pre0.Contents (Elt Bits) := fun | ⟨0, _⟩ => tab0 | ⟨1, _⟩ => tab1 | ⟨_ + 2, h⟩ => absurd h (by simp)

theorem inb0 : ∀ i : grid0.Coords, ∀ a, (cc0_transform_0 k0_off1_inb numel1_S1 tabs i a + 1) * S1x2048x192.size a ≤ S8x4096x192.size a := by decide +kernel
theorem inb1 : ∀ i : grid0.Coords, ∀ a, (cc0_transform_1 k0_off1_inb numel1_S1 tabs i a + 1) * S1x2048x192.size a ≤ S8x4096x192.size a := by decide +kernel
theorem inb2 : ∀ i : grid0.Coords, ∀ a, (cc0_transform_2 k0_off1_inb numel1_S1 tabs i a + 1) * S1x2048x128.size a ≤ S8x4096x128.size a := by decide +kernel
theorem inb3 : ∀ i : grid0.Coords, ∀ a, (cc0_transform_3 k0_off1_inb numel1_S1 tabs i a + 1) * S2048x128.size a ≤ S4096x1024.size a := by decide +kernel
theorem inb4 : ∀ i : grid0.Coords, ∀ a, (cc0_transform_4 k0_off1_inb numel1_S1 tabs i a + 1) * S1x1x2048.size a ≤ S8x1x4096.size a := by decide +kernel
theorem inb5 : ∀ i : grid0.Coords, ∀ a, (cc0_transform_5 k0_off1_inb numel1_S1 tabs i a + 1) * S8x2048.size a ≤ S8x4096.size a := by decide +kernel
theorem inb7 : ∀ i : grid0.Coords, ∀ a, (cc0_transform_7 k0_off1_inb numel1_S1 tabs i a + 1) * S1x2048x192.size a ≤ S8x4096x192.size a := by decide +kernel
theorem inb8 : ∀ i : grid0.Coords, ∀ a, (cc0_transform_8 k0_off1_inb numel1_S1 tabs i a + 1) * S1x2048x128.size a ≤ S8x4096x128.size a := by decide +kernel

/-- Every block lies in its array and is moved by whole words. -/
theorem ok_tabs : ok0 (F := Bits) tabs :=
  ⟨fun i => ⟨inb0 i, .inr (Affine.block_words_dvd (s := S8x4096x192) (p := EltTy.packing .bf16) (by decide) (by decide))⟩,
   fun i => ⟨inb1 i, .inr (Affine.block_words_dvd (s := S8x4096x192) (p := EltTy.packing .bf16) (by decide) (by decide))⟩,
   fun i => ⟨inb2 i, .inr (Affine.block_words_dvd (s := S8x4096x128) (p := EltTy.packing .bf16) (by decide) (by decide))⟩,
   fun i => ⟨inb3 i, .inl rfl⟩,
   fun i => ⟨inb4 i, .inl rfl⟩,
   fun i => ⟨inb5 i, .inl rfl⟩,
   fun i => ⟨inb7 i, .inr (Affine.block_words_dvd (s := S8x4096x192) (p := EltTy.packing .bf16) (by decide) (by decide))⟩,
   fun i => ⟨inb8 i, .inr (Affine.block_words_dvd (s := S8x4096x128) (p := EltTy.packing .bf16) (by decide) (by decide))⟩⟩

/-- The pipeline at the tables. -/
def adm : (pcfg0 (F := Bits)).Adm := ⟨tabs, ok_tabs⟩
abbrev cfgA : Pipeline.Cfg sig Λ₀ := cfg0 (F := Bits) adm
abbrev pcs : Fin 1 → Pipeline.Cfg sig Λ₀ := Pipeline.pin (pcfgs (F := Bits)) fun _ => adm

variable (m : (ℓ : Loc nD τ sig) → Buf (Elt Bits) ℓ) (ρ : Dev nD → PrngReg)

/-- Point `t`'s coordinates, and each window's staging buffer there. -/
abbrev crd (t : Fin cfgA.N) : cfgA.grid.Coords := cfgA.grid.coords t
abbrev ms0 (t : Fin cfgA.N) : Memref sig .tc .vmem S1x2048x192 .bf16 := spec0_0.stage (cfgA.slots t (0 : Fin 9))
abbrev hs0 (t : Fin cfgA.N) : (ms0 t).IsWhole := hstage0_0 ((cfgA.slots t (0 : Fin 9)).cast nbuf0_0)
abbrev ms1 (t : Fin cfgA.N) : Memref sig .tc .vmem S1x2048x192 .bf16 := spec0_1.stage (cfgA.slots t (1 : Fin 9))
abbrev hs1 (t : Fin cfgA.N) : (ms1 t).IsWhole := hstage0_1 ((cfgA.slots t (1 : Fin 9)).cast nbuf0_1)
abbrev ms2 (t : Fin cfgA.N) : Memref sig .tc .vmem S1x2048x128 .bf16 := spec0_2.stage (cfgA.slots t (2 : Fin 9))
abbrev hs2 (t : Fin cfgA.N) : (ms2 t).IsWhole := hstage0_2 ((cfgA.slots t (2 : Fin 9)).cast nbuf0_2)
abbrev ms3 (t : Fin cfgA.N) : Memref sig .tc .vmem S2048x128 .f32 := spec0_3.stage (cfgA.slots t (3 : Fin 9))
abbrev hs3 (t : Fin cfgA.N) : (ms3 t).IsWhole := hstage0_3 ((cfgA.slots t (3 : Fin 9)).cast nbuf0_3)
abbrev ms4 (t : Fin cfgA.N) : Memref sig .tc .vmem S1x1x2048 .f32 := spec0_4.stage (cfgA.slots t (4 : Fin 9))
abbrev hs4 (t : Fin cfgA.N) : (ms4 t).IsWhole := hstage0_4 ((cfgA.slots t (4 : Fin 9)).cast nbuf0_4)
abbrev ms5 (t : Fin cfgA.N) : Memref sig .tc .vmem S8x2048 .f32 := spec0_5.stage (cfgA.slots t (5 : Fin 9))
abbrev hs5 (t : Fin cfgA.N) : (ms5 t).IsWhole := hstage0_5 ((cfgA.slots t (5 : Fin 9)).cast nbuf0_5)
abbrev ms6 (t : Fin cfgA.N) : Memref sig .tc .vmem S1x4096x192 .bf16 := spec0_6.stage (cfgA.slots t (6 : Fin 9))
abbrev hs6 (t : Fin cfgA.N) : (ms6 t).IsWhole := hstage0_6 ((cfgA.slots t (6 : Fin 9)).cast nbuf0_6)
abbrev ms7 (t : Fin cfgA.N) : Memref sig .tc .vmem S1x2048x192 .bf16 := spec0_7.stage (cfgA.slots t (7 : Fin 9))
abbrev hs7 (t : Fin cfgA.N) : (ms7 t).IsWhole := hstage0_7 ((cfgA.slots t (7 : Fin 9)).cast nbuf0_7)
abbrev ms8 (t : Fin cfgA.N) : Memref sig .tc .vmem S1x2048x128 .bf16 := spec0_8.stage (cfgA.slots t (8 : Fin 9))
abbrev hs8 (t : Fin cfgA.N) : (ms8 t).IsWhole := hstage0_8 ((cfgA.slots t (8 : Fin 9)).cast nbuf0_8)

/-- The contents of a core's buffers where the pipeline starts: after the host's operations. -/
def V (c : Dev nD) (b : Ref sig .tc) : Buf (Elt Bits) ((c : Thread nD τ).loc b) :=
  StableHlo.after [hostOps0, hostOps0_1, hostOps0_2].flatten (fun b => m (c, b)) b

/-- Window `w`'s block at point `t`, read off its array there. -/
def iblk (c : Dev nD) (w : Fin cfgA.W) (t : Fin cfgA.N) : ((cfgA.win w).xblock (crd t)).Idx → Elt Bits (cfgA.win w).elt :=
  ((cfgA.win w).blk t).view.read (Elt Bits) (V m c (Pipeline.arrRef spec0 w))

/-! ## The kind of a point, and the schedule -/

theorem kindA : ∀ t : Fin cfgA.N, t.val % 3 = 0 → KindA tab0 tab1 (crd t) := by decide +kernel
theorem kindB : ∀ t : Fin cfgA.N, t.val % 3 = 1 → KindB tab0 tab1 (crd t) := by decide +kernel
theorem kindC : ∀ t : Fin cfgA.N, t.val % 3 = 2 → KindC tab0 tab1 (crd t) := by decide +kernel

theorem sched6 : ∀ t : Fin cfgA.N, cfgA.idle (6 : Fin 9) (crd t) = !(decide (t.val % 3 = 2)) ∧ (cfgA.win (6 : Fin 9)).flush t = decide (t.val % 3 = 2) := by decide +kernel
theorem sched7 : ∀ t : Fin cfgA.N, cfgA.idle (7 : Fin 9) (crd t) = decide (t.val % 3 = 0) ∧ (cfgA.win (7 : Fin 9)).flush t = !(decide (t.val % 3 = 0)) := by decide +kernel
theorem sched8 : ∀ t : Fin cfgA.N, cfgA.idle (8 : Fin 9) (crd t) = decide (t.val % 3 = 0) ∧ (cfgA.win (8 : Fin 9)).flush t = !(decide (t.val % 3 = 0)) := by decide +kernel

theorem fresh6 (t : Fin cfgA.N) : cfgA.fresh (6 : Fin 9) t.val = true :=
  Pipeline.Cfg.fresh_tab cfgA (6 : Fin 9) (fun _ => true) rfl (fun t => by rw [(sched6 t).1, (sched6 t).2]; cases decide (t.val % 3 = 2) <;> rfl) t.val (Nat.le_of_lt t.isLt)
theorem fresh7 (t : Fin cfgA.N) : cfgA.fresh (7 : Fin 9) t.val = true :=
  Pipeline.Cfg.fresh_tab cfgA (7 : Fin 9) (fun _ => true) rfl (fun t => by rw [(sched7 t).1, (sched7 t).2]; cases decide (t.val % 3 = 0) <;> rfl) t.val (Nat.le_of_lt t.isLt)
theorem fresh8 (t : Fin cfgA.N) : cfgA.fresh (8 : Fin 9) t.val = true :=
  Pipeline.Cfg.fresh_tab cfgA (8 : Fin 9) (fun _ => true) rfl (fun t => by rw [(sched8 t).1, (sched8 t).2]; cases decide (t.val % 3 = 0) <;> rfl) t.val (Nat.le_of_lt t.isLt)

/-! ## The accumulators before each point, and the blocks stored -/

/-- The contents of the three accumulators. -/
abbrev Accs := Acc0 × Acc1 × Acc2

/-- The three runs at a point of the grid. -/
abbrev atA (c : Dev nD) (t : Fin cfgA.N) (h : t.val % 3 = 0) :=
  runA c (crd t) tab0 tab1 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (iblk m c (0 : Fin 9) t) (iblk m c (1 : Fin 9) t) (iblk m c (2 : Fin 9) t) (iblk m c (3 : Fin 9) t) (iblk m c (4 : Fin 9) t) (iblk m c (5 : Fin 9) t)
    (kindA t h).1 (kindA t h).2.1 (kindA t h).2.2.1 (kindA t h).2.2.2.1 (kindA t h).2.2.2.2.1 (kindA t h).2.2.2.2.2
abbrev atB (c : Dev nD) (t : Fin cfgA.N) (h : t.val % 3 = 1) (s : Accs) :=
  runB c (crd t) tab0 tab1 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (iblk m c (0 : Fin 9) t) (iblk m c (1 : Fin 9) t) (iblk m c (2 : Fin 9) t) (iblk m c (3 : Fin 9) t) (iblk m c (4 : Fin 9) t) (iblk m c (5 : Fin 9) t)
    s.1 s.2.1 s.2.2
    (kindB t h).1 (kindB t h).2.1 (kindB t h).2.2.1 (kindB t h).2.2.2.1 (kindB t h).2.2.2.2.1 (kindB t h).2.2.2.2.2
abbrev atC (c : Dev nD) (t : Fin cfgA.N) (h : t.val % 3 = 2) (s : Accs) :=
  runC c (crd t) tab0 tab1 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (iblk m c (0 : Fin 9) t) (iblk m c (1 : Fin 9) t) (iblk m c (2 : Fin 9) t) (iblk m c (3 : Fin 9) t) (iblk m c (4 : Fin 9) t) (iblk m c (5 : Fin 9) t)
    s.1
    (kindC t h).1 (kindC t h).2.1 (kindC t h).2.2.1 (kindC t h).2.2.2.1 (kindC t h).2.2.2.2.1 (kindC t h).2.2.2.2.2

attribute [local irreducible] runA runB runC

/-- The accumulators after a point, from those before. -/
def step (c : Dev nD) (t : Fin cfgA.N) (s : Accs) : Accs :=
  if hA : t.val % 3 = 0 then ((atA m c t hA).1, (atA m c t hA).2.1, (atA m c t hA).2.2.1)
  else if hB : t.val % 3 = 1 then ((atB m c t hB s).2.2.1, (atB m c t hB s).2.2.2.1, (atB m c t hB s).2.2.2.2.1)
  else ((atC m c t (by omega) s).2.2.2.1, (atC m c t (by omega) s).2.2.2.2.1, (atC m c t (by omega) s).2.2.2.2.2.1)

/-- The accumulators before point `n`. -/
def accAt (c : Dev nD) : ℕ → Accs
  | 0 => default
  | n + 1 => if h : n < cfgA.N then step m c ⟨n, h⟩ (accAt c n) else accAt c n

theorem accAt_succ (c : Dev nD) (t : Fin cfgA.N) : accAt m c (t.val + 1) = step m c t (accAt m c t.val) := by
  show (if h : t.val < cfgA.N then step m c ⟨t.val, h⟩ (accAt m c t.val) else accAt m c t.val) = _
  rw [dif_pos t.isLt]

theorem accAt_A (c : Dev nD) (t : Fin cfgA.N) (h : t.val % 3 = 0) :
    accAt m c (t.val + 1) = ((atA m c t h).1, (atA m c t h).2.1, (atA m c t h).2.2.1) :=
  (accAt_succ m c t).trans (dif_pos h)
theorem accAt_B (c : Dev nD) (t : Fin cfgA.N) (h : t.val % 3 = 1) :
    accAt m c (t.val + 1) = ((atB m c t h (accAt m c t.val)).2.2.1, (atB m c t h (accAt m c t.val)).2.2.2.1, (atB m c t h (accAt m c t.val)).2.2.2.2.1) :=
  (accAt_succ m c t).trans <| (dif_neg (show ¬ t.val % 3 = 0 by omega)).trans (dif_pos h)
theorem accAt_C (c : Dev nD) (t : Fin cfgA.N) (h : t.val % 3 = 2) :
    accAt m c (t.val + 1) = ((atC m c t h (accAt m c t.val)).2.2.2.1, (atC m c t h (accAt m c t.val)).2.2.2.2.1, (atC m c t h (accAt m c t.val)).2.2.2.2.2.1) :=
  (accAt_succ m c t).trans <| (dif_neg (show ¬ t.val % 3 = 0 by omega)).trans (dif_neg (show ¬ t.val % 3 = 1 by omega))

/-- A staging buffer of each result, to read the stored pieces through. -/
abbrev V6 : View sig .tc .vmem S1x4096x192 .bf16 := (Memref.whole cc0_stg6_0 : Memref sig .tc .vmem S1x4096x192 .bf16).view
abbrev V7 : View sig .tc .vmem S1x2048x192 .bf16 := (Memref.whole cc0_stg7_0 : Memref sig .tc .vmem S1x2048x192 .bf16).view
abbrev V8 : View sig .tc .vmem S1x2048x128 .bf16 := (Memref.whole cc0_stg8_0 : Memref sig .tc .vmem S1x2048x128 .bf16).view

/-- The blocks a point stores. -/
def out6 (c : Dev nD) (t : Fin cfgA.N) : S1x4096x192.Idx → Elt Bits .bf16 :=
  if h : t.val % 3 = 2 then V6.read (Elt Bits) (V6.writes (Elt Bits) V6.junk (atC m c t h (accAt m c t.val)).1) else default
def out7 (c : Dev nD) (t : Fin cfgA.N) : S1x2048x192.Idx → Elt Bits .bf16 :=
  if h : t.val % 3 = 2 then V7.read (Elt Bits) (V7.writes (Elt Bits) V7.junk (atC m c t h (accAt m c t.val)).2.1)
  else if h : t.val % 3 = 1 then V7.read (Elt Bits) (V7.writes (Elt Bits) V7.junk (atB m c t h (accAt m c t.val)).1) else default
def out8 (c : Dev nD) (t : Fin cfgA.N) : S1x2048x128.Idx → Elt Bits .bf16 :=
  if h : t.val % 3 = 2 then V8.read (Elt Bits) (V8.writes (Elt Bits) V8.junk (atC m c t h (accAt m c t.val)).2.2.1)
  else if h : t.val % 3 = 1 then V8.read (Elt Bits) (V8.writes (Elt Bits) V8.junk (atB m c t h (accAt m c t.val)).2.1) else default

theorem out6_C (c : Dev nD) (t : Fin cfgA.N) (h : t.val % 3 = 2) :
    out6 m c t = V6.read (Elt Bits) (V6.writes (Elt Bits) V6.junk (atC m c t h (accAt m c t.val)).1) := by unfold out6; rw [dif_pos h]
theorem out7_C (c : Dev nD) (t : Fin cfgA.N) (h : t.val % 3 = 2) :
    out7 m c t = V7.read (Elt Bits) (V7.writes (Elt Bits) V7.junk (atC m c t h (accAt m c t.val)).2.1) := by unfold out7; rw [dif_pos h]
theorem out8_C (c : Dev nD) (t : Fin cfgA.N) (h : t.val % 3 = 2) :
    out8 m c t = V8.read (Elt Bits) (V8.writes (Elt Bits) V8.junk (atC m c t h (accAt m c t.val)).2.2.1) := by unfold out8; rw [dif_pos h]
theorem out7_B (c : Dev nD) (t : Fin cfgA.N) (h : t.val % 3 = 1) :
    out7 m c t = V7.read (Elt Bits) (V7.writes (Elt Bits) V7.junk (atB m c t h (accAt m c t.val)).1) := by unfold out7; rw [dif_neg (by omega), dif_pos h]
theorem out8_B (c : Dev nD) (t : Fin cfgA.N) (h : t.val % 3 = 1) :
    out8 m c t = V8.read (Elt Bits) (V8.writes (Elt Bits) V8.junk (atB m c t h (accAt m c t.val)).2.1) := by unfold out8; rw [dif_neg (by omega), dif_pos h]

theorem coverC6 (c : Dev nD) (t : Fin cfgA.N) (h : t.val % 3 = 2) (s : Accs) : ∀ y, ∃ p ∈ (atC m c t h s).1, y ∈ p.1.set :=
  View.cover_of_tiledL (atC m c t h s).1 S1x4096x192.size (by sl_kernel_rfl)
theorem coverC7 (c : Dev nD) (t : Fin cfgA.N) (h : t.val % 3 = 2) (s : Accs) : ∀ y, ∃ p ∈ (atC m c t h s).2.1, y ∈ p.1.set :=
  View.cover_of_tiledL (atC m c t h s).2.1 S1x2048x192.size (by sl_kernel_rfl)
theorem coverC8 (c : Dev nD) (t : Fin cfgA.N) (h : t.val % 3 = 2) (s : Accs) : ∀ y, ∃ p ∈ (atC m c t h s).2.2.1, y ∈ p.1.set :=
  View.cover_of_tiledL (atC m c t h s).2.2.1 S1x2048x128.size (by sl_kernel_rfl)
theorem coverB7 (c : Dev nD) (t : Fin cfgA.N) (h : t.val % 3 = 1) (s : Accs) : ∀ y, ∃ p ∈ (atB m c t h s).1, y ∈ p.1.set :=
  View.cover_of_tiledL (atB m c t h s).1 S1x2048x192.size (by sl_kernel_rfl)
theorem coverB8 (c : Dev nD) (t : Fin cfgA.N) (h : t.val % 3 = 1) (s : Accs) : ∀ y, ∃ p ∈ (atB m c t h s).2.1, y ∈ p.1.set :=
  View.cover_of_tiledL (atB m c t h s).2.1 S1x2048x128.size (by sl_kernel_rfl)

/-! ## The proof data -/

/-- Before point `t`: the accumulators, at the contents the points gave them unless a head begins, and the tables. -/
def Phi (c : Dev nD) (t : Fin (cfgA.N + 1)) : sProp 𝕄 :=
  iprop(∃ s : Accs, ⌜t.val % 3 ≠ 0 → s = accAt m c t.val⌝ ∗ accs c s.1 s.2.1 s.2.2
    ∗ (tbM0.view.loc (c : Thread nD τ) ↦{fullShare.right} (tab0 : Buf (Elt Bits) (tbM0.view.loc (c : Thread nD τ))))
    ∗ (tbM1.view.loc (c : Thread nD τ) ↦{fullShare.right} (tab1 : Buf (Elt Bits) (tbM1.view.loc (c : Thread nD τ))))
    ∗ ∃ r, prngReg c r)

def dats (_ : Fin 1) (c : Dev nD) : Dat τ (Elt Bits) Unit ℕ (UR sig nD τ) ℕ cfgA c where
  A w := V m c (Pipeline.arrRef spec0 w)
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => out6 m c t
    | ⟨7, _⟩ => out7 m c t
    | ⟨8, _⟩ => out8 m c t
  Φ t := Phi m c t
  q _ := fullShare
  owed _ := 0

theorem after_0 (c : Dev nD) (t : Fin cfgA.N) : (dats m 0 c).after (0 : Fin 9) t = iblk m c (0 : Fin 9) t := rfl
theorem after_1 (c : Dev nD) (t : Fin cfgA.N) : (dats m 0 c).after (1 : Fin 9) t = iblk m c (1 : Fin 9) t := rfl
theorem after_2 (c : Dev nD) (t : Fin cfgA.N) : (dats m 0 c).after (2 : Fin 9) t = iblk m c (2 : Fin 9) t := rfl
theorem after_3 (c : Dev nD) (t : Fin cfgA.N) : (dats m 0 c).after (3 : Fin 9) t = iblk m c (3 : Fin 9) t := rfl
theorem after_4 (c : Dev nD) (t : Fin cfgA.N) : (dats m 0 c).after (4 : Fin 9) t = iblk m c (4 : Fin 9) t := rfl
theorem after_5 (c : Dev nD) (t : Fin cfgA.N) : (dats m 0 c).after (5 : Fin 9) t = iblk m c (5 : Fin 9) t := rfl
theorem after_6 (c : Dev nD) (t : Fin cfgA.N) : (dats m 0 c).after (6 : Fin 9) t = out6 m c t := rfl
theorem after_7 (c : Dev nD) (t : Fin cfgA.N) : (dats m 0 c).after (7 : Fin 9) t = out7 m c t := rfl
theorem after_8 (c : Dev nD) (t : Fin cfgA.N) : (dats m 0 c).after (8 : Fin 9) t = out8 m c t := rfl

/-- What the body finds in the staging buffers: an input's block, and anything in a result's buffer. -/
theorem before_0 (c : Dev nD) (t : Fin cfgA.N) (d) : (dats m 0 c).before (0 : Fin 9) t d = iblk m c (0 : Fin 9) t :=
  ((dats m 0 c).before_in_eq_fetched (0 : Fin 9) rfl (fun _ => rfl) (fun _ _ _ => rfl) (fun t => by rw [after_0]; unfold Dat.blockOf iblk; rfl) t d).trans
    (by unfold Dat.fetched Dat.blockOf iblk; rfl)
theorem before_1 (c : Dev nD) (t : Fin cfgA.N) (d) : (dats m 0 c).before (1 : Fin 9) t d = iblk m c (1 : Fin 9) t :=
  ((dats m 0 c).before_in_eq_fetched (1 : Fin 9) rfl (fun _ => rfl) (fun _ _ _ => rfl) (fun t => by rw [after_1]; unfold Dat.blockOf iblk; rfl) t d).trans
    (by unfold Dat.fetched Dat.blockOf iblk; rfl)
theorem before_2 (c : Dev nD) (t : Fin cfgA.N) (d) : (dats m 0 c).before (2 : Fin 9) t d = iblk m c (2 : Fin 9) t :=
  ((dats m 0 c).before_in_eq_fetched (2 : Fin 9) rfl (fun _ => rfl) (fun _ _ _ => rfl) (fun t => by rw [after_2]; unfold Dat.blockOf iblk; rfl) t d).trans
    (by unfold Dat.fetched Dat.blockOf iblk; rfl)
theorem before_3 (c : Dev nD) (t : Fin cfgA.N) (d) : (dats m 0 c).before (3 : Fin 9) t d = iblk m c (3 : Fin 9) t :=
  ((dats m 0 c).before_in_eq_fetched (3 : Fin 9) rfl (fun _ => rfl) (fun _ _ _ => rfl) (fun t => by rw [after_3]; unfold Dat.blockOf iblk; rfl) t d).trans
    (by unfold Dat.fetched Dat.blockOf iblk; rfl)
theorem before_4 (c : Dev nD) (t : Fin cfgA.N) (d) : (dats m 0 c).before (4 : Fin 9) t d = iblk m c (4 : Fin 9) t :=
  ((dats m 0 c).before_in_eq_fetched (4 : Fin 9) rfl (fun _ => rfl) (fun _ _ _ => rfl) (fun t => by rw [after_4]; unfold Dat.blockOf iblk; rfl) t d).trans
    (by unfold Dat.fetched Dat.blockOf iblk; rfl)
theorem before_5 (c : Dev nD) (t : Fin cfgA.N) (d) : (dats m 0 c).before (5 : Fin 9) t d = iblk m c (5 : Fin 9) t :=
  ((dats m 0 c).before_in_eq_fetched (5 : Fin 9) rfl (fun _ => rfl) (fun _ _ _ => rfl) (fun t => by rw [after_5]; unfold Dat.blockOf iblk; rfl) t d).trans
    (by unfold Dat.fetched Dat.blockOf iblk; rfl)
theorem before_6 (c : Dev nD) (t : Fin cfgA.N) (d) : (dats m 0 c).before (6 : Fin 9) t d = d := by
  rw [(dats m 0 c).before_out_traj (6 : Fin 9) rfl (fun _ _ => rfl) (fun t _ _ hf => absurd ((fresh6 t).symm.trans hf) (by decide)) t.val t rfl d]
  exact if_pos (fresh6 t)
theorem before_7 (c : Dev nD) (t : Fin cfgA.N) (d) : (dats m 0 c).before (7 : Fin 9) t d = d := by
  rw [(dats m 0 c).before_out_traj (7 : Fin 9) rfl (fun _ _ => rfl) (fun t _ _ hf => absurd ((fresh7 t).symm.trans hf) (by decide)) t.val t rfl d]
  exact if_pos (fresh7 t)
theorem before_8 (c : Dev nD) (t : Fin cfgA.N) (d) : (dats m 0 c).before (8 : Fin 9) t d = d := by
  rw [(dats m 0 c).before_out_traj (8 : Fin 9) rfl (fun _ _ => rfl) (fun t _ _ hf => absurd ((fresh8 t).symm.trans hf) (by decide)) t.val t rfl d]
  exact if_pos (fresh8 t)

/-! ## The body at every point -/

/-- The inputs' staging buffers, read as blocks or as contents. -/
theorem inputs_iff (c : Dev nD) (t : Fin cfgA.N) :
    iprop(owns (c : Thread nD τ) (ms0 t) fullShare (iblk m c (0 : Fin 9) t) ∗ owns (c : Thread nD τ) (ms1 t) fullShare (iblk m c (1 : Fin 9) t)
      ∗ owns (c : Thread nD τ) (ms2 t) fullShare (iblk m c (2 : Fin 9) t) ∗ owns (c : Thread nD τ) (ms3 t) fullShare (iblk m c (3 : Fin 9) t)
      ∗ owns (c : Thread nD τ) (ms4 t) fullShare (iblk m c (4 : Fin 9) t) ∗ owns (c : Thread nD τ) (ms5 t) fullShare (iblk m c (5 : Fin 9) t)
      ∗ (tbM0.view.loc (c : Thread nD τ) ↦{fullShare.right} (tab0 : Buf (Elt Bits) (tbM0.view.loc (c : Thread nD τ))))
      ∗ (tbM1.view.loc (c : Thread nD τ) ↦{fullShare.right} (tab1 : Buf (Elt Bits) (tbM1.view.loc (c : Thread nD τ)))))
    = (inputs c tab0 tab1 (ms0 t) (ms1 t) (ms2 t) (ms3 t) (ms4 t) (ms5 t) (iblk m c (0 : Fin 9) t) (iblk m c (1 : Fin 9) t) (iblk m c (2 : Fin 9) t)
        (iblk m c (3 : Fin 9) t) (iblk m c (4 : Fin 9) t) (iblk m c (5 : Fin 9) t) : sProp 𝕄) := by
  unfold inputs
  simp only [owns_eq_rep]

/-- The body at point `t` as the pipeline calls it. -/
abbrev bodyAt (t : Fin cfgA.N) : Prog (TpuEff nD τ sig (Elt Bits) Λ₀ .tc) PUnit :=
  bodyOn (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)

set_option maxHeartbeats 4800000 in
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 9) t d))
        ∗ (∃ d, owns (c : Thread nD τ) (ms1 t) fullShare ((dats m 0 c).before (1 : Fin 9) t d))
        ∗ (∃ d, owns (c : Thread nD τ) (ms2 t) fullShare ((dats m 0 c).before (2 : Fin 9) t d))
        ∗ (∃ d, owns (c : Thread nD τ) (ms3 t) fullShare ((dats m 0 c).before (3 : Fin 9) t d))
        ∗ (∃ d, owns (c : Thread nD τ) (ms4 t) fullShare ((dats m 0 c).before (4 : Fin 9) t d))
        ∗ (∃ d, owns (c : Thread nD τ) (ms5 t) fullShare ((dats m 0 c).before (5 : Fin 9) t d))
        ∗ (∃ d, owns (c : Thread nD τ) (ms6 t) fullShare ((dats m 0 c).before (6 : Fin 9) t d))
        ∗ (∃ d, owns (c : Thread nD τ) (ms7 t) fullShare ((dats m 0 c).before (7 : Fin 9) t d))
        ∗ (∃ d, owns (c : Thread nD τ) (ms8 t) fullShare ((dats m 0 c).before (8 : Fin 9) t d)))
      ⊢ wp frame (wpE (defs₀ (F := Bits)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  have s6 := sched6 t; have s7 := sched7 t; have s8 := sched8 t
  rewrite [s6.1, s7.1, s6.2, s7.2, s8.2]
  clear s6 s7 s8
  rewrite [show (dats m 0 c).Φ t.succ = Phi m c t.succ from rfl, show (dats m 0 c).Φ t.castSucc = Phi m c t.castSucc from rfl,
    show (dats m 0 c).owesAt () t.succ = (dats m 0 c).owesAt () t.castSucc from rfl]
  simp only [before_0, before_1, before_2, before_3, before_4, before_5, before_6, before_7, before_8, after_0, after_1, after_2, after_3, after_4, after_5, after_6, after_7, after_8]
  unfold Phi
  simp only [Fin.val_castSucc, Fin.val_succ]
  by_cases hA : t.val % 3 = 0
  · simp only [decide_eq_false (show ¬ t.val % 3 = 2 by omega), decide_eq_true hA, Bool.not_true, Bool.not_false]
    iintro ⟨⟨%s, -, HS, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atA m c t hA).2.2.2 d6 d7 d8 s.1 s.2.1 s.2.2 _)
    isplitl [H0 H1 H2 H3 H4 H5 HT0 HT1]
    · rw [← inputs_iff]
      isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [H6]; · iexact H6
    isplitl [H7]; · iexact H7
    isplitl [H8]; · iexact H8
    isplitl [HS]; · iexact HS
    unfold inputs
    iintro ⟨⟨H0, H1, H2, H3, H4, H5, HT0, HT1⟩, H6, H7, H8, HS⟩
    isplitl [HS HT0 HT1 HR]
    · iexists ((atA m c t hA).1, (atA m c t hA).2.1, (atA m c t hA).2.2.1)
      isplitr; swap
      · isplitl [HS]; · iexact HS
        isplitl [HT0]; · iexact HT0
        isplitl [HT1]; · iexact HT1
        iexact HR
      · ipureintro; intro _; exact (accAt_A m c t hA).symm
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iexists d6; iexact H6
    isplitl [H7]; · iexists d7; iexact H7
    iexists d8; iexact H8
  by_cases hB : t.val % 3 = 1
  · simp only [decide_eq_false (show ¬ t.val % 3 = 2 by omega), decide_eq_false hA, Bool.not_true, Bool.not_false]
    rw [out7_B m c t hB, out8_B m c t hB]
    iintro ⟨⟨%s, %hs, HS, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := hs (by omega)
    iapply ((atB m c t hB (accAt m c t.val)).2.2.2.2.2 d6 _)
    isplitl [H0 H1 H2 H3 H4 H5 HT0 HT1]
    · rw [← inputs_iff]
      isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [H6]; · iexact H6
    isplitl [H7]; · iexists d7; iexact H7
    isplitl [H8]; · iexists d8; iexact H8
    isplitl [HS]; · iexact HS
    unfold inputs
    iintro ⟨⟨H0, H1, H2, H3, H4, H5, HT0, HT1⟩, H6, ⟨%e7, H7⟩, ⟨%e8, H8⟩, HS⟩
    isplitl [HS HT0 HT1 HR]
    · iexists ((atB m c t hB (accAt m c t.val)).2.2.1, (atB m c t hB (accAt m c t.val)).2.2.2.1, (atB m c t hB (accAt m c t.val)).2.2.2.2.1)
      isplitr; swap
      · isplitl [HS]; · iexact HS
        isplitl [HT0]; · iexact HT0
        isplitl [HT1]; · iexact HT1
        iexact HR
      · ipureintro; intro _; exact (accAt_B m c t hB).symm
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iexists d6; iexact H6
    isplitl [H7]
    · unfold owns; iexists _; isplitr; swap
      · iexact H7
      · ipureintro; exact View.read_writes_of_cover _ _ _ _ _ (coverB7 m c t hB _)
    unfold owns; iexists _; isplitr; swap
    · iexact H8
    · ipureintro; exact View.read_writes_of_cover _ _ _ _ _ (coverB8 m c t hB _)
  have hC : t.val % 3 = 2 := by omega
  simp only [decide_eq_true hC, decide_eq_false hA, Bool.not_true, Bool.not_false]
  rw [out6_C m c t hC, out7_C m c t hC, out8_C m c t hC]
  iintro ⟨⟨%s, %hs, HS, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hs (by omega)
  iapply ((atC m c t hC (accAt m c t.val)).2.2.2.2.2.2 (accAt m c t.val).2.1 (accAt m c t.val).2.2 _)
  isplitl [H0 H1 H2 H3 H4 H5 HT0 HT1]
  · rw [← inputs_iff]
    isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [H6]; · iexists d6; iexact H6
  isplitl [H7]; · iexists d7; iexact H7
  isplitl [H8]; · iexists d8; iexact H8
  isplitl [HS]; · iexact HS
  unfold inputs
  iintro ⟨⟨H0, H1, H2, H3, H4, H5, HT0, HT1⟩, ⟨%e6, H6⟩, ⟨%e7, H7⟩, ⟨%e8, H8⟩, HS⟩
  isplitl [HS HT0 HT1 HR]
  · iexists ((atC m c t hC (accAt m c t.val)).2.2.2.1, (atC m c t hC (accAt m c t.val)).2.2.2.2.1, (atC m c t hC (accAt m c t.val)).2.2.2.2.2.1)
    isplitr; swap
    · isplitl [HS]; · iexact HS
      isplitl [HT0]; · iexact HT0
      isplitl [HT1]; · iexact HT1
      iexact HR
    · ipureintro; intro _; exact (accAt_C m c t hC).symm
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · unfold owns; iexists _; isplitr; swap
    · iexact H6
    · ipureintro; exact View.read_writes_of_cover _ _ _ _ _ (coverC6 m c t hC _)
  isplitl [H7]
  · unfold owns; iexists _; isplitr; swap
    · iexact H7
    · ipureintro; exact View.read_writes_of_cover _ _ _ _ _ (coverC7 m c t hC _)
  unfold owns; iexists _; isplitr; swap
  · iexact H8
  · ipureintro; exact View.read_writes_of_cover _ _ _ _ _ (coverC8 m c t hC _)

theorem body_obligation (c : Dev nD) : BodyObligation (dats m 0 c) (defs₀ (F := Bits)) Variants.none () Set.univ := fun t => by
  rw [bigSep_W0]
  exact sound_body m c t

/-! ## The launch -/

theorem share_eq (c : Dev nD) (w : Fin cfgA.W) : (dats m 0 c).share w = fullShare := by unfold Dat.share; split <;> rfl

/-! ### The host's operations before the pipeline -/

/-- What each stretch of host operations writes. -/
def W0 : List (Ref sig .tc) := [main_c, main_c_0, main_v0, main_v1, main_cst, main_v2, main_v3, main_v4, main_v5, main_v6, main_v7, main_v8, main_v9, main_cst_1]
def W1 : List (Ref sig .tc) := [main_call0_v0, main_call0_v1, main_call0_v2, main_v10]
def W2 : List (Ref sig .tc) := [main_cst_2, main_v11, main_v12, main_v13, main_v14, main_v15, main_cst_3, main_v16, main_v17, main_v18, main_v19, main_v20, main_v21,
  main_v22, main_v23, main_v24, main_v25, main_cst_4, main_v26, main_v27, main_v28, main_v29, main_v30, main_v31]

theorem writes0 : (hostOps0 (F := Bits)).Forall fun op => op.writes ⊆ (W0.map (Proc.devRef (τ := τ) .tc)).toFinset :=
  StableHlo.forall_writes_sub_of_map rfl
theorem writes1 : (hostOps0_1 (F := Bits)).Forall fun op => op.writes ⊆ (W1.map (Proc.devRef (τ := τ) .tc)).toFinset :=
  StableHlo.forall_writes_sub_of_map rfl
theorem writes2 : (hostOps0_2 (F := Bits)).Forall fun op => op.writes ⊆ (W2.map (Proc.devRef (τ := τ) .tc)).toFinset :=
  StableHlo.forall_writes_sub_of_map rfl

/-- The contents after the host's operations, one stretch after another. -/
theorem V_split (c : Dev nD) (b : Ref sig .tc) :
    V m c b = StableHlo.after hostOps0_2 (StableHlo.after hostOps0_1 (StableHlo.after hostOps0 fun b => m (c, b))) b := by
  unfold V
  simp only [List.flatten_cons, List.flatten_nil, List.append_nil, StableHlo.after_append]

/-- A buffer that the second and the third stretch leave holds what the first left. -/
theorem V_first (c : Dev nD) (b : Ref sig .tc) (h1 : b ∉ W1) (h2 : b ∉ W2) :
    V m c b = StableHlo.after hostOps0 (fun b => m (c, b)) b := by
  rw [V_split, StableHlo.after_of_writes_sub _ _ writes2 h2, StableHlo.after_of_writes_sub _ _ writes1 h1]

/-- A buffer the host leaves holds what it held at the start. -/
theorem V_kept (c : Dev nD) (b : Ref sig .tc) (h0 : b ∉ W0) (h1 : b ∉ W1) (h2 : b ∉ W2) : V m c b = m ((c : Thread nD τ).loc b) := by
  rw [V_first m c b h1 h2, StableHlo.after_of_writes_sub _ _ writes0 h0]

theorem V_tab0 (c : Dev nD) : V m c main_c = tab0 := by
  rw [V_first m c main_c (by decide) (by decide)]
  after_results
  rfl
theorem V_tab1 (c : Dev nD) : V m c main_c_0 = tab1 := by
  rw [V_first m c main_c_0 (by decide) (by decide)]
  after_results
  rfl

theorem V_pre (c : Dev nD) (k : Fin 2) : V m c (pre0.ref k) = tabs k := by
  fin_cases k
  · exact V_tab0 m c
  · exact V_tab1 m c

/-! ### Into the first point, and out of the last -/

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) : iprop(Pipeline.ΦA spec0 c ∗ Pipeline.ΦT pre0 adm.1 c) ⊢ (dats m 0 c).Φ 0 := by
  unfold Pipeline.ΦA Pipeline.ΦT
  rw [prefHeld_eq, scopedRest0_eq, show (dats m 0 c).Φ 0 = Phi m c 0 from rfl]
  unfold Phi accs
  iintro ⟨⟨⟨⟨%a0, HS0⟩, ⟨%a1, HS1⟩, ⟨%a2, HS2⟩⟩, HR⟩, HT0, HT1⟩
  iexists (a0, a1, a2)
  isplitr; swap
  · isplitl [HS0 HS1 HS2]
    · isplitl [HS0]; · iexact HS0
      isplitl [HS1]; · iexact HS1
      iexact HS2
    isplitl [HT0]; · iexact HT0
    isplitl [HT1]; · iexact HT1
    iexact HR
  · ipureintro; intro h; exact absurd rfl h

theorem phi_out (c : Dev nD) : (dats m 0 c).Φ (Fin.last cfgA.N) ⊢ Pipeline.ΦA spec0 c := by
  unfold Pipeline.ΦA
  rw [scopedRest0_eq, show (dats m 0 c).Φ (Fin.last cfgA.N) = Phi m c (Fin.last _) from rfl]
  unfold Phi accs
  iintro ⟨%s, -, ⟨HS0, HS1, HS2⟩, -, -, HR⟩
  isplitr [HR]
  · isplitl [HS0]; · iexists _; iexact HS0
    isplitl [HS1]; · iexists _; iexact HS1
    iexists _; iexact HS2
  iexact HR

theorem fresh_ops : [hostOps0 (F := Bits), hostOps0_1, hostOps0_2].Forall fun ops => ops.Forall fun op => op.fresh = ∅ := by
  repeat' first | exact trivial | exact rfl | apply And.intro

set_option backward.isDefEq.respectTransparency.types false in
set_option maxHeartbeats 4000000 in
/-- The run: every array of the pipeline at what the points stored, every other buffer as the host left it, every counter zero. -/
theorem run_main : θ_run (defs (F := Bits)) (onTc (τ := τ) (main (F := Bits))) ⟨m, fun _ => 0, ρ⟩
    (fun r => Pipeline.FramePost pcs (dats m) 0 (V m) r ∧ r.2.sem = fun _ => 0) :=
  Pipeline.θ_run_frameP_track (pcfgs (F := Bits)) (fun _ => adm) (dats m) 0 launch0 (defs₀ (F := Bits)) Variants.none m ρ (main (F := Bits))
    (fun c => (body_obligation m c).loose) (share_eq m) (fun _ _ => rfl) (V m)
    (Pipeline.hmainP_prefixes (pcfgs (F := Bits)) 0 (defs₀ (F := Bits)) Variants.none m (main (F := Bits)) [hostOps0, hostOps0_1, hostOps0_2]
      ⟨hostOps0_sub, hostOps0_1_sub, hostOps0_2_sub⟩ fresh_ops main_chain)
    (fun _ _ => rfl) (V_pre m) (phi_in m) (phi_out m)
    (fun r => Pipeline.FramePost pcs (dats m) 0 (V m) r ∧ r.2.sem = fun _ => 0) (fun _ h => h)

/-- Every argument ends as it began. -/
theorem kept_of_post {r : PUnit × MemSt nD τ sig (Elt Bits)} (h : Pipeline.FramePost pcs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine ⟨?_, ?_, ?_, ?_⟩
  · rw [(h c).2 main_arg0 (Pipeline.mem_restRefs_of _ rfl (by decide))]; exact V_kept m c _ (by decide) (by decide) (by decide)
  · rw [(h c).2 main_arg1 (Pipeline.mem_restRefs_of _ rfl (by decide))]; exact V_kept m c _ (by decide) (by decide) (by decide)
  · rw [(h c).2 main_arg2 (Pipeline.mem_restRefs_of _ rfl (by decide))]; exact V_kept m c _ (by decide) (by decide) (by decide)
  · exact ((h c).1 (3 : Fin 9)).trans (((dats m 0 c).arrAt_in (3 : Fin 9) rfl _).trans (V_kept m c main_arg3 (by decide) (by decide) (by decide)))

/-- The frame: the program ends with its arguments unchanged and every counter at zero. -/
theorem frame_main : θ_run (defs (F := Bits)) (onTc (τ := τ) (main (F := Bits))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨kept_of_post m h.1, h.2⟩) (run_main m ρ)

end Cert.AttnKernel

end
-- ==== Proof.IdealRuns.lean ====
module

public import proofs.«01_k».proof.Proof.Gen.KernelIdeal.Skeleton
public import proofs.«01_k».proof.Proof.Gen.KernelIdeal.Launch
public import Idealize.ShloMosaic.Lib.Exec
public import Idealize.ShloMosaic.Lib.Affine
public import Idealize.ShloMosaic.Lib.Tactic
public import Idealize.ShloMosaic.Lib.Pipeline.Frame
public import Idealize.ShloMosaic.PureOps.Ideal

/-!
# One grid point of the attention gradient: what the body leaves

The grid is (head, pair of blocks); the three pairs of a head are (0,0), (1,0), (1,1) (query block, key block). So a grid point
is of one of three kinds, told apart by its pair:

* kind A, pair (0,0): the three accumulators are zeroed, the diagonal block is added;
* kind B, pair (1,0): the full block is added, the gradients of keys and values of block 0 are written;
* kind C, pair (1,1): the accumulators of keys and values are zeroed, the diagonal block is added, and the gradients of the
  keys and values of block 1 and of the head's queries are written.

Each run takes the body from the inputs' blocks, on any whole staging buffers, to what it stores.
-/

@[expose] public section

set_option maxRecDepth 16384
set_option Elab.async false

noncomputable section

namespace Cert.AttnKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! ## The tables, the accumulators and the words a point reads -/

/-- The table of query blocks and the table of key blocks, whole. -/
abbrev tbM0 : Memref sig .tc .smem S3 .i32 := Memref.whole main_c
abbrev tbM1 : Memref sig .tc .smem S3 .i32 := Memref.whole main_c_0
/-- The accumulators of the gradients of queries, keys and values, whole. -/
abbrev scM0 : Memref sig .tc .vmem S4096x192 .f32 := Memref.whole cc0_scratch0
abbrev scM1 : Memref sig .tc .vmem S2048x192 .f32 := Memref.whole cc0_scratch1
abbrev scM2 : Memref sig .tc .vmem S2048x128 .f32 := Memref.whole cc0_scratch2

/-- The words a point reads off the tables. -/
abbrev w0 (T0 : S3.Idx → Elt Ideal .i32) (i : grid0.Coords) : BitVec 32 :=
  View.readAt (Elt Ideal) tbM0.view (Rect.unit (s := S3) (k0_off1 i) S1.size (k0_off1_inb i)).toLoadRect T0 (Shape.Idx.first (numel1_S1.symm ▸ Nat.one_pos))
abbrev w1 (T1 : S3.Idx → Elt Ideal .i32) (i : grid0.Coords) : BitVec 32 :=
  View.readAt (Elt Ideal) tbM1.view (Rect.unit (s := S3) (k0_off1 i) S1.size (k0_off1_inb i)).toLoadRect T1 (Shape.Idx.first (numel1_S1.symm ▸ Nat.one_pos))

/-- The first decision of the body: the point is a head's first. -/
abbrev isFirst (i : grid0.Coords) : BitVec 1 := Scalar.cmpi .ne (Scalar.extui (Scalar.cmpi .eq (BitVec.ofNat 32 (i 1).val) 0#32)) 0#32

/-- The decisions of a point of each kind: first pair, blocks equal, query block after key block, last query block, last pair. -/
abbrev KindA (T0 T1 : S3.Idx → Elt Ideal .i32) (i : grid0.Coords) : Prop :=
  k0_chk1 (w0 T0 i) (w1 T1 i) ∧ isFirst i = 1#1 ∧ k0_cond2 (w0 T0 i) (w1 T1 i) = 1#1 ∧ ¬(k0_cond3 (w0 T0 i) (w1 T1 i) = 1#1) ∧ ¬(k0_cond4 (w0 T0 i) = 1#1) ∧ ¬(k0_cond5 i = 1#1)
abbrev KindB (T0 T1 : S3.Idx → Elt Ideal .i32) (i : grid0.Coords) : Prop :=
  k0_chk1 (w0 T0 i) (w1 T1 i) ∧ ¬(isFirst i = 1#1) ∧ ¬(k0_cond2 (w0 T0 i) (w1 T1 i) = 1#1) ∧ k0_cond3 (w0 T0 i) (w1 T1 i) = 1#1 ∧ k0_cond4 (w0 T0 i) = 1#1 ∧ ¬(k0_cond5 i = 1#1)
abbrev KindC (T0 T1 : S3.Idx → Elt Ideal .i32) (i : grid0.Coords) : Prop :=
  k0_chk1 (w0 T0 i) (w1 T1 i) ∧ ¬(isFirst i = 1#1) ∧ k0_cond2 (w0 T0 i) (w1 T1 i) = 1#1 ∧ ¬(k0_cond3 (w0 T0 i) (w1 T1 i) = 1#1) ∧ k0_cond4 (w0 T0 i) = 1#1 ∧ k0_cond5 i = 1#1

/-! ## The runs -/

variable (c : Dev nD) (i : grid0.Coords) (T0 T1 : S3.Idx → Elt Ideal .i32)
  (a4 : Memref sig .tc .vmem S1x2048x192 .bf16) (h4 : a4.IsWhole) (a5 : Memref sig .tc .vmem S1x2048x192 .bf16) (h5 : a5.IsWhole)
  (a6 : Memref sig .tc .vmem S1x2048x128 .bf16) (h6 : a6.IsWhole) (a7 : Memref sig .tc .vmem S2048x128 .f32) (h7 : a7.IsWhole)
  (a8 : Memref sig .tc .vmem S1x1x2048 .f32) (h8 : a8.IsWhole) (a9 : Memref sig .tc .vmem S8x2048 .f32) (h9 : a9.IsWhole)
  (a10 : Memref sig .tc .vmem S1x4096x192 .bf16) (h10 : a10.IsWhole) (a11 : Memref sig .tc .vmem S1x2048x192 .bf16) (h11 : a11.IsWhole)
  (a12 : Memref sig .tc .vmem S1x2048x128 .bf16) (h12 : a12.IsWhole)
  (x0 : S1x2048x192.Idx → Elt Ideal .bf16) (x1 : S1x2048x192.Idx → Elt Ideal .bf16) (x2 : S1x2048x128.Idx → Elt Ideal .bf16)
  (x3 : S2048x128.Idx → Elt Ideal .f32) (x4 : S1x1x2048.Idx → Elt Ideal .f32) (x5 : S8x2048.Idx → Elt Ideal .f32)

/-- The contents of the three accumulators. -/
abbrev Acc0 := S4096x192.Idx → Elt Ideal .f32
abbrev Acc1 := S2048x192.Idx → Elt Ideal .f32
abbrev Acc2 := S2048x128.Idx → Elt Ideal .f32

/-- The inputs and the tables as a run finds and leaves them. -/
abbrev inputs : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3)
    ∗ (a8.view.loc (c : Thread nD τ) ↦[a8.view.set]{fullShare} a8.view.rep x4)
    ∗ (a9.view.loc (c : Thread nD τ) ↦[a9.view.set]{fullShare} a9.view.rep x5)
    ∗ (tbM0.view.loc (c : Thread nD τ) ↦{fullShare.right} (T0 : Buf (Elt Ideal) (tbM0.view.loc (c : Thread nD τ))))
    ∗ (tbM1.view.loc (c : Thread nD τ) ↦{fullShare.right} (T1 : Buf (Elt Ideal) (tbM1.view.loc (c : Thread nD τ)))))

/-- The three accumulators at given contents. -/
abbrev accs (s0 : Acc0) (s1 : Acc1) (s2 : Acc2) : sProp 𝕄 :=
  iprop((scM0.view.loc (c : Thread nD τ) ↦{fullShare} (s0 : Buf (Elt Ideal) (scM0.view.loc (c : Thread nD τ))))
    ∗ (scM1.view.loc (c : Thread nD τ) ↦{fullShare} (s1 : Buf (Elt Ideal) (scM1.view.loc (c : Thread nD τ))))
    ∗ (scM2.view.loc (c : Thread nD τ) ↦{fullShare} (s2 : Buf (Elt Ideal) (scM2.view.loc (c : Thread nD τ)))))

/-- The body at a point. -/
abbrev bodyOn : Prog (TpuEff nD τ sig (Elt Ideal) Λ₀ .tc) PUnit :=
  cc0_dattn i tbM0 (Memref.isWhole_whole _) tbM1 (Memref.isWhole_whole _) a4 h4 a5 h5 a6 h6 a7 h7 a8 h8 a9 h9 a10 h10 a11 h11 a12 h12
    scM0 (Memref.isWhole_whole _) scM1 (Memref.isWhole_whole _) scM2 (Memref.isWhole_whole _)

set_option backward.proofsInPublic true in
set_option maxHeartbeats 8000000 in
/-- A point of kind A: the accumulators end at contents that do not depend on what they held. -/
def runA (e0 : k0_chk1 (View.readAt (Elt Ideal) tbM0.view (Rect.unit (s := S3) (k0_off1 i) S1.size (k0_off1_inb i)).toLoadRect T0 (Shape.Idx.first (numel1_S1.symm ▸ Nat.one_pos))) (View.readAt (Elt Ideal) tbM1.view (Rect.unit (s := S3) (k0_off1 i) S1.size (k0_off1_inb i)).toLoadRect T1 (Shape.Idx.first (numel1_S1.symm ▸ Nat.one_pos)))) (e1 : (Scalar.cmpi .ne (Scalar.extui (Scalar.cmpi .eq (BitVec.ofNat 32 (i 1).val) 0#32)) 0#32) = 1#1) (e2 : k0_cond2 (View.readAt (Elt Ideal) tbM0.view (Rect.unit (s := S3) (k0_off1 i) S1.size (k0_off1_inb i)).toLoadRect T0 (Shape.Idx.first (numel1_S1.symm ▸ Nat.one_pos))) (View.readAt (Elt Ideal) tbM1.view (Rect.unit (s := S3) (k0_off1 i) S1.size (k0_off1_inb i)).toLoadRect T1 (Shape.Idx.first (numel1_S1.symm ▸ Nat.one_pos))) = 1#1) (e3 : ¬(k0_cond3 (View.readAt (Elt Ideal) tbM0.view (Rect.unit (s := S3) (k0_off1 i) S1.size (k0_off1_inb i)).toLoadRect T0 (Shape.Idx.first (numel1_S1.symm ▸ Nat.one_pos))) (View.readAt (Elt Ideal) tbM1.view (Rect.unit (s := S3) (k0_off1 i) S1.size (k0_off1_inb i)).toLoadRect T1 (Shape.Idx.first (numel1_S1.symm ▸ Nat.one_pos))) = 1#1)) (e4 : ¬(k0_cond4 (View.readAt (Elt Ideal) tbM0.view (Rect.unit (s := S3) (k0_off1 i) S1.size (k0_off1_inb i)).toLoadRect T0 (Shape.Idx.first (numel1_S1.symm ▸ Nat.one_pos))) = 1#1)) (e5 : ¬(k0_cond5 i = 1#1)) :
    Σ' (o0 : Acc0) (o1 : Acc1), { o2 : Acc2 //
      ∀ (y6 : S1x4096x192.Idx → Elt Ideal .bf16) (y7 : S1x2048x192.Idx → Elt Ideal .bf16) (y8 : S1x2048x128.Idx → Elt Ideal .bf16)
        (s0 : Acc0) (s1 : Acc1) (s2 : Acc2) (K : PUnit → sProp 𝕄),
        iprop(inputs c T0 T1 a4 a5 a6 a7 a8 a9 x0 x1 x2 x3 x4 x5
          ∗ owns (c : Thread nD τ) a10 fullShare y6 ∗ owns (c : Thread nD τ) a11 fullShare y7 ∗ owns (c : Thread nD τ) a12 fullShare y8
          ∗ accs c s0 s1 s2
          ∗ (iprop(inputs c T0 T1 a4 a5 a6 a7 a8 a9 x0 x1 x2 x3 x4 x5
              ∗ owns (c : Thread nD τ) a10 fullShare y6 ∗ owns (c : Thread nD τ) a11 fullShare y7 ∗ owns (c : Thread nD τ) a12 fullShare y8
              ∗ accs c o0 o1 o2) -∗ K ⟨⟩))
          ⊢ wp frame (wpE (defs₀ (F := Ideal)) Variants.none c none) Set.univ (bodyOn i a4 h4 a5 h5 a6 h6 a7 h7 a8 h8 a9 h9 a10 h10 a11 h11 a12 h12) K } :=
  ⟨_, _, _, fun y6 y7 y8 s0 s1 s2 K => by
    unfold inputs accs owns bodyOn
    rw [cc0_dattn_eq_skeleton]; unfold cc0_dattn_skel
    iintro ⟨⟨H0, H1, H2, H3, H4, H5, HT0, HT1⟩, ⟨%f6, %hf6, HO6⟩, ⟨%f7, %hf7, HO7⟩, ⟨%f8, %hf8, HO8⟩, ⟨HS0, HS1, HS2⟩, Hk⟩
    obtain rfl := h10.eq_unread hf6; obtain rfl := h11.eq_unread hf7; obtain rfl := h12.eq_unread hf8
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    sl_exec! (disch := first | (guard_target = k0_chk1 _ _; exact e0) | (guard_target = Scalar.cmpi = _; exact e1) | (guard_target = k0_cond2 _ _ = _; exact e2) | (guard_target = ¬(k0_cond3 _ _ = _); exact e3) | (guard_target = ¬(k0_cond4 _ = _); exact e4) | (guard_target = ¬(k0_cond5 _ = _); exact e5))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; isplitr; · ipureintro; exact h10.read_unread _
      iexact HO6
    isplitl [HO7]
    · iexists _; isplitr; · ipureintro; exact h11.read_unread _
      iexact HO7
    isplitl [HO8]
    · iexists _; isplitr; · ipureintro; exact h12.read_unread _
      iexact HO8
    isplitl [HS0]; · iexact HS0
    isplitl [HS1]; · iexact HS1
    iexact HS2⟩

set_option backward.proofsInPublic true in
set_option maxHeartbeats 8000000 in
/-- A point of kind B: the accumulators carried, the gradients of keys and values stored (as pieces of their staging buffers). -/
def runB (s0 : Acc0) (s1 : Acc1) (s2 : Acc2) (e0 : k0_chk1 (View.readAt (Elt Ideal) tbM0.view (Rect.unit (s := S3) (k0_off1 i) S1.size (k0_off1_inb i)).toLoadRect T0 (Shape.Idx.first (numel1_S1.symm ▸ Nat.one_pos))) (View.readAt (Elt Ideal) tbM1.view (Rect.unit (s := S3) (k0_off1 i) S1.size (k0_off1_inb i)).toLoadRect T1 (Shape.Idx.first (numel1_S1.symm ▸ Nat.one_pos)))) (e1 : ¬((Scalar.cmpi .ne (Scalar.extui (Scalar.cmpi .eq (BitVec.ofNat 32 (i 1).val) 0#32)) 0#32) = 1#1)) (e2 : ¬(k0_cond2 (View.readAt (Elt Ideal) tbM0.view (Rect.unit (s := S3) (k0_off1 i) S1.size (k0_off1_inb i)).toLoadRect T0 (Shape.Idx.first (numel1_S1.symm ▸ Nat.one_pos))) (View.readAt (Elt Ideal) tbM1.view (Rect.unit (s := S3) (k0_off1 i) S1.size (k0_off1_inb i)).toLoadRect T1 (Shape.Idx.first (numel1_S1.symm ▸ Nat.one_pos))) = 1#1)) (e3 : k0_cond3 (View.readAt (Elt Ideal) tbM0.view (Rect.unit (s := S3) (k0_off1 i) S1.size (k0_off1_inb i)).toLoadRect T0 (Shape.Idx.first (numel1_S1.symm ▸ Nat.one_pos))) (View.readAt (Elt Ideal) tbM1.view (Rect.unit (s := S3) (k0_off1 i) S1.size (k0_off1_inb i)).toLoadRect T1 (Shape.Idx.first (numel1_S1.symm ▸ Nat.one_pos))) = 1#1) (e4 : k0_cond4 (View.readAt (Elt Ideal) tbM0.view (Rect.unit (s := S3) (k0_off1 i) S1.size (k0_off1_inb i)).toLoadRect T0 (Shape.Idx.first (numel1_S1.symm ▸ Nat.one_pos))) = 1#1) (e5 : ¬(k0_cond5 i = 1#1)) :
    Σ' (p7 : List (View.Piece (Elt Ideal) S1x2048x192 .bf16)) (p8 : List (View.Piece (Elt Ideal) S1x2048x128 .bf16)) (o0 : Acc0) (o1 : Acc1), { o2 : Acc2 //
      ∀ (y6 : S1x4096x192.Idx → Elt Ideal .bf16) (K : PUnit → sProp 𝕄),
        iprop(inputs c T0 T1 a4 a5 a6 a7 a8 a9 x0 x1 x2 x3 x4 x5
          ∗ owns (c : Thread nD τ) a10 fullShare y6 ∗ (∃ d, owns (c : Thread nD τ) a11 fullShare d) ∗ (∃ d, owns (c : Thread nD τ) a12 fullShare d)
          ∗ accs c s0 s1 s2
          ∗ (iprop(inputs c T0 T1 a4 a5 a6 a7 a8 a9 x0 x1 x2 x3 x4 x5
              ∗ owns (c : Thread nD τ) a10 fullShare y6
              ∗ (∃ f, a11.view.loc (c : Thread nD τ) ↦[a11.view.set]{fullShare} a11.view.writes (Elt Ideal) f p7)
              ∗ (∃ f, a12.view.loc (c : Thread nD τ) ↦[a12.view.set]{fullShare} a12.view.writes (Elt Ideal) f p8)
              ∗ accs c o0 o1 o2) -∗ K ⟨⟩))
          ⊢ wp frame (wpE (defs₀ (F := Ideal)) Variants.none c none) Set.univ (bodyOn i a4 h4 a5 h5 a6 h6 a7 h7 a8 h8 a9 h9 a10 h10 a11 h11 a12 h12) K } :=
  ⟨_, _, _, _, _, fun y6 K => by
    unfold inputs accs owns bodyOn
    rw [cc0_dattn_eq_skeleton]; unfold cc0_dattn_skel
    iintro ⟨⟨H0, H1, H2, H3, H4, H5, HT0, HT1⟩, ⟨%f6, %hf6, HO6⟩, ⟨%d7, %f7, -, HO7⟩, ⟨%d8, %f8, -, HO8⟩, ⟨HS0, HS1, HS2⟩, Hk⟩
    obtain rfl := h10.eq_unread hf6
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    sl_exec! (disch := first | (guard_target = k0_chk1 _ _; exact e0) | (guard_target = ¬(Scalar.cmpi = _); exact e1) | (guard_target = ¬(k0_cond2 _ _ = _); exact e2) | (guard_target = k0_cond3 _ _ = _; exact e3) | (guard_target = k0_cond4 _ = _; exact e4) | (guard_target = ¬(k0_cond5 _ = _); exact e5))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; isplitr; · ipureintro; exact h10.read_unread _
      iexact HO6
    isplitl [HO7]; · iexists _; iexact HO7
    isplitl [HO8]; · iexists _; iexact HO8
    isplitl [HS0]; · iexact HS0
    isplitl [HS1]; · iexact HS1
    iexact HS2⟩

set_option backward.proofsInPublic true in
set_option maxHeartbeats 8000000 in
/-- A point of kind C: the queries' accumulator carried, the other two started anew, the three gradients stored. -/
def runC (s0 : Acc0) (e0 : k0_chk1 (View.readAt (Elt Ideal) tbM0.view (Rect.unit (s := S3) (k0_off1 i) S1.size (k0_off1_inb i)).toLoadRect T0 (Shape.Idx.first (numel1_S1.symm ▸ Nat.one_pos))) (View.readAt (Elt Ideal) tbM1.view (Rect.unit (s := S3) (k0_off1 i) S1.size (k0_off1_inb i)).toLoadRect T1 (Shape.Idx.first (numel1_S1.symm ▸ Nat.one_pos)))) (e1 : ¬((Scalar.cmpi .ne (Scalar.extui (Scalar.cmpi .eq (BitVec.ofNat 32 (i 1).val) 0#32)) 0#32) = 1#1)) (e2 : k0_cond2 (View.readAt (Elt Ideal) tbM0.view (Rect.unit (s := S3) (k0_off1 i) S1.size (k0_off1_inb i)).toLoadRect T0 (Shape.Idx.first (numel1_S1.symm ▸ Nat.one_pos))) (View.readAt (Elt Ideal) tbM1.view (Rect.unit (s := S3) (k0_off1 i) S1.size (k0_off1_inb i)).toLoadRect T1 (Shape.Idx.first (numel1_S1.symm ▸ Nat.one_pos))) = 1#1) (e3 : ¬(k0_cond3 (View.readAt (Elt Ideal) tbM0.view (Rect.unit (s := S3) (k0_off1 i) S1.size (k0_off1_inb i)).toLoadRect T0 (Shape.Idx.first (numel1_S1.symm ▸ Nat.one_pos))) (View.readAt (Elt Ideal) tbM1.view (Rect.unit (s := S3) (k0_off1 i) S1.size (k0_off1_inb i)).toLoadRect T1 (Shape.Idx.first (numel1_S1.symm ▸ Nat.one_pos))) = 1#1)) (e4 : k0_cond4 (View.readAt (Elt Ideal) tbM0.view (Rect.unit (s := S3) (k0_off1 i) S1.size (k0_off1_inb i)).toLoadRect T0 (Shape.Idx.first (numel1_S1.symm ▸ Nat.one_pos))) = 1#1) (e5 : k0_cond5 i = 1#1) :
    Σ' (p6 : List (View.Piece (Elt Ideal) S1x4096x192 .bf16)) (p7 : List (View.Piece (Elt Ideal) S1x2048x192 .bf16)) (p8 : List (View.Piece (Elt Ideal) S1x2048x128 .bf16)) (o0 : Acc0) (o1 : Acc1), { o2 : Acc2 //
      ∀ (s1 : Acc1) (s2 : Acc2) (K : PUnit → sProp 𝕄),
        iprop(inputs c T0 T1 a4 a5 a6 a7 a8 a9 x0 x1 x2 x3 x4 x5
          ∗ (∃ d, owns (c : Thread nD τ) a10 fullShare d) ∗ (∃ d, owns (c : Thread nD τ) a11 fullShare d) ∗ (∃ d, owns (c : Thread nD τ) a12 fullShare d)
          ∗ accs c s0 s1 s2
          ∗ (iprop(inputs c T0 T1 a4 a5 a6 a7 a8 a9 x0 x1 x2 x3 x4 x5
              ∗ (∃ f, a10.view.loc (c : Thread nD τ) ↦[a10.view.set]{fullShare} a10.view.writes (Elt Ideal) f p6)
              ∗ (∃ f, a11.view.loc (c : Thread nD τ) ↦[a11.view.set]{fullShare} a11.view.writes (Elt Ideal) f p7)
              ∗ (∃ f, a12.view.loc (c : Thread nD τ) ↦[a12.view.set]{fullShare} a12.view.writes (Elt Ideal) f p8)
              ∗ accs c o0 o1 o2) -∗ K ⟨⟩))
          ⊢ wp frame (wpE (defs₀ (F := Ideal)) Variants.none c none) Set.univ (bodyOn i a4 h4 a5 h5 a6 h6 a7 h7 a8 h8 a9 h9 a10 h10 a11 h11 a12 h12) K } :=
  ⟨_, _, _, _, _, _, fun s1 s2 K => by
    unfold inputs accs owns bodyOn
    rw [cc0_dattn_eq_skeleton]; unfold cc0_dattn_skel
    iintro ⟨⟨H0, H1, H2, H3, H4, H5, HT0, HT1⟩, ⟨%d6, %f6, -, HO6⟩, ⟨%d7, %f7, -, HO7⟩, ⟨%d8, %f8, -, HO8⟩, ⟨HS0, HS1, HS2⟩, Hk⟩
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    sl_exec! (disch := first | (guard_target = k0_chk1 _ _; exact e0) | (guard_target = ¬(Scalar.cmpi = _); exact e1) | (guard_target = k0_cond2 _ _ = _; exact e2) | (guard_target = ¬(k0_cond3 _ _ = _); exact e3) | (guard_target = k0_cond4 _ = _; exact e4) | (guard_target = k0_cond5 _ = _; exact e5))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]; · iexists _; iexact HO6
    isplitl [HO7]; · iexists _; iexact HO7
    isplitl [HO8]; · iexists _; iexact HO8
    isplitl [HS0]; · iexact HS0
    isplitl [HS1]; · iexact HS1
    iexact HS2⟩

end Cert.AttnKernelIdeal

end
-- ==== Proof.IdealTile.lean ====
module

public import proofs.«01_k».proof.Proof.IdealRuns
import all proofs.«01_k».proof.Proof.IdealRuns
public import Idealize.ShloMosaic.Lib.VecWindow
public import Idealize.ShloMosaic.Lib.WritesUnit
public import Idealize.ShloMosaic.Lib.Pointwise

/-!
# The tiles of a block, and what adding one to an accumulator does

A block of 2048 queries by 2048 keys is cut into tiles of 512 by 512. A tile gives its probabilities (keys by queries, masked
on the diagonal), the gradient of its scores, and from them a part of each of the three gradients. An accumulator's rows
`[o, o + 512)` are read, the part is added, and the rows are written back.
-/

@[expose] public section

set_option maxRecDepth 16384
set_option Elab.async false

noncomputable section

namespace Cert.AttnKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The parts of a tile -/

/-- The probabilities of a tile, keys by queries. -/
abbrev pF (qv : Vec Ideal S1x512x192 .bf16) (lv : Vec Ideal S1x1x512 .f32) (kv : Vec Ideal S1x512x192 .bf16) : FVec Ideal S512x512 .f32 :=
  k0_pay15 qv lv kv

/-- The same with the keys after the query dropped; the tile lies on the diagonal, at `o` along both axes. -/
def pM (o : BitVec 32) (p : FVec Ideal S512x512 .f32) : FVec Ideal S512x512 .f32 :=
  select (cmpi .sge (addi (broadcast S512x512 o) (iota .tc S512x512 32 [1] iota_S512x512_d1_w32))
    (addi (broadcast S512x512 o) (iota .tc S512x512 32 [0] iota_S512x512_d0_w32))) p (broadcast S512x512 (Scalar.ofBits .f32 0x00000000#32 : Ideal .f32))

/-- The gradient of a tile's scores, keys by queries. -/
def dsP (p : FVec Ideal S512x512 .f32) (vv : Vec Ideal S1x512x128 .bf16) (dov : Vec Ideal S512x128 .f32) (dlv : Vec Ideal S1x512 .f32) : FVec Ideal S512x512 .bf16 :=
  truncf .bf16 (mulf (mulf p (subf (matmul (φ₁ := .bf16) dot_S512x128_S512x128_S512x512_1_1_0_0_n_n none
    (shapeCast S512x128 vv shapeCasts_S1x512x128_S512x128) (truncf (F := Ideal) (φ := .f32) .bf16 dov bitsLt_bf16_f32) (constant S512x512 .f32 0x00000000#32))
    (broadcastTo S512x512 (shapeCast (α := Ideal .f32) S1x512 dlv shapeCasts_S1x512_S1x512) broadcasts_S1x512_S512x512)))
    (broadcast S512x512 (Named.named κ "scale" 0x3D93CD3A#32 : Ideal .f32))) bitsLt_bf16_f32

/-- A tile's part of the gradient of its values, -/
def dvP (p : FVec Ideal S512x512 .f32) (dov : Vec Ideal S512x128 .f32) : FVec Ideal S512x128 .f32 :=
  matmul dot_S512x512_S512x128_S512x128_1_0_0_1_n_n none (truncf .bf16 p bitsLt_bf16_f32) (truncf (F := Ideal) (φ := .f32) .bf16 dov bitsLt_bf16_f32) (constant S512x128 .f32 0x00000000#32)

/-- of its keys, -/
def dkP (ds : FVec Ideal S512x512 .bf16) (qv : Vec Ideal S1x512x192 .bf16) : FVec Ideal S512x192 .f32 :=
  matmul (φ₂ := .bf16) dot_S512x512_S512x192_S512x192_1_0_0_1_n_n none ds (shapeCast S512x192 qv shapeCasts_S1x512x192_S512x192) (constant S512x192 .f32 0x00000000#32)

/-- and of its queries. -/
def dqP (ds : FVec Ideal S512x512 .bf16) (kv : Vec Ideal S1x512x192 .bf16) : FVec Ideal S512x192 .f32 :=
  matmul (φ₂ := .bf16) dot_S512x512_S512x192_S512x192_0_0_1_1_n_n none ds (shapeCast S512x192 kv shapeCasts_S1x512x192_S512x192) (constant S512x192 .f32 0x00000000#32)

/-! ## Adding a part to rows of an accumulator -/

/-- `f` with `P` added to the rows from `o` on. -/
def addAt {n m w : ℕ} (o : ℕ) (P : (⟨2, ![w, m]⟩ : Shape).Idx → EReal) (f : (⟨2, ![n, m]⟩ : Shape).Idx → EReal) :
    (⟨2, ![n, m]⟩ : Shape).Idx → EReal :=
  fun y => if h : o ≤ (y 0).val ∧ (y 0).val < o + w then f y + P (ix2 ⟨(y 0).val - o, by show _ < w; omega⟩ ⟨(y 1).val, (y 1).isLt⟩) else f y

/-- Storing rows read and added to is `addAt`: the newest piece rewrites the rows from `o` on. -/
theorem step_add {sig : RefSig} {κ : Kind} {sp : Space} {n m w : ℕ} (v : View sig κ sp (⟨2, ![n, m]⟩ : Shape) .f32)
    (f : v.ty.Contents (Elt Ideal)) (o : ℕ) {off : Fin 2 → ℕ} (inb : ∀ a, off a + (![w, m] : Fin 2 → ℕ) a ≤ (![n, m] : Fin 2 → ℕ) a)
    (P : (⟨2, ![w, m]⟩ : Shape).Idx → EReal) (L : List (View.Piece (Elt Ideal) (⟨2, ![n, m]⟩ : Shape) .f32))
    (M : (⟨2, ![n, m]⟩ : Shape).Idx → EReal)
    (wv : (⟨2, ![w, m]⟩ : Shape).Idx → EReal)
    (hc : (⟨2, ![w, m]⟩ : Shape).ShapeCasts ⟨2, ![w, m]⟩) (acc : (⟨2, ![w, m]⟩ : Shape).Idx → EReal)
    (hoff : off = ![o, 0])
    (hw : wv = shapeCast (⟨2, ![w, m]⟩ : Shape) (addf (F := Ideal) (φ := .f32) acc P) hc)
    (hacc : acc = v.readAt (Elt Ideal) (Rect.unit (s := ⟨2, ![n, m]⟩) off ![w, m] inb).toLoadRect (v.writes (Elt Ideal) f L))
    (hf : v.read (Elt Ideal) (v.writes (Elt Ideal) f L) = M) :
    v.read (Elt Ideal) (v.writes (Elt Ideal) f (⟨Rect.unit (s := ⟨2, ![n, m]⟩) off ![w, m] inb, wv⟩ :: L)) = addAt o P M := by
  subst hoff
  subst hacc
  funext y
  unfold addAt
  by_cases h : o ≤ (y 0).val ∧ (y 0).val < o + w
  · rw [dif_pos h]
    refine (View.read_writes_cons_rows_of_mem v f inb wv L y (ix2 ⟨(y 0).val - o, by show _ < w; omega⟩ ⟨(y 1).val, (y 1).isLt⟩) rfl
      (by show (y 0).val = o + ((y 0).val - o); omega) rfl).trans ?_
    refine (congrFun (hw.trans (shapeCast_self _ _)) _).trans (congrArg (· + P _) ?_)
    rw [View.readAt_apply, hf]
    refine congrArg M (funext fun a => Fin.ext ?_)
    fin_cases a
    · show o + 1 * ((y 0).val - o) = (y 0).val; omega
    · show 0 + 1 * (y 1).val = (y 1).val; omega
  · rw [dif_neg h]
    refine (View.read_writes_cons_rows_of_not_mem v f inb wv L y (o := o) (W := w) rfl rfl (by omega)).trans ?_
    rw [hf]

/-! ## The tiles of a run -/

variable (c : Dev nD) (i : grid0.Coords) (T0 T1 : S3.Idx → Elt Ideal .i32)
  (a4 : Memref sig .tc .vmem S1x2048x192 .bf16) (a5 : Memref sig .tc .vmem S1x2048x192 .bf16)
  (a6 : Memref sig .tc .vmem S1x2048x128 .bf16) (a7 : Memref sig .tc .vmem S2048x128 .f32)
  (a8 : Memref sig .tc .vmem S1x1x2048 .f32) (a9 : Memref sig .tc .vmem S8x2048 .f32)
  (x0 : S1x2048x192.Idx → Elt Ideal .bf16) (x1 : S1x2048x192.Idx → Elt Ideal .bf16) (x2 : S1x2048x128.Idx → Elt Ideal .bf16)
  (x3 : S2048x128.Idx → Elt Ideal .f32) (x4 : S1x1x2048.Idx → Elt Ideal .f32) (x5 : S8x2048.Idx → Elt Ideal .f32)

theorem inbA (a : Fin 4) : ∀ j, (![0, 512 * a.val, 0] : Fin 3 → ℕ) j + S1x512x192.size j ≤ S1x2048x192.size j := by revert a; decide
theorem inbV (a : Fin 4) : ∀ j, (![0, 512 * a.val, 0] : Fin 3 → ℕ) j + S1x512x128.size j ≤ S1x2048x128.size j := by revert a; decide
theorem inbD (a : Fin 4) : ∀ j, (![512 * a.val, 0] : Fin 2 → ℕ) j + S512x128.size j ≤ S2048x128.size j := by revert a; decide
theorem inbL (a : Fin 4) : ∀ j, (![0, 0, 512 * a.val] : Fin 3 → ℕ) j + S1x1x512.size j ≤ S1x1x2048.size j := by revert a; decide

/-- The row of the head in the block of the row sums, and the columns of a tile. -/
abbrev offT (i : grid0.Coords) (a : Fin 4) : Fin 2 → ℕ := ![(Scalar.indexCast (BitVec.ofNat 32 (i 0).val)).toNat, 512 * a.val]
theorem inbT (a : Fin 4) : ∀ j, offT i a j + S1x512.size j ≤ S8x2048.size j := by
  revert i a; decide +kernel

/-- The rows of queries, keys, values, cotangents, and the lanes of the two row statistics, of tile `a`. -/
abbrev tq (a : Fin 4) := View.readAt (Elt Ideal) a4.view (Rect.unit (s := S1x2048x192) ![0, 512 * a.val, 0] S1x512x192.size (inbA a)).toLoadRect (a4.view.rep x0)
abbrev tk (a : Fin 4) := View.readAt (Elt Ideal) a5.view (Rect.unit (s := S1x2048x192) ![0, 512 * a.val, 0] S1x512x192.size (inbA a)).toLoadRect (a5.view.rep x1)
abbrev tv (a : Fin 4) := View.readAt (Elt Ideal) a6.view (Rect.unit (s := S1x2048x128) ![0, 512 * a.val, 0] S1x512x128.size (inbV a)).toLoadRect (a6.view.rep x2)
abbrev tg (a : Fin 4) := View.readAt (Elt Ideal) a7.view (Rect.unit (s := S2048x128) ![512 * a.val, 0] S512x128.size (inbD a)).toLoadRect (a7.view.rep x3)
abbrev tl (a : Fin 4) := View.readAt (Elt Ideal) a8.view (Rect.unit (s := S1x1x2048) ![0, 0, 512 * a.val] S1x1x512.size (inbL a)).toLoadRect (a8.view.rep x4)
abbrev td (a : Fin 4) := View.readAt (Elt Ideal) a9.view (Rect.unit (s := S8x2048) (offT i a) S1x512.size (inbT i a)).toLoadRect (a9.view.rep x5)

/-- The probabilities of tile (queries `a`, keys `b`) of a full block, and of a diagonal one. -/
def pFull (a b : Fin 4) : FVec Ideal S512x512 .f32 := pF (tq a4 x0 a) (tl a8 x4 a) (tk a5 x1 b)
def pDiag (a b : Fin 4) : FVec Ideal S512x512 .f32 := if a = b then pM (BitVec.ofNat 32 (512 * a.val)) (pFull a4 a5 a8 x0 x1 x4 a b) else pFull a4 a5 a8 x0 x1 x4 a b

/-- The sums over the key tiles, in the order the body adds them. -/
def sumUpTo (t : Fin 4 → FVec Ideal S512x192 .f32) : Fin 4 → FVec Ideal S512x192 .f32
  | 0 => t 0
  | 1 => addf (t 0) (t 1)
  | 2 => addf (addf (t 0) (t 1)) (t 2)
  | 3 => addf (addf (addf (t 0) (t 1)) (t 2)) (t 3)

def dsD (a b : Fin 4) := dsP (pDiag a4 a5 a8 x0 x1 x4 a b) (tv a6 x2 b) (tg a7 x3 a) (td i a9 x5 a)
def dvD (a b : Fin 4) := dvP (pDiag a4 a5 a8 x0 x1 x4 a b) (tg a7 x3 a)
def dkD (a b : Fin 4) := dkP (dsD i a4 a5 a6 a7 a8 a9 x0 x1 x2 x3 x4 x5 a b) (tq a4 x0 a)
def dqD (a : Fin 4) := sumUpTo (fun b => dqP (dsD i a4 a5 a6 a7 a8 a9 x0 x1 x2 x3 x4 x5 a b) (tk a5 x1 b)) a

def dsF (a b : Fin 4) := dsP (pFull a4 a5 a8 x0 x1 x4 a b) (tv a6 x2 b) (tg a7 x3 a) (td i a9 x5 a)
def dvF (a b : Fin 4) := dvP (pFull a4 a5 a8 x0 x1 x4 a b) (tg a7 x3 a)
def dkF (a b : Fin 4) := dkP (dsF i a4 a5 a6 a7 a8 a9 x0 x1 x2 x3 x4 x5 a b) (tq a4 x0 a)
def dqF (a : Fin 4) := sumUpTo (fun b => dqP (dsF i a4 a5 a6 a7 a8 a9 x0 x1 x2 x3 x4 x5 a b) (tk a5 x1 b)) 3

/-- The order of the tiles of a diagonal block. -/
def tD : ℕ → Fin 4 × Fin 4
  | 0 => (0, 0) | 1 => (1, 0) | 2 => (1, 1) | 3 => (2, 0) | 4 => (2, 1) | 5 => (2, 2) | 6 => (3, 0) | 7 => (3, 1) | 8 => (3, 2) | _ => (3, 3)

/-- The accumulators of keys and values after the first tiles of a diagonal block, from zero; of a full one, from `s`. -/
def kD : ℕ → Acc1
  | 0 => fun _ => 0
  | n + 1 => addAt (512 * (tD n).2.val) (dkD i a4 a5 a6 a7 a8 a9 x0 x1 x2 x3 x4 x5 (tD n).1 (tD n).2) (kD n)
def vD : ℕ → Acc2
  | 0 => fun _ => 0
  | n + 1 => addAt (512 * (tD n).2.val) (dvD a4 a5 a7 a8 x0 x1 x3 x4 (tD n).1 (tD n).2) (vD n)
def tF (n : ℕ) : Fin 4 × Fin 4 := (Fin.ofNat 4 (n / 4), Fin.ofNat 4 (n % 4))
def kF (s : Acc1) : ℕ → Acc1
  | 0 => s
  | n + 1 => addAt (512 * (tF n).2.val) (dkF i a4 a5 a6 a7 a8 a9 x0 x1 x2 x3 x4 x5 (tF n).1 (tF n).2) (kF s n)
def vF (s : Acc2) : ℕ → Acc2
  | 0 => s
  | n + 1 => addAt (512 * (tF n).2.val) (dvF a4 a5 a7 a8 x0 x1 x3 x4 (tF n).1 (tF n).2) (vF s n)
/-- The accumulator of queries after the first rows of tiles, from `s`, the block's rows starting at `2048 * I`. -/
def qD (I : ℕ) (s : Acc0) : ℕ → Acc0
  | 0 => s
  | n + 1 => addAt (2048 * I + 512 * (Fin.ofNat 4 n).val) (dqD i a4 a5 a6 a7 a8 a9 x0 x1 x2 x3 x4 x5 (Fin.ofNat 4 n)) (qD I s n)
def qF (I : ℕ) (s : Acc0) : ℕ → Acc0
  | 0 => s
  | n + 1 => addAt (2048 * I + 512 * (Fin.ofNat 4 n).val) (dqF i a4 a5 a6 a7 a8 a9 x0 x1 x2 x3 x4 x5 (Fin.ofNat 4 n)) (qF I s n)

theorem zero1 : k0_pay8 (F := Ideal) = fun _ => (0 : EReal) := by
  unfold k0_pay8; funext j; exact (congrFun (shapeCast_self _ _) j).trans Ideal.ofBits_zero_f32
theorem zero2 : k0_pay9 (F := Ideal) = fun _ => (0 : EReal) := by
  unfold k0_pay9; funext j; exact (congrFun (shapeCast_self _ _) j).trans Ideal.ofBits_zero_f32
theorem zero0 : k0_pay1 (F := Ideal) = fun _ => (0 : EReal) := by
  unfold k0_pay1; funext j; exact (congrFun (shapeCast_self _ _) j).trans Ideal.ofBits_zero_f32

theorem off3_eq (v : BitVec 32) (I : ℕ) (hI : I < 2) (hv : v = BitVec.ofNat 32 I) (a : Fin 4) :
    k0_off3 v (BitVec.ofNat 32 (512 * a.val)) = ![2048 * I + 512 * a.val, 0] := by
  subst hv; interval_cases I <;> fin_cases a <;> rfl
theorem off8_eq (v : BitVec 32) (hv : v = 1#32) (a : Fin 4) :
    k0_off8 v (BitVec.ofNat 32 (512 * a.val)) = ![2048 * 1 + 512 * a.val, 0] := by
  subst hv; fin_cases a <;> rfl

theorem inbRa (a : Fin 4) : ∀ j, (![512 * a.val, 0] : Fin 2 → ℕ) j + S512x192.size j ≤ S2048x192.size j := by revert a; decide
theorem inbRb (a : Fin 4) : ∀ j, (![512 * a.val, 0] : Fin 2 → ℕ) j + S512x128.size j ≤ S2048x128.size j := by revert a; decide

/-- The accumulator's pieces of the first pair, read. -/
theorem runA_HS1 : scM1.view.read (Elt Ideal) (scM1.view.writes (Elt Ideal) scM1.view.junk (runA.sl.HS1_11 i a4 a5 a6 a7 a8 a9 x0 x1 x2 x3 x4 x5)) = kD i a4 a5 a6 a7 a8 a9 x0 x1 x2 x3 x4 x5 10 := by
  have h0 : scM1.view.read (Elt Ideal) (scM1.view.writes (Elt Ideal) scM1.view.junk runA.sl.HS1_1) = kD i a4 a5 a6 a7 a8 a9 x0 x1 x2 x3 x4 x5 0 :=
    (View.read_writes_full scM1.view _ _ _ []).trans zero1
  have h1 : scM1.view.read (Elt Ideal) (scM1.view.writes (Elt Ideal) scM1.view.junk (runA.sl.HS1_2 i a4 a5 a6 a7 a8 a9 x0 x1 x2 x3 x4 x5)) = kD i a4 a5 a6 a7 a8 a9 x0 x1 x2 x3 x4 x5 1 :=
    step_add scM1.view scM1.view.junk (512 * (tD 0).2.val) _ (dkD i a4 a5 a6 a7 a8 a9 x0 x1 x2 x3 x4 x5 (tD 0).1 (tD 0).2) (runA.sl.HS1_1) (kD i a4 a5 a6 a7 a8 a9 x0 x1 x2 x3 x4 x5 0) _ shapeCasts_S512x192_S512x192 _ rfl (by sl_kernel_rfl) rfl h0
  have h2 : scM1.view.read (Elt Ideal) (scM1.view.writes (Elt Ideal) scM1.view.junk (runA.sl.HS1_3 i a4 a5 a6 a7 a8 a9 x0 x1 x2 x3 x4 x5)) = kD i a4 a5 a6 a7 a8 a9 x0 x1 x2 x3 x4 x5 2 :=
    step_add scM1.view scM1.view.junk (512 * (tD 1).2.val) _ (dkD i a4 a5 a6 a7 a8 a9 x0 x1 x2 x3 x4 x5 (tD 1).1 (tD 1).2) (runA.sl.HS1_2 i a4 a5 a6 a7 a8 a9 x0 x1 x2 x3 x4 x5) (kD i a4 a5 a6 a7 a8 a9 x0 x1 x2 x3 x4 x5 1) _ shapeCasts_S512x192_S512x192 _ rfl (by sl_kernel_rfl) rfl h1
  have h3 : scM1.view.read (Elt Ideal) (scM1.view.writes (Elt Ideal) scM1.view.junk (runA.sl.HS1_4 i a4 a5 a6 a7 a8 a9 x0 x1 x2 x3 x4 x5)) = kD i a4 a5 a6 a7 a8 a9 x0 x1 x2 x3 x4 x5 3 :=
    step_add scM1.view scM1.view.junk (512 * (tD 2).2.val) _ (dkD i a4 a5 a6 a7 a8 a9 x0 x1 x2 x3 x4 x5 (tD 2).1 (tD 2).2) (runA.sl.HS1_3 i a4 a5 a6 a7 a8 a9 x0 x1 x2 x3 x4 x5) (kD i a4 a5 a6 a7 a8 a9 x0 x1 x2 x3 x4 x5 2) _ shapeCasts_S512x192_S512x192 _ rfl (by sl_kernel_rfl) rfl h2
  have h4 : scM1.view.read (Elt Ideal) (scM1.view.writes (Elt Ideal) scM1.view.junk (runA.sl.HS1_5 i a4 a5 a6 a7 a8 a9 x0 x1 x2 x3 x4 x5)) = kD i a4 a5 a6 a7 a8 a9 x0 x1 x2 x3 x4 x5 4 :=
    step_add scM1.view scM1.view.junk (512 * (tD 3).2.val) _ (dkD i a4 a5 a6 a7 a8 a9 x0 x1 x2 x3 x4 x5 (tD 3).1 (tD 3).2) (runA.sl.HS1_4 i a4 a5 a6 a7 a8 a9 x0 x1 x2 x3 x4 x5) (kD i a4 a5 a6 a7 a8 a9 x0 x1 x2 x3 x4 x5 3) _ shapeCasts_S512x192_S512x192 _ rfl (by sl_kernel_rfl) rfl h3
  have h5 : scM1.view.read (Elt Ideal) (scM1.view.writes (Elt Ideal) scM1.view.junk (runA.sl.HS1_6 i a4 a5 a6 a7 a8 a9 x0 x1 x2 x3 x4 x5)) = kD i a4 a5 a6 a7 a8 a9 x0 x1 x2 x3 x4 x5 5 :=
    step_add scM1.view scM1.view.junk (512 * (tD 4).2.val) _ (dkD i a4 a5 a6 a7 a8 a9 x0 x1 x2 x3 x4 x5 (tD 4).1 (tD 4).2) (runA.sl.HS1_5 i a4 a5 a6 a7 a8 a9 x0 x1 x2 x3 x4 x5) (kD i a4 a5 a6 a7 a8 a9 x0 x1 x2 x3 x4 x5 4) _ shapeCasts_S512x192_S512x192 _ rfl (by sl_kernel_rfl) rfl h4
  have h6 : scM1.view.read (Elt Ideal) (scM1.view.writes (Elt Ideal) scM1.view.junk (runA.sl.HS1_7 i a4 a5 a6 a7 a8 a9 x0 x1 x2 x3 x4 x5)) = kD i a4 a5 a6 a7 a8 a9 x0 x1 x2 x3 x4 x5 6 :=
    step_add scM1.view scM1.view.junk (512 * (tD 5).2.val) _ (dkD i a4 a5 a6 a7 a8 a9 x0 x1 x2 x3 x4 x5 (tD 5).1 (tD 5).2) (runA.sl.HS1_6 i a4 a5 a6 a7 a8 a9 x0 x1 x2 x3 x4 x5) (kD i a4 a5 a6 a7 a8 a9 x0 x1 x2 x3 x4 x5 5) _ shapeCasts_S512x192_S512x192 _ rfl (by sl_kernel_rfl) rfl h5
  have h7 : scM1.view.read (Elt Ideal) (scM1.view.writes (Elt Ideal) scM1.view.junk (runA.sl.HS1_8 i a4 a5 a6 a7 a8 a9 x0 x1 x2 x3 x4 x5)) = kD i a4 a5 a6 a7 a8 a9 x0 x1 x2 x3 x4 x5 7 :=
    step_add scM1.view scM1.view.junk (512 * (tD 6).2.val) _ (dkD i a4 a5 a6 a7 a8 a9 x0 x1 x2 x3 x4 x5 (tD 6).1 (tD 6).2) (runA.sl.HS1_7 i a4 a5 a6 a7 a8 a9 x0 x1 x2 x3 x4 x5) (kD i a4 a5 a6 a7 a8 a9 x0 x1 x2 x3 x4 x5 6) _ shapeCasts_S512x192_S512x192 _ rfl (by sl_kernel_rfl) rfl h6
  have h8 : scM1.view.read (Elt Ideal) (scM1.view.writes (Elt Ideal) scM1.view.junk (runA.sl.HS1_9 i a4 a5 a6 a7 a8 a9 x0 x1 x2 x3 x4 x5)) = kD i a4 a5 a6 a7 a8 a9 x0 x1 x2 x3 x4 x5 8 :=
    step_add scM1.view scM1.view.junk (512 * (tD 7).2.val) _ (dkD i a4 a5 a6 a7 a8 a9 x0 x1 x2 x3 x4 x5 (tD 7).1 (tD 7).2) (runA.sl.HS1_8 i a4 a5 a6 a7 a8 a9 x0 x1 x2 x3 x4 x5) (kD i a4 a5 a6 a7 a8 a9 x0 x1 x2 x3 x4 x5 7) _ shapeCasts_S512x192_S512x192 _ rfl (by sl_kernel_rfl) rfl h7
  have h9 : scM1.view.read (Elt Ideal) (scM1.view.writes (Elt Ideal) scM1.view.junk (runA.sl.HS1_10 i a4 a5 a6 a7 a8 a9 x0 x1 x2 x3 x4 x5)) = kD i a4 a5 a6 a7 a8 a9 x0 x1 x2 x3 x4 x5 9 :=
    step_add scM1.view scM1.view.junk (512 * (tD 8).2.val) _ (dkD i a4 a5 a6 a7 a8 a9 x0 x1 x2 x3 x4 x5 (tD 8).1 (tD 8).2) (runA.sl.HS1_9 i a4 a5 a6 a7 a8 a9 x0 x1 x2 x3 x4 x5) (kD i a4 a5 a6 a7 a8 a9 x0 x1 x2 x3 x4 x5 8) _ shapeCasts_S512x192_S512x192 _ rfl (by sl_kernel_rfl) rfl h8
  have h10 : scM1.view.read (Elt Ideal) (scM1.view.writes (Elt Ideal) scM1.view.junk (runA.sl.HS1_11 i a4 a5 a6 a7 a8 a9 x0 x1 x2 x3 x4 x5)) = kD i a4 a5 a6 a7 a8 a9 x0 x1 x2 x3 x4 x5 10 :=
    step_add scM1.view scM1.view.junk (512 * (tD 9).2.val) _ (dkD i a4 a5 a6 a7 a8 a9 x0 x1 x2 x3 x4 x5 (tD 9).1 (tD 9).2) (runA.sl.HS1_10 i a4 a5 a6 a7 a8 a9 x0 x1 x2 x3 x4 x5) (kD i a4 a5 a6 a7 a8 a9 x0 x1 x2 x3 x4 x5 9) _ shapeCasts_S512x192_S512x192 _ rfl (by sl_kernel_rfl) rfl h9
  exact h10

/-- The accumulator's pieces of the first pair, read. -/
theorem runA_HS2 : scM2.view.read (Elt Ideal) (scM2.view.writes (Elt Ideal) scM2.view.junk (runA.sl.HS2_11 a4 a5 a7 a8 x0 x1 x3 x4)) = vD a4 a5 a7 a8 x0 x1 x3 x4 10 := by
  have h0 : scM2.view.read (Elt Ideal) (scM2.view.writes (Elt Ideal) scM2.view.junk runA.sl.HS2_1) = vD a4 a5 a7 a8 x0 x1 x3 x4 0 :=
    (View.read_writes_full scM2.view _ _ _ []).trans zero2
  have h1 : scM2.view.read (Elt Ideal) (scM2.view.writes (Elt Ideal) scM2.view.junk (runA.sl.HS2_2 a4 a5 a7 a8 x0 x1 x3 x4)) = vD a4 a5 a7 a8 x0 x1 x3 x4 1 :=
    step_add scM2.view scM2.view.junk (512 * (tD 0).2.val) _ (dvD a4 a5 a7 a8 x0 x1 x3 x4 (tD 0).1 (tD 0).2) (runA.sl.HS2_1) (vD a4 a5 a7 a8 x0 x1 x3 x4 0) _ shapeCasts_S512x128_S512x128 _ rfl (by sl_kernel_rfl) rfl h0
  have h2 : scM2.view.read (Elt Ideal) (scM2.view.writes (Elt Ideal) scM2.view.junk (runA.sl.HS2_3 a4 a5 a7 a8 x0 x1 x3 x4)) = vD a4 a5 a7 a8 x0 x1 x3 x4 2 :=
    step_add scM2.view scM2.view.junk (512 * (tD 1).2.val) _ (dvD a4 a5 a7 a8 x0 x1 x3 x4 (tD 1).1 (tD 1).2) (runA.sl.HS2_2 a4 a5 a7 a8 x0 x1 x3 x4) (vD a4 a5 a7 a8 x0 x1 x3 x4 1) _ shapeCasts_S512x128_S512x128 _ rfl (by sl_kernel_rfl) rfl h1
  have h3 : scM2.view.read (Elt Ideal) (scM2.view.writes (Elt Ideal) scM2.view.junk (runA.sl.HS2_4 a4 a5 a7 a8 x0 x1 x3 x4)) = vD a4 a5 a7 a8 x0 x1 x3 x4 3 :=
    step_add scM2.view scM2.view.junk (512 * (tD 2).2.val) _ (dvD a4 a5 a7 a8 x0 x1 x3 x4 (tD 2).1 (tD 2).2) (runA.sl.HS2_3 a4 a5 a7 a8 x0 x1 x3 x4) (vD a4 a5 a7 a8 x0 x1 x3 x4 2) _ shapeCasts_S512x128_S512x128 _ rfl (by sl_kernel_rfl) rfl h2
  have h4 : scM2.view.read (Elt Ideal) (scM2.view.writes (Elt Ideal) scM2.view.junk (runA.sl.HS2_5 a4 a5 a7 a8 x0 x1 x3 x4)) = vD a4 a5 a7 a8 x0 x1 x3 x4 4 :=
    step_add scM2.view scM2.view.junk (512 * (tD 3).2.val) _ (dvD a4 a5 a7 a8 x0 x1 x3 x4 (tD 3).1 (tD 3).2) (runA.sl.HS2_4 a4 a5 a7 a8 x0 x1 x3 x4) (vD a4 a5 a7 a8 x0 x1 x3 x4 3) _ shapeCasts_S512x128_S512x128 _ rfl (by sl_kernel_rfl) rfl h3
  have h5 : scM2.view.read (Elt Ideal) (scM2.view.writes (Elt Ideal) scM2.view.junk (runA.sl.HS2_6 a4 a5 a7 a8 x0 x1 x3 x4)) = vD a4 a5 a7 a8 x0 x1 x3 x4 5 :=
    step_add scM2.view scM2.view.junk (512 * (tD 4).2.val) _ (dvD a4 a5 a7 a8 x0 x1 x3 x4 (tD 4).1 (tD 4).2) (runA.sl.HS2_5 a4 a5 a7 a8 x0 x1 x3 x4) (vD a4 a5 a7 a8 x0 x1 x3 x4 4) _ shapeCasts_S512x128_S512x128 _ rfl (by sl_kernel_rfl) rfl h4
  have h6 : scM2.view.read (Elt Ideal) (scM2.view.writes (Elt Ideal) scM2.view.junk (runA.sl.HS2_7 a4 a5 a7 a8 x0 x1 x3 x4)) = vD a4 a5 a7 a8 x0 x1 x3 x4 6 :=
    step_add scM2.view scM2.view.junk (512 * (tD 5).2.val) _ (dvD a4 a5 a7 a8 x0 x1 x3 x4 (tD 5).1 (tD 5).2) (runA.sl.HS2_6 a4 a5 a7 a8 x0 x1 x3 x4) (vD a4 a5 a7 a8 x0 x1 x3 x4 5) _ shapeCasts_S512x128_S512x128 _ rfl (by sl_kernel_rfl) rfl h5
  have h7 : scM2.view.read (Elt Ideal) (scM2.view.writes (Elt Ideal) scM2.view.junk (runA.sl.HS2_8 a4 a5 a7 a8 x0 x1 x3 x4)) = vD a4 a5 a7 a8 x0 x1 x3 x4 7 :=
    step_add scM2.view scM2.view.junk (512 * (tD 6).2.val) _ (dvD a4 a5 a7 a8 x0 x1 x3 x4 (tD 6).1 (tD 6).2) (runA.sl.HS2_7 a4 a5 a7 a8 x0 x1 x3 x4) (vD a4 a5 a7 a8 x0 x1 x3 x4 6) _ shapeCasts_S512x128_S512x128 _ rfl (by sl_kernel_rfl) rfl h6
  have h8 : scM2.view.read (Elt Ideal) (scM2.view.writes (Elt Ideal) scM2.view.junk (runA.sl.HS2_9 a4 a5 a7 a8 x0 x1 x3 x4)) = vD a4 a5 a7 a8 x0 x1 x3 x4 8 :=
    step_add scM2.view scM2.view.junk (512 * (tD 7).2.val) _ (dvD a4 a5 a7 a8 x0 x1 x3 x4 (tD 7).1 (tD 7).2) (runA.sl.HS2_8 a4 a5 a7 a8 x0 x1 x3 x4) (vD a4 a5 a7 a8 x0 x1 x3 x4 7) _ shapeCasts_S512x128_S512x128 _ rfl (by sl_kernel_rfl) rfl h7
  have h9 : scM2.view.read (Elt Ideal) (scM2.view.writes (Elt Ideal) scM2.view.junk (runA.sl.HS2_10 a4 a5 a7 a8 x0 x1 x3 x4)) = vD a4 a5 a7 a8 x0 x1 x3 x4 9 :=
    step_add scM2.view scM2.view.junk (512 * (tD 8).2.val) _ (dvD a4 a5 a7 a8 x0 x1 x3 x4 (tD 8).1 (tD 8).2) (runA.sl.HS2_9 a4 a5 a7 a8 x0 x1 x3 x4) (vD a4 a5 a7 a8 x0 x1 x3 x4 8) _ shapeCasts_S512x128_S512x128 _ rfl (by sl_kernel_rfl) rfl h8
  have h10 : scM2.view.read (Elt Ideal) (scM2.view.writes (Elt Ideal) scM2.view.junk (runA.sl.HS2_11 a4 a5 a7 a8 x0 x1 x3 x4)) = vD a4 a5 a7 a8 x0 x1 x3 x4 10 :=
    step_add scM2.view scM2.view.junk (512 * (tD 9).2.val) _ (dvD a4 a5 a7 a8 x0 x1 x3 x4 (tD 9).1 (tD 9).2) (runA.sl.HS2_10 a4 a5 a7 a8 x0 x1 x3 x4) (vD a4 a5 a7 a8 x0 x1 x3 x4 9) _ shapeCasts_S512x128_S512x128 _ rfl (by sl_kernel_rfl) rfl h9
  exact h10

/-- The accumulator's pieces of the last pair, read. -/
theorem runC_HS1 : scM1.view.read (Elt Ideal) (scM1.view.writes (Elt Ideal) scM1.view.junk (runC.sl.HS1_11 i a4 a5 a6 a7 a8 a9 x0 x1 x2 x3 x4 x5)) = kD i a4 a5 a6 a7 a8 a9 x0 x1 x2 x3 x4 x5 10 := by
  have h0 : scM1.view.read (Elt Ideal) (scM1.view.writes (Elt Ideal) scM1.view.junk runC.sl.HS1_1) = kD i a4 a5 a6 a7 a8 a9 x0 x1 x2 x3 x4 x5 0 :=
    (View.read_writes_full scM1.view _ _ _ []).trans zero1
  have h1 : scM1.view.read (Elt Ideal) (scM1.view.writes (Elt Ideal) scM1.view.junk (runC.sl.HS1_2 i a4 a5 a6 a7 a8 a9 x0 x1 x2 x3 x4 x5)) = kD i a4 a5 a6 a7 a8 a9 x0 x1 x2 x3 x4 x5 1 :=
    step_add scM1.view scM1.view.junk (512 * (tD 0).2.val) _ (dkD i a4 a5 a6 a7 a8 a9 x0 x1 x2 x3 x4 x5 (tD 0).1 (tD 0).2) (runC.sl.HS1_1) (kD i a4 a5 a6 a7 a8 a9 x0 x1 x2 x3 x4 x5 0) _ shapeCasts_S512x192_S512x192 _ rfl (by sl_kernel_rfl) rfl h0
  have h2 : scM1.view.read (Elt Ideal) (scM1.view.writes (Elt Ideal) scM1.view.junk (runC.sl.HS1_3 i a4 a5 a6 a7 a8 a9 x0 x1 x2 x3 x4 x5)) = kD i a4 a5 a6 a7 a8 a9 x0 x1 x2 x3 x4 x5 2 :=
    step_add scM1.view scM1.view.junk (512 * (tD 1).2.val) _ (dkD i a4 a5 a6 a7 a8 a9 x0 x1 x2 x3 x4 x5 (tD 1).1 (tD 1).2) (runC.sl.HS1_2 i a4 a5 a6 a7 a8 a9 x0 x1 x2 x3 x4 x5) (kD i a4 a5 a6 a7 a8 a9 x0 x1 x2 x3 x4 x5 1) _ shapeCasts_S512x192_S512x192 _ rfl (by sl_kernel_rfl) rfl h1
  have h3 : scM1.view.read (Elt Ideal) (scM1.view.writes (Elt Ideal) scM1.view.junk (runC.sl.HS1_4 i a4 a5 a6 a7 a8 a9 x0 x1 x2 x3 x4 x5)) = kD i a4 a5 a6 a7 a8 a9 x0 x1 x2 x3 x4 x5 3 :=
    step_add scM1.view scM1.view.junk (512 * (tD 2).2.val) _ (dkD i a4 a5 a6 a7 a8 a9 x0 x1 x2 x3 x4 x5 (tD 2).1 (tD 2).2) (runC.sl.HS1_3 i a4 a5 a6 a7 a8 a9 x0 x1 x2 x3 x4 x5) (kD i a4 a5 a6 a7 a8 a9 x0 x1 x2 x3 x4 x5 2) _ shapeCasts_S512x192_S512x192 _ rfl (by sl_kernel_rfl) rfl h2
  have h4 : scM1.view.read (Elt Ideal) (scM1.view.writes (Elt Ideal) scM1.view.junk (runC.sl.HS1_5 i a4 a5 a6 a7 a8 a9 x0 x1 x2 x3 x4 x5)) = kD i a4 a5 a6 a7 a8 a9 x0 x1 x2 x3 x4 x5 4 :=
    step_add scM1.view scM1.view.junk (512 * (tD 3).2.val) _ (dkD i a4 a5 a6 a7 a8 a9 x0 x1 x2 x3 x4 x5 (tD 3).1 (tD 3).2) (runC.sl.HS1_4 i a4 a5 a6 a7 a8 a9 x0 x1 x2 x3 x4 x5) (kD i a4 a5 a6 a7 a8 a9 x0 x1 x2 x3 x4 x5 3) _ shapeCasts_S512x192_S512x192 _ rfl (by sl_kernel_rfl) rfl h3
  have h5 : scM1.view.read (Elt Ideal) (scM1.view.writes (Elt Ideal) scM1.view.junk (runC.sl.HS1_6 i a4 a5 a6 a7 a8 a9 x0 x1 x2 x3 x4 x5)) = kD i a4 a5 a6 a7 a8 a9 x0 x1 x2 x3 x4 x5 5 :=
    step_add scM1.view scM1.view.junk (512 * (tD 4).2.val) _ (dkD i a4 a5 a6 a7 a8 a9 x0 x1 x2 x3 x4 x5 (tD 4).1 (tD 4).2) (runC.sl.HS1_5 i a4 a5 a6 a7 a8 a9 x0 x1 x2 x3 x4 x5) (kD i a4 a5 a6 a7 a8 a9 x0 x1 x2 x3 x4 x5 4) _ shapeCasts_S512x192_S512x192 _ rfl (by sl_kernel_rfl) rfl h4
  have h6 : scM1.view.read (Elt Ideal) (scM1.view.writes (Elt Ideal) scM1.view.junk (runC.sl.HS1_7 i a4 a5 a6 a7 a8 a9 x0 x1 x2 x3 x4 x5)) = kD i a4 a5 a6 a7 a8 a9 x0 x1 x2 x3 x4 x5 6 :=
    step_add scM1.view scM1.view.junk (512 * (tD 5).2.val) _ (dkD i a4 a5 a6 a7 a8 a9 x0 x1 x2 x3 x4 x5 (tD 5).1 (tD 5).2) (runC.sl.HS1_6 i a4 a5 a6 a7 a8 a9 x0 x1 x2 x3 x4 x5) (kD i a4 a5 a6 a7 a8 a9 x0 x1 x2 x3 x4 x5 5) _ shapeCasts_S512x192_S512x192 _ rfl (by sl_kernel_rfl) rfl h5
  have h7 : scM1.view.read (Elt Ideal) (scM1.view.writes (Elt Ideal) scM1.view.junk (runC.sl.HS1_8 i a4 a5 a6 a7 a8 a9 x0 x1 x2 x3 x4 x5)) = kD i a4 a5 a6 a7 a8 a9 x0 x1 x2 x3 x4 x5 7 :=
    step_add scM1.view scM1.view.junk (512 * (tD 6).2.val) _ (dkD i a4 a5 a6 a7 a8 a9 x0 x1 x2 x3 x4 x5 (tD 6).1 (tD 6).2) (runC.sl.HS1_7 i a4 a5 a6 a7 a8 a9 x0 x1 x2 x3 x4 x5) (kD i a4 a5 a6 a7 a8 a9 x0 x1 x2 x3 x4 x5 6) _ shapeCasts_S512x192_S512x192 _ rfl (by sl_kernel_rfl) rfl h6
  have h8 : scM1.view.read (Elt Ideal) (scM1.view.writes (Elt Ideal) scM1.view.junk (runC.sl.HS1_9 i a4 a5 a6 a7 a8 a9 x0 x1 x2 x3 x4 x5)) = kD i a4 a5 a6 a7 a8 a9 x0 x1 x2 x3 x4 x5 8 :=
    step_add scM1.view scM1.view.junk (512 * (tD 7).2.val) _ (dkD i a4 a5 a6 a7 a8 a9 x0 x1 x2 x3 x4 x5 (tD 7).1 (tD 7).2) (runC.sl.HS1_8 i a4 a5 a6 a7 a8 a9 x0 x1 x2 x3 x4 x5) (kD i a4 a5 a6 a7 a8 a9 x0 x1 x2 x3 x4 x5 7) _ shapeCasts_S512x192_S512x192 _ rfl (by sl_kernel_rfl) rfl h7
  have h9 : scM1.view.read (Elt Ideal) (scM1.view.writes (Elt Ideal) scM1.view.junk (runC.sl.HS1_10 i a4 a5 a6 a7 a8 a9 x0 x1 x2 x3 x4 x5)) = kD i a4 a5 a6 a7 a8 a9 x0 x1 x2 x3 x4 x5 9 :=
    step_add scM1.view scM1.view.junk (512 * (tD 8).2.val) _ (dkD i a4 a5 a6 a7 a8 a9 x0 x1 x2 x3 x4 x5 (tD 8).1 (tD 8).2) (runC.sl.HS1_9 i a4 a5 a6 a7 a8 a9 x0 x1 x2 x3 x4 x5) (kD i a4 a5 a6 a7 a8 a9 x0 x1 x2 x3 x4 x5 8) _ shapeCasts_S512x192_S512x192 _ rfl (by sl_kernel_rfl) rfl h8
  have h10 : scM1.view.read (Elt Ideal) (scM1.view.writes (Elt Ideal) scM1.view.junk (runC.sl.HS1_11 i a4 a5 a6 a7 a8 a9 x0 x1 x2 x3 x4 x5)) = kD i a4 a5 a6 a7 a8 a9 x0 x1 x2 x3 x4 x5 10 :=
    step_add scM1.view scM1.view.junk (512 * (tD 9).2.val) _ (dkD i a4 a5 a6 a7 a8 a9 x0 x1 x2 x3 x4 x5 (tD 9).1 (tD 9).2) (runC.sl.HS1_10 i a4 a5 a6 a7 a8 a9 x0 x1 x2 x3 x4 x5) (kD i a4 a5 a6 a7 a8 a9 x0 x1 x2 x3 x4 x5 9) _ shapeCasts_S512x192_S512x192 _ rfl (by sl_kernel_rfl) rfl h9
  exact h10

/-- The accumulator's pieces of the last pair, read. -/
theorem runC_HS2 : scM2.view.read (Elt Ideal) (scM2.view.writes (Elt Ideal) scM2.view.junk (runC.sl.HS2_11 a4 a5 a7 a8 x0 x1 x3 x4)) = vD a4 a5 a7 a8 x0 x1 x3 x4 10 := by
  have h0 : scM2.view.read (Elt Ideal) (scM2.view.writes (Elt Ideal) scM2.view.junk runC.sl.HS2_1) = vD a4 a5 a7 a8 x0 x1 x3 x4 0 :=
    (View.read_writes_full scM2.view _ _ _ []).trans zero2
  have h1 : scM2.view.read (Elt Ideal) (scM2.view.writes (Elt Ideal) scM2.view.junk (runC.sl.HS2_2 a4 a5 a7 a8 x0 x1 x3 x4)) = vD a4 a5 a7 a8 x0 x1 x3 x4 1 :=
    step_add scM2.view scM2.view.junk (512 * (tD 0).2.val) _ (dvD a4 a5 a7 a8 x0 x1 x3 x4 (tD 0).1 (tD 0).2) (runC.sl.HS2_1) (vD a4 a5 a7 a8 x0 x1 x3 x4 0) _ shapeCasts_S512x128_S512x128 _ rfl (by sl_kernel_rfl) rfl h0
  have h2 : scM2.view.read (Elt Ideal) (scM2.view.writes (Elt Ideal) scM2.view.junk (runC.sl.HS2_3 a4 a5 a7 a8 x0 x1 x3 x4)) = vD a4 a5 a7 a8 x0 x1 x3 x4 2 :=
    step_add scM2.view scM2.view.junk (512 * (tD 1).2.val) _ (dvD a4 a5 a7 a8 x0 x1 x3 x4 (tD 1).1 (tD 1).2) (runC.sl.HS2_2 a4 a5 a7 a8 x0 x1 x3 x4) (vD a4 a5 a7 a8 x0 x1 x3 x4 1) _ shapeCasts_S512x128_S512x128 _ rfl (by sl_kernel_rfl) rfl h1
  have h3 : scM2.view.read (Elt Ideal) (scM2.view.writes (Elt Ideal) scM2.view.junk (runC.sl.HS2_4 a4 a5 a7 a8 x0 x1 x3 x4)) = vD a4 a5 a7 a8 x0 x1 x3 x4 3 :=
    step_add scM2.view scM2.view.junk (512 * (tD 2).2.val) _ (dvD a4 a5 a7 a8 x0 x1 x3 x4 (tD 2).1 (tD 2).2) (runC.sl.HS2_3 a4 a5 a7 a8 x0 x1 x3 x4) (vD a4 a5 a7 a8 x0 x1 x3 x4 2) _ shapeCasts_S512x128_S512x128 _ rfl (by sl_kernel_rfl) rfl h2
  have h4 : scM2.view.read (Elt Ideal) (scM2.view.writes (Elt Ideal) scM2.view.junk (runC.sl.HS2_5 a4 a5 a7 a8 x0 x1 x3 x4)) = vD a4 a5 a7 a8 x0 x1 x3 x4 4 :=
    step_add scM2.view scM2.view.junk (512 * (tD 3).2.val) _ (dvD a4 a5 a7 a8 x0 x1 x3 x4 (tD 3).1 (tD 3).2) (runC.sl.HS2_4 a4 a5 a7 a8 x0 x1 x3 x4) (vD a4 a5 a7 a8 x0 x1 x3 x4 3) _ shapeCasts_S512x128_S512x128 _ rfl (by sl_kernel_rfl) rfl h3
  have h5 : scM2.view.read (Elt Ideal) (scM2.view.writes (Elt Ideal) scM2.view.junk (runC.sl.HS2_6 a4 a5 a7 a8 x0 x1 x3 x4)) = vD a4 a5 a7 a8 x0 x1 x3 x4 5 :=
    step_add scM2.view scM2.view.junk (512 * (tD 4).2.val) _ (dvD a4 a5 a7 a8 x0 x1 x3 x4 (tD 4).1 (tD 4).2) (runC.sl.HS2_5 a4 a5 a7 a8 x0 x1 x3 x4) (vD a4 a5 a7 a8 x0 x1 x3 x4 4) _ shapeCasts_S512x128_S512x128 _ rfl (by sl_kernel_rfl) rfl h4
  have h6 : scM2.view.read (Elt Ideal) (scM2.view.writes (Elt Ideal) scM2.view.junk (runC.sl.HS2_7 a4 a5 a7 a8 x0 x1 x3 x4)) = vD a4 a5 a7 a8 x0 x1 x3 x4 6 :=
    step_add scM2.view scM2.view.junk (512 * (tD 5).2.val) _ (dvD a4 a5 a7 a8 x0 x1 x3 x4 (tD 5).1 (tD 5).2) (runC.sl.HS2_6 a4 a5 a7 a8 x0 x1 x3 x4) (vD a4 a5 a7 a8 x0 x1 x3 x4 5) _ shapeCasts_S512x128_S512x128 _ rfl (by sl_kernel_rfl) rfl h5
  have h7 : scM2.view.read (Elt Ideal) (scM2.view.writes (Elt Ideal) scM2.view.junk (runC.sl.HS2_8 a4 a5 a7 a8 x0 x1 x3 x4)) = vD a4 a5 a7 a8 x0 x1 x3 x4 7 :=
    step_add scM2.view scM2.view.junk (512 * (tD 6).2.val) _ (dvD a4 a5 a7 a8 x0 x1 x3 x4 (tD 6).1 (tD 6).2) (runC.sl.HS2_7 a4 a5 a7 a8 x0 x1 x3 x4) (vD a4 a5 a7 a8 x0 x1 x3 x4 6) _ shapeCasts_S512x128_S512x128 _ rfl (by sl_kernel_rfl) rfl h6
  have h8 : scM2.view.read (Elt Ideal) (scM2.view.writes (Elt Ideal) scM2.view.junk (runC.sl.HS2_9 a4 a5 a7 a8 x0 x1 x3 x4)) = vD a4 a5 a7 a8 x0 x1 x3 x4 8 :=
    step_add scM2.view scM2.view.junk (512 * (tD 7).2.val) _ (dvD a4 a5 a7 a8 x0 x1 x3 x4 (tD 7).1 (tD 7).2) (runC.sl.HS2_8 a4 a5 a7 a8 x0 x1 x3 x4) (vD a4 a5 a7 a8 x0 x1 x3 x4 7) _ shapeCasts_S512x128_S512x128 _ rfl (by sl_kernel_rfl) rfl h7
  have h9 : scM2.view.read (Elt Ideal) (scM2.view.writes (Elt Ideal) scM2.view.junk (runC.sl.HS2_10 a4 a5 a7 a8 x0 x1 x3 x4)) = vD a4 a5 a7 a8 x0 x1 x3 x4 9 :=
    step_add scM2.view scM2.view.junk (512 * (tD 8).2.val) _ (dvD a4 a5 a7 a8 x0 x1 x3 x4 (tD 8).1 (tD 8).2) (runC.sl.HS2_9 a4 a5 a7 a8 x0 x1 x3 x4) (vD a4 a5 a7 a8 x0 x1 x3 x4 8) _ shapeCasts_S512x128_S512x128 _ rfl (by sl_kernel_rfl) rfl h8
  have h10 : scM2.view.read (Elt Ideal) (scM2.view.writes (Elt Ideal) scM2.view.junk (runC.sl.HS2_11 a4 a5 a7 a8 x0 x1 x3 x4)) = vD a4 a5 a7 a8 x0 x1 x3 x4 10 :=
    step_add scM2.view scM2.view.junk (512 * (tD 9).2.val) _ (dvD a4 a5 a7 a8 x0 x1 x3 x4 (tD 9).1 (tD 9).2) (runC.sl.HS2_10 a4 a5 a7 a8 x0 x1 x3 x4) (vD a4 a5 a7 a8 x0 x1 x3 x4 9) _ shapeCasts_S512x128_S512x128 _ rfl (by sl_kernel_rfl) rfl h9
  exact h10

/-- The accumulator's pieces of the middle pair, read. -/
theorem runB_HS1 (s1 : Acc1) : scM1.view.read (Elt Ideal) (scM1.view.writes (Elt Ideal) scM1.view.junk (runB.sl.HS1_16 i a4 a5 a6 a7 a8 a9 x0 x1 x2 x3 x4 x5 s1)) = kF i a4 a5 a6 a7 a8 a9 x0 x1 x2 x3 x4 x5 s1 16 := by
  have h0 : scM1.view.read (Elt Ideal) (scM1.view.writes (Elt Ideal) s1 (List.drop 4 (runB.sl.HS1_4 i a4 a5 a6 a7 a8 a9 x0 x1 x2 x3 x4 x5 s1))) = kF i a4 a5 a6 a7 a8 a9 x0 x1 x2 x3 x4 x5 s1 0 := rfl
  have h1 : scM1.view.read (Elt Ideal) (scM1.view.writes (Elt Ideal) s1 (List.drop 3 (runB.sl.HS1_4 i a4 a5 a6 a7 a8 a9 x0 x1 x2 x3 x4 x5 s1))) = kF i a4 a5 a6 a7 a8 a9 x0 x1 x2 x3 x4 x5 s1 1 :=
    step_add scM1.view s1 (512 * (tF 0).2.val) _ (dkF i a4 a5 a6 a7 a8 a9 x0 x1 x2 x3 x4 x5 (tF 0).1 (tF 0).2) (List.drop 4 (runB.sl.HS1_4 i a4 a5 a6 a7 a8 a9 x0 x1 x2 x3 x4 x5 s1)) (kF i a4 a5 a6 a7 a8 a9 x0 x1 x2 x3 x4 x5 s1 0) _ shapeCasts_S512x192_S512x192 (View.readAt (Elt Ideal) scM1.view (Rect.unit (s := S2048x192) ![512 * (tF 0).2.val, 0] S512x192.size (inbRa (tF 0).2)).toLoadRect s1) rfl (by sl_kernel_rfl) (View.readAt_writes_of_forall_not_mem scM1.view s1 (List.drop 4 (runB.sl.HS1_4 i a4 a5 a6 a7 a8 a9 x0 x1 x2 x3 x4 x5 s1)) _ (LoadRect.forall_not_mem_of_disjAll (List.drop 4 (runB.sl.HS1_4 i a4 a5 a6 a7 a8 a9 x0 x1 x2 x3 x4 x5 s1)) _ (by sl_kernel_rfl))).symm h0
  have h2 : scM1.view.read (Elt Ideal) (scM1.view.writes (Elt Ideal) s1 (List.drop 2 (runB.sl.HS1_4 i a4 a5 a6 a7 a8 a9 x0 x1 x2 x3 x4 x5 s1))) = kF i a4 a5 a6 a7 a8 a9 x0 x1 x2 x3 x4 x5 s1 2 :=
    step_add scM1.view s1 (512 * (tF 1).2.val) _ (dkF i a4 a5 a6 a7 a8 a9 x0 x1 x2 x3 x4 x5 (tF 1).1 (tF 1).2) (List.drop 3 (runB.sl.HS1_4 i a4 a5 a6 a7 a8 a9 x0 x1 x2 x3 x4 x5 s1)) (kF i a4 a5 a6 a7 a8 a9 x0 x1 x2 x3 x4 x5 s1 1) _ shapeCasts_S512x192_S512x192 (View.readAt (Elt Ideal) scM1.view (Rect.unit (s := S2048x192) ![512 * (tF 1).2.val, 0] S512x192.size (inbRa (tF 1).2)).toLoadRect s1) rfl (by sl_kernel_rfl) (View.readAt_writes_of_forall_not_mem scM1.view s1 (List.drop 3 (runB.sl.HS1_4 i a4 a5 a6 a7 a8 a9 x0 x1 x2 x3 x4 x5 s1)) _ (LoadRect.forall_not_mem_of_disjAll (List.drop 3 (runB.sl.HS1_4 i a4 a5 a6 a7 a8 a9 x0 x1 x2 x3 x4 x5 s1)) _ (by sl_kernel_rfl))).symm h1
  have h3 : scM1.view.read (Elt Ideal) (scM1.view.writes (Elt Ideal) s1 (List.drop 1 (runB.sl.HS1_4 i a4 a5 a6 a7 a8 a9 x0 x1 x2 x3 x4 x5 s1))) = kF i a4 a5 a6 a7 a8 a9 x0 x1 x2 x3 x4 x5 s1 3 :=
    step_add scM1.view s1 (512 * (tF 2).2.val) _ (dkF i a4 a5 a6 a7 a8 a9 x0 x1 x2 x3 x4 x5 (tF 2).1 (tF 2).2) (List.drop 2 (runB.sl.HS1_4 i a4 a5 a6 a7 a8 a9 x0 x1 x2 x3 x4 x5 s1)) (kF i a4 a5 a6 a7 a8 a9 x0 x1 x2 x3 x4 x5 s1 2) _ shapeCasts_S512x192_S512x192 (View.readAt (Elt Ideal) scM1.view (Rect.unit (s := S2048x192) ![512 * (tF 2).2.val, 0] S512x192.size (inbRa (tF 2).2)).toLoadRect s1) rfl (by sl_kernel_rfl) (View.readAt_writes_of_forall_not_mem scM1.view s1 (List.drop 2 (runB.sl.HS1_4 i a4 a5 a6 a7 a8 a9 x0 x1 x2 x3 x4 x5 s1)) _ (LoadRect.forall_not_mem_of_disjAll (List.drop 2 (runB.sl.HS1_4 i a4 a5 a6 a7 a8 a9 x0 x1 x2 x3 x4 x5 s1)) _ (by sl_kernel_rfl))).symm h2
  have h4 : scM1.view.read (Elt Ideal) (scM1.view.writes (Elt Ideal) s1 (List.drop 0 (runB.sl.HS1_4 i a4 a5 a6 a7 a8 a9 x0 x1 x2 x3 x4 x5 s1))) = kF i a4 a5 a6 a7 a8 a9 x0 x1 x2 x3 x4 x5 s1 4 :=
    step_add scM1.view s1 (512 * (tF 3).2.val) _ (dkF i a4 a5 a6 a7 a8 a9 x0 x1 x2 x3 x4 x5 (tF 3).1 (tF 3).2) (List.drop 1 (runB.sl.HS1_4 i a4 a5 a6 a7 a8 a9 x0 x1 x2 x3 x4 x5 s1)) (kF i a4 a5 a6 a7 a8 a9 x0 x1 x2 x3 x4 x5 s1 3) _ shapeCasts_S512x192_S512x192 (View.readAt (Elt Ideal) scM1.view (Rect.unit (s := S2048x192) ![512 * (tF 3).2.val, 0] S512x192.size (inbRa (tF 3).2)).toLoadRect s1) rfl (by sl_kernel_rfl) (View.readAt_writes_of_forall_not_mem scM1.view s1 (List.drop 1 (runB.sl.HS1_4 i a4 a5 a6 a7 a8 a9 x0 x1 x2 x3 x4 x5 s1)) _ (LoadRect.forall_not_mem_of_disjAll (List.drop 1 (runB.sl.HS1_4 i a4 a5 a6 a7 a8 a9 x0 x1 x2 x3 x4 x5 s1)) _ (by sl_kernel_rfl))).symm h3
  replace h4 : scM1.view.read (Elt Ideal) (scM1.view.writes (Elt Ideal) scM1.view.junk (runB.sl.HS1_4 i a4 a5 a6 a7 a8 a9 x0 x1 x2 x3 x4 x5 s1)) = kF i a4 a5 a6 a7 a8 a9 x0 x1 x2 x3 x4 x5 s1 4 :=
    (funext fun y => View.read_writes_apply_eq scM1.view scM1.view.junk scM1.view s1 y (runB.sl.HS1_4 i a4 a5 a6 a7 a8 a9 x0 x1 x2 x3 x4 x5 s1) (View.cover_of_tiled (runB.sl.HS1_4 i a4 a5 a6 a7 a8 a9 x0 x1 x2 x3 x4 x5 s1) S512x192.size (by sl_kernel_rfl) y)).trans h4
  have h5 : scM1.view.read (Elt Ideal) (scM1.view.writes (Elt Ideal) scM1.view.junk (runB.sl.HS1_5 i a4 a5 a6 a7 a8 a9 x0 x1 x2 x3 x4 x5 s1)) = kF i a4 a5 a6 a7 a8 a9 x0 x1 x2 x3 x4 x5 s1 5 :=
    step_add scM1.view scM1.view.junk (512 * (tF 4).2.val) _ (dkF i a4 a5 a6 a7 a8 a9 x0 x1 x2 x3 x4 x5 (tF 4).1 (tF 4).2) (runB.sl.HS1_4 i a4 a5 a6 a7 a8 a9 x0 x1 x2 x3 x4 x5 s1) (kF i a4 a5 a6 a7 a8 a9 x0 x1 x2 x3 x4 x5 s1 4) _ shapeCasts_S512x192_S512x192 _ rfl (by sl_kernel_rfl) rfl h4
  have h6 : scM1.view.read (Elt Ideal) (scM1.view.writes (Elt Ideal) scM1.view.junk (runB.sl.HS1_6 i a4 a5 a6 a7 a8 a9 x0 x1 x2 x3 x4 x5 s1)) = kF i a4 a5 a6 a7 a8 a9 x0 x1 x2 x3 x4 x5 s1 6 :=
    step_add scM1.view scM1.view.junk (512 * (tF 5).2.val) _ (dkF i a4 a5 a6 a7 a8 a9 x0 x1 x2 x3 x4 x5 (tF 5).1 (tF 5).2) (runB.sl.HS1_5 i a4 a5 a6 a7 a8 a9 x0 x1 x2 x3 x4 x5 s1) (kF i a4 a5 a6 a7 a8 a9 x0 x1 x2 x3 x4 x5 s1 5) _ shapeCasts_S512x192_S512x192 _ rfl (by sl_kernel_rfl) rfl h5
  have h7 : scM1.view.read (Elt Ideal) (scM1.view.writes (Elt Ideal) scM1.view.junk (runB.sl.HS1_7 i a4 a5 a6 a7 a8 a9 x0 x1 x2 x3 x4 x5 s1)) = kF i a4 a5 a6 a7 a8 a9 x0 x1 x2 x3 x4 x5 s1 7 :=
    step_add scM1.view scM1.view.junk (512 * (tF 6).2.val) _ (dkF i a4 a5 a6 a7 a8 a9 x0 x1 x2 x3 x4 x5 (tF 6).1 (tF 6).2) (runB.sl.HS1_6 i a4 a5 a6 a7 a8 a9 x0 x1 x2 x3 x4 x5 s1) (kF i a4 a5 a6 a7 a8 a9 x0 x1 x2 x3 x4 x5 s1 6) _ shapeCasts_S512x192_S512x192 _ rfl (by sl_kernel_rfl) rfl h6
  have h8 : scM1.view.read (Elt Ideal) (scM1.view.writes (Elt Ideal) scM1.view.junk (runB.sl.HS1_8 i a4 a5 a6 a7 a8 a9 x0 x1 x2 x3 x4 x5 s1)) = kF i a4 a5 a6 a7 a8 a9 x0 x1 x2 x3 x4 x5 s1 8 :=
    step_add scM1.view scM1.view.junk (512 * (tF 7).2.val) _ (dkF i a4 a5 a6 a7 a8 a9 x0 x1 x2 x3 x4 x5 (tF 7).1 (tF 7).2) (runB.sl.HS1_7 i a4 a5 a6 a7 a8 a9 x0 x1 x2 x3 x4 x5 s1) (kF i a4 a5 a6 a7 a8 a9 x0 x1 x2 x3 x4 x5 s1 7) _ shapeCasts_S512x192_S512x192 _ rfl (by sl_kernel_rfl) rfl h7
  have h9 : scM1.view.read (Elt Ideal) (scM1.view.writes (Elt Ideal) scM1.view.junk (runB.sl.HS1_9 i a4 a5 a6 a7 a8 a9 x0 x1 x2 x3 x4 x5 s1)) = kF i a4 a5 a6 a7 a8 a9 x0 x1 x2 x3 x4 x5 s1 9 :=
    step_add scM1.view scM1.view.junk (512 * (tF 8).2.val) _ (dkF i a4 a5 a6 a7 a8 a9 x0 x1 x2 x3 x4 x5 (tF 8).1 (tF 8).2) (runB.sl.HS1_8 i a4 a5 a6 a7 a8 a9 x0 x1 x2 x3 x4 x5 s1) (kF i a4 a5 a6 a7 a8 a9 x0 x1 x2 x3 x4 x5 s1 8) _ shapeCasts_S512x192_S512x192 _ rfl (by sl_kernel_rfl) rfl h8
  have h10 : scM1.view.read (Elt Ideal) (scM1.view.writes (Elt Ideal) scM1.view.junk (runB.sl.HS1_10 i a4 a5 a6 a7 a8 a9 x0 x1 x2 x3 x4 x5 s1)) = kF i a4 a5 a6 a7 a8 a9 x0 x1 x2 x3 x4 x5 s1 10 :=
    step_add scM1.view scM1.view.junk (512 * (tF 9).2.val) _ (dkF i a4 a5 a6 a7 a8 a9 x0 x1 x2 x3 x4 x5 (tF 9).1 (tF 9).2) (runB.sl.HS1_9 i a4 a5 a6 a7 a8 a9 x0 x1 x2 x3 x4 x5 s1) (kF i a4 a5 a6 a7 a8 a9 x0 x1 x2 x3 x4 x5 s1 9) _ shapeCasts_S512x192_S512x192 _ rfl (by sl_kernel_rfl) rfl h9
  have h11 : scM1.view.read (Elt Ideal) (scM1.view.writes (Elt Ideal) scM1.view.junk (runB.sl.HS1_11 i a4 a5 a6 a7 a8 a9 x0 x1 x2 x3 x4 x5 s1)) = kF i a4 a5 a6 a7 a8 a9 x0 x1 x2 x3 x4 x5 s1 11 :=
    step_add scM1.view scM1.view.junk (512 * (tF 10).2.val) _ (dkF i a4 a5 a6 a7 a8 a9 x0 x1 x2 x3 x4 x5 (tF 10).1 (tF 10).2) (runB.sl.HS1_10 i a4 a5 a6 a7 a8 a9 x0 x1 x2 x3 x4 x5 s1) (kF i a4 a5 a6 a7 a8 a9 x0 x1 x2 x3 x4 x5 s1 10) _ shapeCasts_S512x192_S512x192 _ rfl (by sl_kernel_rfl) rfl h10
  have h12 : scM1.view.read (Elt Ideal) (scM1.view.writes (Elt Ideal) scM1.view.junk (runB.sl.HS1_12 i a4 a5 a6 a7 a8 a9 x0 x1 x2 x3 x4 x5 s1)) = kF i a4 a5 a6 a7 a8 a9 x0 x1 x2 x3 x4 x5 s1 12 :=
    step_add scM1.view scM1.view.junk (512 * (tF 11).2.val) _ (dkF i a4 a5 a6 a7 a8 a9 x0 x1 x2 x3 x4 x5 (tF 11).1 (tF 11).2) (runB.sl.HS1_11 i a4 a5 a6 a7 a8 a9 x0 x1 x2 x3 x4 x5 s1) (kF i a4 a5 a6 a7 a8 a9 x0 x1 x2 x3 x4 x5 s1 11) _ shapeCasts_S512x192_S512x192 _ rfl (by sl_kernel_rfl) rfl h11
  have h13 : scM1.view.read (Elt Ideal) (scM1.view.writes (Elt Ideal) scM1.view.junk (runB.sl.HS1_13 i a4 a5 a6 a7 a8 a9 x0 x1 x2 x3 x4 x5 s1)) = kF i a4 a5 a6 a7 a8 a9 x0 x1 x2 x3 x4 x5 s1 13 :=
    step_add scM1.view scM1.view.junk (512 * (tF 12).2.val) _ (dkF i a4 a5 a6 a7 a8 a9 x0 x1 x2 x3 x4 x5 (tF 12).1 (tF 12).2) (runB.sl.HS1_12 i a4 a5 a6 a7 a8 a9 x0 x1 x2 x3 x4 x5 s1) (kF i a4 a5 a6 a7 a8 a9 x0 x1 x2 x3 x4 x5 s1 12) _ shapeCasts_S512x192_S512x192 _ rfl (by sl_kernel_rfl) rfl h12
  have h14 : scM1.view.read (Elt Ideal) (scM1.view.writes (Elt Ideal) scM1.view.junk (runB.sl.HS1_14 i a4 a5 a6 a7 a8 a9 x0 x1 x2 x3 x4 x5 s1)) = kF i a4 a5 a6 a7 a8 a9 x0 x1 x2 x3 x4 x5 s1 14 :=
    step_add scM1.view scM1.view.junk (512 * (tF 13).2.val) _ (dkF i a4 a5 a6 a7 a8 a9 x0 x1 x2 x3 x4 x5 (tF 13).1 (tF 13).2) (runB.sl.HS1_13 i a4 a5 a6 a7 a8 a9 x0 x1 x2 x3 x4 x5 s1) (kF i a4 a5 a6 a7 a8 a9 x0 x1 x2 x3 x4 x5 s1 13) _ shapeCasts_S512x192_S512x192 _ rfl (by sl_kernel_rfl) rfl h13
  have h15 : scM1.view.read (Elt Ideal) (scM1.view.writes (Elt Ideal) scM1.view.junk (runB.sl.HS1_15 i a4 a5 a6 a7 a8 a9 x0 x1 x2 x3 x4 x5 s1)) = kF i a4 a5 a6 a7 a8 a9 x0 x1 x2 x3 x4 x5 s1 15 :=
    step_add scM1.view scM1.view.junk (512 * (tF 14).2.val) _ (dkF i a4 a5 a6 a7 a8 a9 x0 x1 x2 x3 x4 x5 (tF 14).1 (tF 14).2) (runB.sl.HS1_14 i a4 a5 a6 a7 a8 a9 x0 x1 x2 x3 x4 x5 s1) (kF i a4 a5 a6 a7 a8 a9 x0 x1 x2 x3 x4 x5 s1 14) _ shapeCasts_S512x192_S512x192 _ rfl (by sl_kernel_rfl) rfl h14
  have h16 : scM1.view.read (Elt Ideal) (scM1.view.writes (Elt Ideal) scM1.view.junk (runB.sl.HS1_16 i a4 a5 a6 a7 a8 a9 x0 x1 x2 x3 x4 x5 s1)) = kF i a4 a5 a6 a7 a8 a9 x0 x1 x2 x3 x4 x5 s1 16 :=
    step_add scM1.view scM1.view.junk (512 * (tF 15).2.val) _ (dkF i a4 a5 a6 a7 a8 a9 x0 x1 x2 x3 x4 x5 (tF 15).1 (tF 15).2) (runB.sl.HS1_15 i a4 a5 a6 a7 a8 a9 x0 x1 x2 x3 x4 x5 s1) (kF i a4 a5 a6 a7 a8 a9 x0 x1 x2 x3 x4 x5 s1 15) _ shapeCasts_S512x192_S512x192 _ rfl (by sl_kernel_rfl) rfl h15
  exact h16

/-- The accumulator's pieces of the middle pair, read. -/
theorem runB_HS2 (s2 : Acc2) : scM2.view.read (Elt Ideal) (scM2.view.writes (Elt Ideal) scM2.view.junk (runB.sl.HS2_16 a4 a5 a7 a8 x0 x1 x3 x4 s2)) = vF a4 a5 a7 a8 x0 x1 x3 x4 s2 16 := by
  have h0 : scM2.view.read (Elt Ideal) (scM2.view.writes (Elt Ideal) s2 (List.drop 4 (runB.sl.HS2_4 a4 a5 a7 a8 x0 x1 x3 x4 s2))) = vF a4 a5 a7 a8 x0 x1 x3 x4 s2 0 := rfl
  have h1 : scM2.view.read (Elt Ideal) (scM2.view.writes (Elt Ideal) s2 (List.drop 3 (runB.sl.HS2_4 a4 a5 a7 a8 x0 x1 x3 x4 s2))) = vF a4 a5 a7 a8 x0 x1 x3 x4 s2 1 :=
    step_add scM2.view s2 (512 * (tF 0).2.val) _ (dvF a4 a5 a7 a8 x0 x1 x3 x4 (tF 0).1 (tF 0).2) (List.drop 4 (runB.sl.HS2_4 a4 a5 a7 a8 x0 x1 x3 x4 s2)) (vF a4 a5 a7 a8 x0 x1 x3 x4 s2 0) _ shapeCasts_S512x128_S512x128 (View.readAt (Elt Ideal) scM2.view (Rect.unit (s := S2048x128) ![512 * (tF 0).2.val, 0] S512x128.size (inbRb (tF 0).2)).toLoadRect s2) rfl (by sl_kernel_rfl) (View.readAt_writes_of_forall_not_mem scM2.view s2 (List.drop 4 (runB.sl.HS2_4 a4 a5 a7 a8 x0 x1 x3 x4 s2)) _ (LoadRect.forall_not_mem_of_disjAll (List.drop 4 (runB.sl.HS2_4 a4 a5 a7 a8 x0 x1 x3 x4 s2)) _ (by sl_kernel_rfl))).symm h0
  have h2 : scM2.view.read (Elt Ideal) (scM2.view.writes (Elt Ideal) s2 (List.drop 2 (runB.sl.HS2_4 a4 a5 a7 a8 x0 x1 x3 x4 s2))) = vF a4 a5 a7 a8 x0 x1 x3 x4 s2 2 :=
    step_add scM2.view s2 (512 * (tF 1).2.val) _ (dvF a4 a5 a7 a8 x0 x1 x3 x4 (tF 1).1 (tF 1).2) (List.drop 3 (runB.sl.HS2_4 a4 a5 a7 a8 x0 x1 x3 x4 s2)) (vF a4 a5 a7 a8 x0 x1 x3 x4 s2 1) _ shapeCasts_S512x128_S512x128 (View.readAt (Elt Ideal) scM2.view (Rect.unit (s := S2048x128) ![512 * (tF 1).2.val, 0] S512x128.size (inbRb (tF 1).2)).toLoadRect s2) rfl (by sl_kernel_rfl) (View.readAt_writes_of_forall_not_mem scM2.view s2 (List.drop 3 (runB.sl.HS2_4 a4 a5 a7 a8 x0 x1 x3 x4 s2)) _ (LoadRect.forall_not_mem_of_disjAll (List.drop 3 (runB.sl.HS2_4 a4 a5 a7 a8 x0 x1 x3 x4 s2)) _ (by sl_kernel_rfl))).symm h1
  have h3 : scM2.view.read (Elt Ideal) (scM2.view.writes (Elt Ideal) s2 (List.drop 1 (runB.sl.HS2_4 a4 a5 a7 a8 x0 x1 x3 x4 s2))) = vF a4 a5 a7 a8 x0 x1 x3 x4 s2 3 :=
    step_add scM2.view s2 (512 * (tF 2).2.val) _ (dvF a4 a5 a7 a8 x0 x1 x3 x4 (tF 2).1 (tF 2).2) (List.drop 2 (runB.sl.HS2_4 a4 a5 a7 a8 x0 x1 x3 x4 s2)) (vF a4 a5 a7 a8 x0 x1 x3 x4 s2 2) _ shapeCasts_S512x128_S512x128 (View.readAt (Elt Ideal) scM2.view (Rect.unit (s := S2048x128) ![512 * (tF 2).2.val, 0] S512x128.size (inbRb (tF 2).2)).toLoadRect s2) rfl (by sl_kernel_rfl) (View.readAt_writes_of_forall_not_mem scM2.view s2 (List.drop 2 (runB.sl.HS2_4 a4 a5 a7 a8 x0 x1 x3 x4 s2)) _ (LoadRect.forall_not_mem_of_disjAll (List.drop 2 (runB.sl.HS2_4 a4 a5 a7 a8 x0 x1 x3 x4 s2)) _ (by sl_kernel_rfl))).symm h2
  have h4 : scM2.view.read (Elt Ideal) (scM2.view.writes (Elt Ideal) s2 (List.drop 0 (runB.sl.HS2_4 a4 a5 a7 a8 x0 x1 x3 x4 s2))) = vF a4 a5 a7 a8 x0 x1 x3 x4 s2 4 :=
    step_add scM2.view s2 (512 * (tF 3).2.val) _ (dvF a4 a5 a7 a8 x0 x1 x3 x4 (tF 3).1 (tF 3).2) (List.drop 1 (runB.sl.HS2_4 a4 a5 a7 a8 x0 x1 x3 x4 s2)) (vF a4 a5 a7 a8 x0 x1 x3 x4 s2 3) _ shapeCasts_S512x128_S512x128 (View.readAt (Elt Ideal) scM2.view (Rect.unit (s := S2048x128) ![512 * (tF 3).2.val, 0] S512x128.size (inbRb (tF 3).2)).toLoadRect s2) rfl (by sl_kernel_rfl) (View.readAt_writes_of_forall_not_mem scM2.view s2 (List.drop 1 (runB.sl.HS2_4 a4 a5 a7 a8 x0 x1 x3 x4 s2)) _ (LoadRect.forall_not_mem_of_disjAll (List.drop 1 (runB.sl.HS2_4 a4 a5 a7 a8 x0 x1 x3 x4 s2)) _ (by sl_kernel_rfl))).symm h3
  replace h4 : scM2.view.read (Elt Ideal) (scM2.view.writes (Elt Ideal) scM2.view.junk (runB.sl.HS2_4 a4 a5 a7 a8 x0 x1 x3 x4 s2)) = vF a4 a5 a7 a8 x0 x1 x3 x4 s2 4 :=
    (funext fun y => View.read_writes_apply_eq scM2.view scM2.view.junk scM2.view s2 y (runB.sl.HS2_4 a4 a5 a7 a8 x0 x1 x3 x4 s2) (View.cover_of_tiled (runB.sl.HS2_4 a4 a5 a7 a8 x0 x1 x3 x4 s2) S512x128.size (by sl_kernel_rfl) y)).trans h4
  have h5 : scM2.view.read (Elt Ideal) (scM2.view.writes (Elt Ideal) scM2.view.junk (runB.sl.HS2_5 a4 a5 a7 a8 x0 x1 x3 x4 s2)) = vF a4 a5 a7 a8 x0 x1 x3 x4 s2 5 :=
    step_add scM2.view scM2.view.junk (512 * (tF 4).2.val) _ (dvF a4 a5 a7 a8 x0 x1 x3 x4 (tF 4).1 (tF 4).2) (runB.sl.HS2_4 a4 a5 a7 a8 x0 x1 x3 x4 s2) (vF a4 a5 a7 a8 x0 x1 x3 x4 s2 4) _ shapeCasts_S512x128_S512x128 _ rfl (by sl_kernel_rfl) rfl h4
  have h6 : scM2.view.read (Elt Ideal) (scM2.view.writes (Elt Ideal) scM2.view.junk (runB.sl.HS2_6 a4 a5 a7 a8 x0 x1 x3 x4 s2)) = vF a4 a5 a7 a8 x0 x1 x3 x4 s2 6 :=
    step_add scM2.view scM2.view.junk (512 * (tF 5).2.val) _ (dvF a4 a5 a7 a8 x0 x1 x3 x4 (tF 5).1 (tF 5).2) (runB.sl.HS2_5 a4 a5 a7 a8 x0 x1 x3 x4 s2) (vF a4 a5 a7 a8 x0 x1 x3 x4 s2 5) _ shapeCasts_S512x128_S512x128 _ rfl (by sl_kernel_rfl) rfl h5
  have h7 : scM2.view.read (Elt Ideal) (scM2.view.writes (Elt Ideal) scM2.view.junk (runB.sl.HS2_7 a4 a5 a7 a8 x0 x1 x3 x4 s2)) = vF a4 a5 a7 a8 x0 x1 x3 x4 s2 7 :=
    step_add scM2.view scM2.view.junk (512 * (tF 6).2.val) _ (dvF a4 a5 a7 a8 x0 x1 x3 x4 (tF 6).1 (tF 6).2) (runB.sl.HS2_6 a4 a5 a7 a8 x0 x1 x3 x4 s2) (vF a4 a5 a7 a8 x0 x1 x3 x4 s2 6) _ shapeCasts_S512x128_S512x128 _ rfl (by sl_kernel_rfl) rfl h6
  have h8 : scM2.view.read (Elt Ideal) (scM2.view.writes (Elt Ideal) scM2.view.junk (runB.sl.HS2_8 a4 a5 a7 a8 x0 x1 x3 x4 s2)) = vF a4 a5 a7 a8 x0 x1 x3 x4 s2 8 :=
    step_add scM2.view scM2.view.junk (512 * (tF 7).2.val) _ (dvF a4 a5 a7 a8 x0 x1 x3 x4 (tF 7).1 (tF 7).2) (runB.sl.HS2_7 a4 a5 a7 a8 x0 x1 x3 x4 s2) (vF a4 a5 a7 a8 x0 x1 x3 x4 s2 7) _ shapeCasts_S512x128_S512x128 _ rfl (by sl_kernel_rfl) rfl h7
  have h9 : scM2.view.read (Elt Ideal) (scM2.view.writes (Elt Ideal) scM2.view.junk (runB.sl.HS2_9 a4 a5 a7 a8 x0 x1 x3 x4 s2)) = vF a4 a5 a7 a8 x0 x1 x3 x4 s2 9 :=
    step_add scM2.view scM2.view.junk (512 * (tF 8).2.val) _ (dvF a4 a5 a7 a8 x0 x1 x3 x4 (tF 8).1 (tF 8).2) (runB.sl.HS2_8 a4 a5 a7 a8 x0 x1 x3 x4 s2) (vF a4 a5 a7 a8 x0 x1 x3 x4 s2 8) _ shapeCasts_S512x128_S512x128 _ rfl (by sl_kernel_rfl) rfl h8
  have h10 : scM2.view.read (Elt Ideal) (scM2.view.writes (Elt Ideal) scM2.view.junk (runB.sl.HS2_10 a4 a5 a7 a8 x0 x1 x3 x4 s2)) = vF a4 a5 a7 a8 x0 x1 x3 x4 s2 10 :=
    step_add scM2.view scM2.view.junk (512 * (tF 9).2.val) _ (dvF a4 a5 a7 a8 x0 x1 x3 x4 (tF 9).1 (tF 9).2) (runB.sl.HS2_9 a4 a5 a7 a8 x0 x1 x3 x4 s2) (vF a4 a5 a7 a8 x0 x1 x3 x4 s2 9) _ shapeCasts_S512x128_S512x128 _ rfl (by sl_kernel_rfl) rfl h9
  have h11 : scM2.view.read (Elt Ideal) (scM2.view.writes (Elt Ideal) scM2.view.junk (runB.sl.HS2_11 a4 a5 a7 a8 x0 x1 x3 x4 s2)) = vF a4 a5 a7 a8 x0 x1 x3 x4 s2 11 :=
    step_add scM2.view scM2.view.junk (512 * (tF 10).2.val) _ (dvF a4 a5 a7 a8 x0 x1 x3 x4 (tF 10).1 (tF 10).2) (runB.sl.HS2_10 a4 a5 a7 a8 x0 x1 x3 x4 s2) (vF a4 a5 a7 a8 x0 x1 x3 x4 s2 10) _ shapeCasts_S512x128_S512x128 _ rfl (by sl_kernel_rfl) rfl h10
  have h12 : scM2.view.read (Elt Ideal) (scM2.view.writes (Elt Ideal) scM2.view.junk (runB.sl.HS2_12 a4 a5 a7 a8 x0 x1 x3 x4 s2)) = vF a4 a5 a7 a8 x0 x1 x3 x4 s2 12 :=
    step_add scM2.view scM2.view.junk (512 * (tF 11).2.val) _ (dvF a4 a5 a7 a8 x0 x1 x3 x4 (tF 11).1 (tF 11).2) (runB.sl.HS2_11 a4 a5 a7 a8 x0 x1 x3 x4 s2) (vF a4 a5 a7 a8 x0 x1 x3 x4 s2 11) _ shapeCasts_S512x128_S512x128 _ rfl (by sl_kernel_rfl) rfl h11
  have h13 : scM2.view.read (Elt Ideal) (scM2.view.writes (Elt Ideal) scM2.view.junk (runB.sl.HS2_13 a4 a5 a7 a8 x0 x1 x3 x4 s2)) = vF a4 a5 a7 a8 x0 x1 x3 x4 s2 13 :=
    step_add scM2.view scM2.view.junk (512 * (tF 12).2.val) _ (dvF a4 a5 a7 a8 x0 x1 x3 x4 (tF 12).1 (tF 12).2) (runB.sl.HS2_12 a4 a5 a7 a8 x0 x1 x3 x4 s2) (vF a4 a5 a7 a8 x0 x1 x3 x4 s2 12) _ shapeCasts_S512x128_S512x128 _ rfl (by sl_kernel_rfl) rfl h12
  have h14 : scM2.view.read (Elt Ideal) (scM2.view.writes (Elt Ideal) scM2.view.junk (runB.sl.HS2_14 a4 a5 a7 a8 x0 x1 x3 x4 s2)) = vF a4 a5 a7 a8 x0 x1 x3 x4 s2 14 :=
    step_add scM2.view scM2.view.junk (512 * (tF 13).2.val) _ (dvF a4 a5 a7 a8 x0 x1 x3 x4 (tF 13).1 (tF 13).2) (runB.sl.HS2_13 a4 a5 a7 a8 x0 x1 x3 x4 s2) (vF a4 a5 a7 a8 x0 x1 x3 x4 s2 13) _ shapeCasts_S512x128_S512x128 _ rfl (by sl_kernel_rfl) rfl h13
  have h15 : scM2.view.read (Elt Ideal) (scM2.view.writes (Elt Ideal) scM2.view.junk (runB.sl.HS2_15 a4 a5 a7 a8 x0 x1 x3 x4 s2)) = vF a4 a5 a7 a8 x0 x1 x3 x4 s2 15 :=
    step_add scM2.view scM2.view.junk (512 * (tF 14).2.val) _ (dvF a4 a5 a7 a8 x0 x1 x3 x4 (tF 14).1 (tF 14).2) (runB.sl.HS2_14 a4 a5 a7 a8 x0 x1 x3 x4 s2) (vF a4 a5 a7 a8 x0 x1 x3 x4 s2 14) _ shapeCasts_S512x128_S512x128 _ rfl (by sl_kernel_rfl) rfl h14
  have h16 : scM2.view.read (Elt Ideal) (scM2.view.writes (Elt Ideal) scM2.view.junk (runB.sl.HS2_16 a4 a5 a7 a8 x0 x1 x3 x4 s2)) = vF a4 a5 a7 a8 x0 x1 x3 x4 s2 16 :=
    step_add scM2.view scM2.view.junk (512 * (tF 15).2.val) _ (dvF a4 a5 a7 a8 x0 x1 x3 x4 (tF 15).1 (tF 15).2) (runB.sl.HS2_15 a4 a5 a7 a8 x0 x1 x3 x4 s2) (vF a4 a5 a7 a8 x0 x1 x3 x4 s2 15) _ shapeCasts_S512x128_S512x128 _ rfl (by sl_kernel_rfl) rfl h15
  exact h16

/-- The accumulator of queries after a point, up to its last rows of tiles. -/
theorem runA_HS0 (e0 : k0_chk1 (w0 T0 i) (w1 T1 i)) (e2 : k0_cond2 (w0 T0 i) (w1 T1 i) = 1#1) (hT : w0 T0 i = BitVec.ofNat 32 0) :
    scM0.view.read (Elt Ideal) (scM0.view.writes (Elt Ideal) scM0.view.junk (runA.sl.HS0_4 i T0 T1 a4 a5 a6 a7 a8 a9 x0 x1 x2 x3 x4 x5 e0 e2)) = qD i a4 a5 a6 a7 a8 a9 x0 x1 x2 x3 x4 x5 0 (fun _ => 0) 3 := by
  have h0 : scM0.view.read (Elt Ideal) (scM0.view.writes (Elt Ideal) scM0.view.junk runA.sl.HS0_1) = qD i a4 a5 a6 a7 a8 a9 x0 x1 x2 x3 x4 x5 0 (fun _ => 0) 0 := (View.read_writes_full scM0.view _ _ _ []).trans zero0
  have h1 : scM0.view.read (Elt Ideal) (scM0.view.writes (Elt Ideal) scM0.view.junk (runA.sl.HS0_2 i T0 T1 a4 a5 a6 a7 a8 a9 x0 x1 x2 x3 x4 x5 e0 e2)) = qD i a4 a5 a6 a7 a8 a9 x0 x1 x2 x3 x4 x5 0 (fun _ => 0) 1 :=
    step_add scM0.view scM0.view.junk (2048 * 0 + 512 * (Fin.ofNat 4 0).val) _ (dqD i a4 a5 a6 a7 a8 a9 x0 x1 x2 x3 x4 x5 (Fin.ofNat 4 0)) runA.sl.HS0_1 (qD i a4 a5 a6 a7 a8 a9 x0 x1 x2 x3 x4 x5 0 (fun _ => 0) 0) _ shapeCasts_S512x192_S512x192 _ (off3_eq _ 0 (by decide) hT (Fin.ofNat 4 0)) (by sl_kernel_rfl) rfl h0
  have h2 : scM0.view.read (Elt Ideal) (scM0.view.writes (Elt Ideal) scM0.view.junk (runA.sl.HS0_3 i T0 T1 a4 a5 a6 a7 a8 a9 x0 x1 x2 x3 x4 x5 e0 e2)) = qD i a4 a5 a6 a7 a8 a9 x0 x1 x2 x3 x4 x5 0 (fun _ => 0) 2 :=
    step_add scM0.view scM0.view.junk (2048 * 0 + 512 * (Fin.ofNat 4 1).val) _ (dqD i a4 a5 a6 a7 a8 a9 x0 x1 x2 x3 x4 x5 (Fin.ofNat 4 1)) (runA.sl.HS0_2 i T0 T1 a4 a5 a6 a7 a8 a9 x0 x1 x2 x3 x4 x5 e0 e2) (qD i a4 a5 a6 a7 a8 a9 x0 x1 x2 x3 x4 x5 0 (fun _ => 0) 1) _ shapeCasts_S512x192_S512x192 _ (off3_eq _ 0 (by decide) hT (Fin.ofNat 4 1)) (by sl_kernel_rfl) rfl h1
  have h3 : scM0.view.read (Elt Ideal) (scM0.view.writes (Elt Ideal) scM0.view.junk (runA.sl.HS0_4 i T0 T1 a4 a5 a6 a7 a8 a9 x0 x1 x2 x3 x4 x5 e0 e2)) = qD i a4 a5 a6 a7 a8 a9 x0 x1 x2 x3 x4 x5 0 (fun _ => 0) 3 :=
    step_add scM0.view scM0.view.junk (2048 * 0 + 512 * (Fin.ofNat 4 2).val) _ (dqD i a4 a5 a6 a7 a8 a9 x0 x1 x2 x3 x4 x5 (Fin.ofNat 4 2)) (runA.sl.HS0_3 i T0 T1 a4 a5 a6 a7 a8 a9 x0 x1 x2 x3 x4 x5 e0 e2) (qD i a4 a5 a6 a7 a8 a9 x0 x1 x2 x3 x4 x5 0 (fun _ => 0) 2) _ shapeCasts_S512x192_S512x192 _ (off3_eq _ 0 (by decide) hT (Fin.ofNat 4 2)) (by sl_kernel_rfl) rfl h2
  exact h3

/-- The accumulator of queries after a point, up to its last rows of tiles. -/
theorem runB_HS0 (s0 : Acc0) (e0 : k0_chk1 (w0 T0 i) (w1 T1 i)) (e3 : k0_cond3 (w0 T0 i) (w1 T1 i) = 1#1) (hT : w0 T0 i = 1#32) :
    scM0.view.read (Elt Ideal) (scM0.view.writes (Elt Ideal) s0 (runB.sl.HS0_3 i T0 T1 a4 a5 a6 a7 a8 a9 x0 x1 x2 x3 x4 x5 s0 e0 e3)) = qF i a4 a5 a6 a7 a8 a9 x0 x1 x2 x3 x4 x5 1 (s0) 3 := by
  have h0 : scM0.view.read (Elt Ideal) (scM0.view.writes (Elt Ideal) s0 []) = qF i a4 a5 a6 a7 a8 a9 x0 x1 x2 x3 x4 x5 1 (s0) 0 := rfl
  have h1 : scM0.view.read (Elt Ideal) (scM0.view.writes (Elt Ideal) s0 (runB.sl.HS0_1 i T0 T1 a4 a5 a6 a7 a8 a9 x0 x1 x2 x3 x4 x5 s0 e0 e3)) = qF i a4 a5 a6 a7 a8 a9 x0 x1 x2 x3 x4 x5 1 (s0) 1 :=
    step_add scM0.view s0 (2048 * 1 + 512 * (Fin.ofNat 4 0).val) _ (dqF i a4 a5 a6 a7 a8 a9 x0 x1 x2 x3 x4 x5 (Fin.ofNat 4 0)) [] (qF i a4 a5 a6 a7 a8 a9 x0 x1 x2 x3 x4 x5 1 (s0) 0) _ shapeCasts_S512x192_S512x192 _ (off8_eq _ hT (Fin.ofNat 4 0)) (by sl_kernel_rfl) rfl h0
  have h2 : scM0.view.read (Elt Ideal) (scM0.view.writes (Elt Ideal) s0 (runB.sl.HS0_2 i T0 T1 a4 a5 a6 a7 a8 a9 x0 x1 x2 x3 x4 x5 s0 e0 e3)) = qF i a4 a5 a6 a7 a8 a9 x0 x1 x2 x3 x4 x5 1 (s0) 2 :=
    step_add scM0.view s0 (2048 * 1 + 512 * (Fin.ofNat 4 1).val) _ (dqF i a4 a5 a6 a7 a8 a9 x0 x1 x2 x3 x4 x5 (Fin.ofNat 4 1)) (runB.sl.HS0_1 i T0 T1 a4 a5 a6 a7 a8 a9 x0 x1 x2 x3 x4 x5 s0 e0 e3) (qF i a4 a5 a6 a7 a8 a9 x0 x1 x2 x3 x4 x5 1 (s0) 1) _ shapeCasts_S512x192_S512x192 _ (off8_eq _ hT (Fin.ofNat 4 1)) (by sl_kernel_rfl) rfl h1
  have h3 : scM0.view.read (Elt Ideal) (scM0.view.writes (Elt Ideal) s0 (runB.sl.HS0_3 i T0 T1 a4 a5 a6 a7 a8 a9 x0 x1 x2 x3 x4 x5 s0 e0 e3)) = qF i a4 a5 a6 a7 a8 a9 x0 x1 x2 x3 x4 x5 1 (s0) 3 :=
    step_add scM0.view s0 (2048 * 1 + 512 * (Fin.ofNat 4 2).val) _ (dqF i a4 a5 a6 a7 a8 a9 x0 x1 x2 x3 x4 x5 (Fin.ofNat 4 2)) (runB.sl.HS0_2 i T0 T1 a4 a5 a6 a7 a8 a9 x0 x1 x2 x3 x4 x5 s0 e0 e3) (qF i a4 a5 a6 a7 a8 a9 x0 x1 x2 x3 x4 x5 1 (s0) 2) _ shapeCasts_S512x192_S512x192 _ (off8_eq _ hT (Fin.ofNat 4 2)) (by sl_kernel_rfl) rfl h2
  exact h3

/-- The accumulator of queries after a point, up to its last rows of tiles. -/
theorem runC_HS0 (s0 : Acc0) (e0 : k0_chk1 (w0 T0 i) (w1 T1 i)) (e2 : k0_cond2 (w0 T0 i) (w1 T1 i) = 1#1) (hT : w0 T0 i = BitVec.ofNat 32 1) :
    scM0.view.read (Elt Ideal) (scM0.view.writes (Elt Ideal) s0 (runC.sl.HS0_3 i T0 T1 a4 a5 a6 a7 a8 a9 x0 x1 x2 x3 x4 x5 s0 e0 e2)) = qD i a4 a5 a6 a7 a8 a9 x0 x1 x2 x3 x4 x5 1 (s0) 3 := by
  have h0 : scM0.view.read (Elt Ideal) (scM0.view.writes (Elt Ideal) s0 []) = qD i a4 a5 a6 a7 a8 a9 x0 x1 x2 x3 x4 x5 1 (s0) 0 := rfl
  have h1 : scM0.view.read (Elt Ideal) (scM0.view.writes (Elt Ideal) s0 (runC.sl.HS0_1 i T0 T1 a4 a5 a6 a7 a8 a9 x0 x1 x2 x3 x4 x5 s0 e0 e2)) = qD i a4 a5 a6 a7 a8 a9 x0 x1 x2 x3 x4 x5 1 (s0) 1 :=
    step_add scM0.view s0 (2048 * 1 + 512 * (Fin.ofNat 4 0).val) _ (dqD i a4 a5 a6 a7 a8 a9 x0 x1 x2 x3 x4 x5 (Fin.ofNat 4 0)) [] (qD i a4 a5 a6 a7 a8 a9 x0 x1 x2 x3 x4 x5 1 (s0) 0) _ shapeCasts_S512x192_S512x192 _ (off3_eq _ 1 (by decide) hT (Fin.ofNat 4 0)) (by sl_kernel_rfl) rfl h0
  have h2 : scM0.view.read (Elt Ideal) (scM0.view.writes (Elt Ideal) s0 (runC.sl.HS0_2 i T0 T1 a4 a5 a6 a7 a8 a9 x0 x1 x2 x3 x4 x5 s0 e0 e2)) = qD i a4 a5 a6 a7 a8 a9 x0 x1 x2 x3 x4 x5 1 (s0) 2 :=
    step_add scM0.view s0 (2048 * 1 + 512 * (Fin.ofNat 4 1).val) _ (dqD i a4 a5 a6 a7 a8 a9 x0 x1 x2 x3 x4 x5 (Fin.ofNat 4 1)) (runC.sl.HS0_1 i T0 T1 a4 a5 a6 a7 a8 a9 x0 x1 x2 x3 x4 x5 s0 e0 e2) (qD i a4 a5 a6 a7 a8 a9 x0 x1 x2 x3 x4 x5 1 (s0) 1) _ shapeCasts_S512x192_S512x192 _ (off3_eq _ 1 (by decide) hT (Fin.ofNat 4 1)) (by sl_kernel_rfl) rfl h1
  have h3 : scM0.view.read (Elt Ideal) (scM0.view.writes (Elt Ideal) s0 (runC.sl.HS0_3 i T0 T1 a4 a5 a6 a7 a8 a9 x0 x1 x2 x3 x4 x5 s0 e0 e2)) = qD i a4 a5 a6 a7 a8 a9 x0 x1 x2 x3 x4 x5 1 (s0) 3 :=
    step_add scM0.view s0 (2048 * 1 + 512 * (Fin.ofNat 4 2).val) _ (dqD i a4 a5 a6 a7 a8 a9 x0 x1 x2 x3 x4 x5 (Fin.ofNat 4 2)) (runC.sl.HS0_2 i T0 T1 a4 a5 a6 a7 a8 a9 x0 x1 x2 x3 x4 x5 s0 e0 e2) (qD i a4 a5 a6 a7 a8 a9 x0 x1 x2 x3 x4 x5 1 (s0) 2) _ shapeCasts_S512x192_S512x192 _ (off3_eq _ 1 (by decide) hT (Fin.ofNat 4 2)) (by sl_kernel_rfl) rfl h2
  exact h3

end Cert.AttnKernelIdeal

end
-- ==== Proof.IdealPoint.lean ====
module

public import proofs.«01_k».proof.Proof.IdealTile

/-!
# The tiles of a block, entry by entry

Each part of a tile at a row and a column, as a formula in the entries of the blocks, and the rows the accumulators hold after
a pair of blocks: sums over the 2048 queries, or the 2048 keys, of the pair.
-/

@[expose] public section

set_option maxRecDepth 16384
set_option Elab.async false

noncomputable section

namespace Cert.AttnKernelIdeal

open Cert.KernelIdeal Cert.KernelIdeal.Gen
open Idealize.ShloMosaic
open Idealize.ShloMosaic.TcCoe Idealize.ShloMosaic.Tactic

/-- The constants the kernel multiplies by. -/
abbrev cScale : EReal := (Named.named κ "scale" 0x3D93CD3A#32 : Ideal .f32)
abbrev cLog2e : EReal := (Named.named κ "log2e" 0x3FB8AA3B#32 : Ideal .f32)
abbrev cScaleLog2e : EReal := (Named.named κ "scale_log2e" 0x3DD53B95#32 : Ideal .f32)

theorem pF_at (qv : Vec Ideal S1x512x192 .bf16) (lv : Vec Ideal S1x1x512 .f32) (kv : Vec Ideal S1x512x192 .bf16) (k q : Fin 512) :
    pF qv lv kv (ix2 k q) = Ideal.exp2 ((∑ d : Fin 192, kv (ix3 0 k d) * qv (ix3 0 q d)) * cScaleLog2e - lv (ix3 0 0 q) * cLog2e) := by
  pointwise [pF, k0_pay15, k0_pay13, k0_pay10]
  rfl

theorem dvP_at (p : FVec Ideal S512x512 .f32) (dov : Vec Ideal S512x128 .f32) (k : Fin 512) (e : Fin 128) :
    dvP p dov (ix2 k e) = ∑ q : Fin 512, p (ix2 k q) * dov (ix2 q e) := by
  pointwise [dvP]

theorem dkP_at (ds : FVec Ideal S512x512 .bf16) (qv : Vec Ideal S1x512x192 .bf16) (k : Fin 512) (d : Fin 192) :
    dkP ds qv (ix2 k d) = ∑ q : Fin 512, ds (ix2 k q) * qv (ix3 0 q d) := by
  pointwise [dkP]

theorem dqP_at (ds : FVec Ideal S512x512 .bf16) (kv : Vec Ideal S1x512x192 .bf16) (q : Fin 512) (d : Fin 192) :
    dqP ds kv (ix2 q d) = ∑ k : Fin 512, ds (ix2 k q) * kv (ix3 0 k d) := by
  pointwise [dqP]

theorem dsP_at (p : FVec Ideal S512x512 .f32) (vv : Vec Ideal S1x512x128 .bf16) (dov : Vec Ideal S512x128 .f32) (dlv : Vec Ideal S1x512 .f32) (k q : Fin 512) :
    dsP p vv dov dlv (ix2 k q) = p (ix2 k q) * ((∑ e : Fin 128, vv (ix3 0 k e) * dov (ix2 q e)) - dlv (ix2 0 q)) * cScale := by
  pointwise [dsP]

theorem sge_iff (o q k : ℕ) (ho : o < 65536) (hq : q < 512) (hk : k < 512) :
    IntOp.cmpi CmpIPredicate.sge (IntOp.addi (BitVec.ofNat 32 o) (BitVec.ofNat 32 q)) (IntOp.addi (BitVec.ofNat 32 o) (BitVec.ofNat 32 k))
      = if k ≤ q then 1#1 else 0#1 := by
  have hx : ∀ n, n < 512 → (BitVec.ofNat 32 o + BitVec.ofNat 32 n).toInt = ((o + n : ℕ) : ℤ) := by
    intro n hn
    rw [← BitVec.ofNat_add, BitVec.toInt_eq_toNat_of_lt (by rw [BitVec.toNat_ofNat, Nat.mod_eq_of_lt (by omega)]; omega), BitVec.toNat_ofNat, Nat.mod_eq_of_lt (by omega)]
  show BitVec.ofBool (BitVec.sle (BitVec.ofNat 32 o + BitVec.ofNat 32 k) (BitVec.ofNat 32 o + BitVec.ofNat 32 q)) = _
  rw [BitVec.sle_eq_decide, hx q hq, hx k hk]
  by_cases h : k ≤ q
  · rw [if_pos h, decide_eq_true (by omega)]; rfl
  · rw [if_neg h, decide_eq_false (by omega)]; rfl

theorem pM_at (a : Fin 4) (p : FVec Ideal S512x512 .f32) (k q : Fin 512) :
    pM (BitVec.ofNat 32 (512 * a.val)) p (ix2 k q) = if k.val ≤ q.val then p (ix2 k q) else 0 := by
  pointwise [pM]
  rw [sge_iff _ _ _ (by omega) q.isLt k.isLt]
  by_cases h : k.val ≤ q.val
  · rw [if_pos h, if_pos h]; rfl
  · rw [if_neg h, if_neg h]; rfl

/-! ## A tile's readings -/

/-- Row `r` of tile `a`. -/
def row (a : Fin 4) (r : Fin 512) : Fin 2048 := ⟨512 * a.val + r.val, by omega⟩

variable (i : grid0.Coords)
  (a4 : Memref sig .tc .vmem S1x2048x192 .bf16) (a5 : Memref sig .tc .vmem S1x2048x192 .bf16)
  (a6 : Memref sig .tc .vmem S1x2048x128 .bf16) (a7 : Memref sig .tc .vmem S2048x128 .f32)
  (a8 : Memref sig .tc .vmem S1x1x2048 .f32) (a9 : Memref sig .tc .vmem S8x2048 .f32)
  (x0 : S1x2048x192.Idx → Elt Ideal .bf16) (x1 : S1x2048x192.Idx → Elt Ideal .bf16) (x2 : S1x2048x128.Idx → Elt Ideal .bf16)
  (x3 : S2048x128.Idx → Elt Ideal .f32) (x4 : S1x1x2048.Idx → Elt Ideal .f32) (x5 : S8x2048.Idx → Elt Ideal .f32)

theorem tq_at (a : Fin 4) (r : Fin 512) (d : Fin 192) : tq a4 x0 a (ix3 0 r d) = x0 (ix3 0 (row a r) d) :=
  (congrFun (View.readAt_rep_unit a4.view x0 (inbA a) rfl (inbA a)) _).trans (congrArg x0 (funext fun j => Fin.ext (by fin_cases j <;> simp [row])))
theorem tk_at (a : Fin 4) (r : Fin 512) (d : Fin 192) : tk a5 x1 a (ix3 0 r d) = x1 (ix3 0 (row a r) d) :=
  (congrFun (View.readAt_rep_unit a5.view x1 (inbA a) rfl (inbA a)) _).trans (congrArg x1 (funext fun j => Fin.ext (by fin_cases j <;> simp [row])))
theorem tv_at (a : Fin 4) (r : Fin 512) (d : Fin 128) : tv a6 x2 a (ix3 0 r d) = x2 (ix3 0 (row a r) d) :=
  (congrFun (View.readAt_rep_unit a6.view x2 (inbV a) rfl (inbV a)) _).trans (congrArg x2 (funext fun j => Fin.ext (by fin_cases j <;> simp [row])))
theorem tg_at (a : Fin 4) (r : Fin 512) (d : Fin 128) : tg a7 x3 a (ix2 r d) = x3 (ix2 (row a r) d) :=
  (congrFun (View.readAt_rep_unit a7.view x3 (inbD a) rfl (inbD a)) _).trans (congrArg x3 (funext fun j => Fin.ext (by fin_cases j <;> simp [row])))
theorem tl_at (a : Fin 4) (r : Fin 512) : tl a8 x4 a (ix3 0 0 r) = x4 (ix3 0 0 (row a r)) :=
  (congrFun (View.readAt_rep_unit a8.view x4 (inbL a) rfl (inbL a)) _).trans (congrArg x4 (funext fun j => Fin.ext (by fin_cases j <;> simp [row])))
theorem offH : ∀ i : grid0.Coords, (Scalar.indexCast (BitVec.ofNat 32 (i 0).val)).toNat = (i 0).val := by decide +kernel
theorem td_at (a : Fin 4) (r : Fin 512) : td i a9 x5 a (ix2 0 r) = x5 (ix2 (i 0) (row a r)) :=
  (congrFun (View.readAt_rep_unit a9.view x5 (inbT i a) rfl (inbT i a)) _).trans (congrArg x5 (funext fun j => Fin.ext (by
    fin_cases j
    · show (Scalar.indexCast (BitVec.ofNat 32 (i 0).val)).toNat + 0 = (i 0).val; rw [offH]; rfl
    · simp [row])))

/-! ## A pair of blocks -/

/-- The probability of key `k` for query `q` of a pair of blocks, the keys after the query dropped on the diagonal (`g`). -/
def pV (g : Bool) (q k : Fin 2048) : EReal :=
  if g = true ∧ q.val < k.val then 0
  else Ideal.exp2 ((∑ d : Fin 192, (show EReal from x1 (ix3 0 k d)) * (show EReal from x0 (ix3 0 q d))) * cScaleLog2e - (show EReal from x4 (ix3 0 0 q)) * cLog2e)

/-- The gradient of its score. -/
def dsV (g : Bool) (q k : Fin 2048) : EReal :=
  pV x0 x1 x4 g q k * ((∑ e : Fin 128, (show EReal from x2 (ix3 0 k e)) * (show EReal from x3 (ix2 q e))) - (show EReal from x5 (ix2 (i 0) q))) * cScale

theorem pFull_at (a b : Fin 4) (k q : Fin 512) : pFull a4 a5 a8 x0 x1 x4 a b (ix2 k q) = pV x0 x1 x4 false (row a q) (row b k) := by
  unfold pFull pV
  rw [pF_at, if_neg (by simp)]
  simp only [tq_at, tk_at, tl_at]

theorem pDiag_at (a b : Fin 4) (h : b.val ≤ a.val) (k q : Fin 512) : pDiag a4 a5 a8 x0 x1 x4 a b (ix2 k q) = pV x0 x1 x4 true (row a q) (row b k) := by
  unfold pDiag
  by_cases hab : a = b
  · subst hab
    rw [if_pos rfl, pM_at, pFull_at]
    unfold pV
    by_cases hk : k.val ≤ q.val
    · rw [if_pos hk, if_neg (by simp), if_neg (by simp only [row]; omega)]
    · rw [if_neg hk, if_pos ⟨rfl, by simp only [row]; omega⟩]
  · rw [if_neg hab, pFull_at]
    unfold pV
    have : b.val < a.val := lt_of_le_of_ne h fun e => hab (Fin.ext e.symm)
    rw [if_neg (by simp), if_neg (by simp only [row]; omega)]

theorem dsD_at (a b : Fin 4) (h : b.val ≤ a.val) (k q : Fin 512) :
    dsD i a4 a5 a6 a7 a8 a9 x0 x1 x2 x3 x4 x5 a b (ix2 k q) = dsV i x0 x1 x2 x3 x4 x5 true (row a q) (row b k) := by
  unfold dsD dsV
  rw [dsP_at, pDiag_at _ _ _ _ _ _ _ _ h]
  simp only [tv_at, tg_at, td_at]

theorem dsF_at (a b : Fin 4) (k q : Fin 512) :
    dsF i a4 a5 a6 a7 a8 a9 x0 x1 x2 x3 x4 x5 a b (ix2 k q) = dsV i x0 x1 x2 x3 x4 x5 false (row a q) (row b k) := by
  unfold dsF dsV
  rw [dsP_at, pFull_at]
  simp only [tv_at, tg_at, td_at]

/-- Above the diagonal there is nothing. -/
theorem pV_zero (a b : Fin 4) (h : a.val < b.val) (k q : Fin 512) : pV x0 x1 x4 true (row a q) (row b k) = 0 := by
  unfold pV; rw [if_pos ⟨rfl, by simp only [row]; omega⟩]
theorem dsV_zero (a b : Fin 4) (h : a.val < b.val) (k q : Fin 512) : dsV i x0 x1 x2 x3 x4 x5 true (row a q) (row b k) = 0 := by
  unfold dsV; rw [pV_zero _ _ _ _ _ h, zero_mul, zero_mul]

/-- A sum over 2048 rows, tile by tile. -/
theorem sum_row (f : Fin 2048 → EReal) : ∑ q, f q = ∑ a : Fin 4, ∑ r : Fin 512, f (row a r) := by
  rw [← Fintype.sum_prod_type' (f := fun (a : Fin 4) (r : Fin 512) => f (row a r))]
  exact (Fintype.sum_equiv (finProdFinEquiv (m := 4) (n := 512)) (fun p => f (row p.1 p.2)) f fun p => congrArg f (Fin.ext (by simp [row, finProdFinEquiv]; omega))).symm

theorem addAt_row {m : ℕ} (a b : Fin 4) (P : (⟨2, ![512, m]⟩ : Shape).Idx → EReal) (f : (⟨2, ![2048, m]⟩ : Shape).Idx → EReal) (r : Fin 512) (d : Fin m) :
    addAt (512 * a.val) P f (ix2 (row b r) d) = if a = b then f (ix2 (row b r) d) + P (ix2 r d) else f (ix2 (row b r) d) := by
  unfold addAt
  by_cases h : a = b
  · subst h
    rw [dif_pos (by simp only [ix2_0, row]; omega), if_pos rfl]
    exact congrArg (f _ + P ·) (by rw [ix2_inj]; exact ⟨Fin.ext (by simp [row]), rfl⟩)
  · have : a.val ≠ b.val := fun e => h (Fin.ext e)
    rw [dif_neg (by simp only [ix2_0, row]; omega), if_neg h]

/-- Row `y` of block `J` of the whole sequence. -/
def row2 (J : Fin 2) (y : Fin 2048) : Fin 4096 := ⟨2048 * J.val + y.val, by omega⟩

theorem addAt_row2 {m : ℕ} (I J : Fin 2) (a b : Fin 4) (P : (⟨2, ![512, m]⟩ : Shape).Idx → EReal) (f : (⟨2, ![4096, m]⟩ : Shape).Idx → EReal) (r : Fin 512) (d : Fin m) :
    addAt (2048 * I.val + 512 * a.val) P f (ix2 (row2 J (row b r)) d)
      = if I = J ∧ a = b then f (ix2 (row2 J (row b r)) d) + P (ix2 r d) else f (ix2 (row2 J (row b r)) d) := by
  unfold addAt
  by_cases h : I = J ∧ a = b
  · obtain ⟨rfl, rfl⟩ := h
    rw [dif_pos (by simp only [ix2_0, row, row2]; omega), if_pos ⟨rfl, rfl⟩]
    exact congrArg (f _ + P ·) (by rw [ix2_inj]; exact ⟨Fin.ext (by simp [row, row2]; omega), rfl⟩)
  · rw [dif_neg (by
      simp only [ix2_0, row, row2]; intro hh
      exact h ⟨Fin.ext (by omega), Fin.ext (by omega)⟩), if_neg h]

/-! ## The accumulators after a pair -/

theorem row_surj (y : Fin 2048) : ∃ b r, y = row b r := ⟨⟨y.val / 512, by omega⟩, ⟨y.val % 512, by omega⟩, Fin.ext (by simp [row]; omega)⟩

/-- Parts that vanish before `b` and are a given function from `b` on, added in order. -/
theorem tri_sum (D : Fin 4 → EReal) (G : Fin 4 → EReal) (b : Fin 4) (hz : ∀ a, a.val < b.val → G a = 0) (hn : ∀ a, b.val ≤ a.val → D a = G a) :
    G 0 + G 1 + G 2 + G 3 = (if b.val ≤ 0 then D 0 else 0) + (if b.val ≤ 1 then D 1 else 0) + (if b.val ≤ 2 then D 2 else 0) + D 3 := by
  have h : ∀ a : Fin 4, G a = if b.val ≤ a.val then D a else 0 := fun a => by
    by_cases hb : b.val ≤ a.val
    · rw [if_pos hb, hn a hb]
    · rw [if_neg hb, hz a (by omega)]
  rw [h 0, h 1, h 2, h 3, if_pos (show b.val ≤ (3 : Fin 4).val by have := b.isLt; show b.val ≤ 3; omega)]
  rfl

theorem kD_at (y : Fin 2048) (d : Fin 192) :
    kD i a4 a5 a6 a7 a8 a9 x0 x1 x2 x3 x4 x5 10 (ix2 y d) = ∑ q : Fin 2048, dsV i x0 x1 x2 x3 x4 x5 true q y * (show EReal from x0 (ix3 0 q d)) := by
  obtain ⟨b, r, rfl⟩ := row_surj y
  rw [sum_row, Fin.sum_univ_four]
  refine Eq.trans ?_ (tri_sum (fun a => dkD i a4 a5 a6 a7 a8 a9 x0 x1 x2 x3 x4 x5 a b (ix2 r d)) (fun a => ∑ q : Fin 512, dsV i x0 x1 x2 x3 x4 x5 true (row a q) (row b r) * (show EReal from x0 (ix3 0 (row a q) d))) b
    (fun a h => Finset.sum_eq_zero fun q _ => by rw [dsV_zero _ _ _ _ _ _ _ _ _ h, zero_mul])
    (fun a h => by show dkP _ _ _ = _; rw [dkP_at]; exact Finset.sum_congr rfl fun q _ => by rw [dsD_at _ _ _ _ _ _ _ _ _ _ _ _ _ _ _ h, tq_at])).symm
  fin_cases b <;> simp only [kD, tD, addAt_row] <;> simp

theorem vD_at (y : Fin 2048) (d : Fin 128) :
    vD a4 a5 a7 a8 x0 x1 x3 x4 10 (ix2 y d) = ∑ q : Fin 2048, pV x0 x1 x4 true q y * (show EReal from x3 (ix2 q d)) := by
  obtain ⟨b, r, rfl⟩ := row_surj y
  rw [sum_row, Fin.sum_univ_four]
  refine Eq.trans ?_ (tri_sum (fun a => dvD a4 a5 a7 a8 x0 x1 x3 x4 a b (ix2 r d)) (fun a => ∑ q : Fin 512, pV x0 x1 x4 true (row a q) (row b r) * (show EReal from x3 (ix2 (row a q) d))) b
    (fun a h => Finset.sum_eq_zero fun q _ => by rw [pV_zero _ _ _ _ _ h, zero_mul])
    (fun a h => by show dvP _ _ _ = _; rw [dvP_at]; exact Finset.sum_congr rfl fun q _ => by rw [pDiag_at _ _ _ _ _ _ _ _ h, tg_at])).symm
  fin_cases b <;> simp only [vD, tD, addAt_row] <;> simp

theorem kF_at (s : Acc1) (y : Fin 2048) (d : Fin 192) :
    kF i a4 a5 a6 a7 a8 a9 x0 x1 x2 x3 x4 x5 s 16 (ix2 y d) = (show EReal from s (ix2 y d)) + ∑ q : Fin 2048, dsV i x0 x1 x2 x3 x4 x5 false q y * (show EReal from x0 (ix3 0 q d)) := by
  obtain ⟨b, r, rfl⟩ := row_surj y
  rw [sum_row, Fin.sum_univ_four]
  have hn : ∀ a, ∑ q : Fin 512, dsV i x0 x1 x2 x3 x4 x5 false (row a q) (row b r) * (show EReal from x0 (ix3 0 (row a q) d)) = dkF i a4 a5 a6 a7 a8 a9 x0 x1 x2 x3 x4 x5 a b (ix2 r d) := fun a => by
    show _ = dkP _ _ _; rw [dkP_at]; exact Finset.sum_congr rfl fun q _ => by rw [dsF_at, tq_at]
  rw [hn, hn, hn, hn]
  fin_cases b <;> simp only [kF, tF, addAt_row] <;> simp [Fin.ofNat, add_assoc]

theorem vF_at (s : Acc2) (y : Fin 2048) (d : Fin 128) :
    vF a4 a5 a7 a8 x0 x1 x3 x4 s 16 (ix2 y d) = (show EReal from s (ix2 y d)) + ∑ q : Fin 2048, pV x0 x1 x4 false q y * (show EReal from x3 (ix2 q d)) := by
  obtain ⟨b, r, rfl⟩ := row_surj y
  rw [sum_row, Fin.sum_univ_four]
  have hn : ∀ a, ∑ q : Fin 512, pV x0 x1 x4 false (row a q) (row b r) * (show EReal from x3 (ix2 (row a q) d)) = dvF a4 a5 a7 a8 x0 x1 x3 x4 a b (ix2 r d) := fun a => by
    show _ = dvP _ _ _; rw [dvP_at]; exact Finset.sum_congr rfl fun q _ => by rw [pFull_at, tg_at]
  rw [hn, hn, hn, hn]
  fin_cases b <;> simp only [vF, tF, addAt_row] <;> simp [Fin.ofNat, add_assoc]

/-- The queries' part of a row of tiles. -/
theorem dqD_at (a : Fin 4) (r : Fin 512) (d : Fin 192) :
    dqD i a4 a5 a6 a7 a8 a9 x0 x1 x2 x3 x4 x5 a (ix2 r d) = ∑ k : Fin 2048, dsV i x0 x1 x2 x3 x4 x5 true (row a r) k * (show EReal from x1 (ix3 0 k d)) := by
  rw [sum_row, Fin.sum_univ_four]
  have hz : ∀ b, a.val < b.val → ∑ k : Fin 512, dsV i x0 x1 x2 x3 x4 x5 true (row a r) (row b k) * (show EReal from x1 (ix3 0 (row b k) d)) = 0 := fun b h =>
    Finset.sum_eq_zero fun q _ => by rw [dsV_zero _ _ _ _ _ _ _ _ _ h, zero_mul]
  have hn : ∀ b, b.val ≤ a.val → ∑ k : Fin 512, dsV i x0 x1 x2 x3 x4 x5 true (row a r) (row b k) * (show EReal from x1 (ix3 0 (row b k) d))
      = dqP (dsD i a4 a5 a6 a7 a8 a9 x0 x1 x2 x3 x4 x5 a b) (tk a5 x1 b) (ix2 r d) := fun b h => by
    rw [dqP_at]; exact Finset.sum_congr rfl fun q _ => by rw [dsD_at _ _ _ _ _ _ _ _ _ _ _ _ _ _ _ h, tk_at]
  have h : ∀ b, ∑ k : Fin 512, dsV i x0 x1 x2 x3 x4 x5 true (row a r) (row b k) * (show EReal from x1 (ix3 0 (row b k) d))
      = if b.val ≤ a.val then dqP (dsD i a4 a5 a6 a7 a8 a9 x0 x1 x2 x3 x4 x5 a b) (tk a5 x1 b) (ix2 r d) else 0 := fun b => by
    by_cases hb : b.val ≤ a.val
    · rw [if_pos hb, hn b hb]
    · rw [if_neg hb, hz b (by omega)]
  rw [h, h, h, h]
  unfold dqD
  fin_cases a <;> simp [sumUpTo, addf, Ideal.addf_def]

theorem dqF_at (a : Fin 4) (r : Fin 512) (d : Fin 192) :
    dqF i a4 a5 a6 a7 a8 a9 x0 x1 x2 x3 x4 x5 a (ix2 r d) = ∑ k : Fin 2048, dsV i x0 x1 x2 x3 x4 x5 false (row a r) k * (show EReal from x1 (ix3 0 k d)) := by
  rw [sum_row, Fin.sum_univ_four]
  have hn : ∀ b, ∑ k : Fin 512, dsV i x0 x1 x2 x3 x4 x5 false (row a r) (row b k) * (show EReal from x1 (ix3 0 (row b k) d))
      = dqP (dsF i a4 a5 a6 a7 a8 a9 x0 x1 x2 x3 x4 x5 a b) (tk a5 x1 b) (ix2 r d) := fun b => by
    rw [dqP_at]; exact Finset.sum_congr rfl fun q _ => by rw [dsF_at, tk_at]
  rw [hn, hn, hn, hn]
  rfl

theorem qD_at (I J : Fin 2) (s : Acc0) (y : Fin 2048) (d : Fin 192) :
    qD i a4 a5 a6 a7 a8 a9 x0 x1 x2 x3 x4 x5 I.val s 4 (ix2 (row2 J y) d)
      = if I = J then (show EReal from s (ix2 (row2 J y) d)) + ∑ k : Fin 2048, dsV i x0 x1 x2 x3 x4 x5 true y k * (show EReal from x1 (ix3 0 k d)) else s (ix2 (row2 J y) d) := by
  obtain ⟨b, r, rfl⟩ := row_surj y
  simp only [qD, addAt_row2]
  rw [← dqD_at i a4 a5 a6 a7 a8 a9]
  by_cases h : I = J
  · rw [if_pos h]; fin_cases b <;> simp [h, Fin.ofNat]
  · simp [h]

theorem qF_at (I J : Fin 2) (s : Acc0) (y : Fin 2048) (d : Fin 192) :
    qF i a4 a5 a6 a7 a8 a9 x0 x1 x2 x3 x4 x5 I.val s 4 (ix2 (row2 J y) d)
      = if I = J then (show EReal from s (ix2 (row2 J y) d)) + ∑ k : Fin 2048, dsV i x0 x1 x2 x3 x4 x5 false y k * (show EReal from x1 (ix3 0 k d)) else s (ix2 (row2 J y) d) := by
  obtain ⟨b, r, rfl⟩ := row_surj y
  simp only [qF, addAt_row2]
  rw [← dqF_at i a4 a5 a6 a7 a8 a9]
  by_cases h : I = J
  · rw [if_pos h]; fin_cases b <;> simp [h, Fin.ofNat]
  · simp [h]
end Cert.AttnKernelIdeal

end
-- ==== Proof.IdealEnds.lean ====
module

public import proofs.«01_k».proof.Proof.IdealPoint
import all proofs.«01_k».proof.Proof.IdealRuns

/-!
# What each kind of pair leaves

The accumulators after a pair of each kind, and the blocks it stores, as the folds over its tiles.
-/

@[expose] public section

set_option maxRecDepth 16384
set_option Elab.async false

noncomputable section

namespace Cert.AttnKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (c : Dev nD) (i : grid0.Coords) (T0 T1 : S3.Idx → Elt Ideal .i32)
  (a4 : Memref sig .tc .vmem S1x2048x192 .bf16) (h4 : a4.IsWhole) (a5 : Memref sig .tc .vmem S1x2048x192 .bf16) (h5 : a5.IsWhole)
  (a6 : Memref sig .tc .vmem S1x2048x128 .bf16) (h6 : a6.IsWhole) (a7 : Memref sig .tc .vmem S2048x128 .f32) (h7 : a7.IsWhole)
  (a8 : Memref sig .tc .vmem S1x1x2048 .f32) (h8 : a8.IsWhole) (a9 : Memref sig .tc .vmem S8x2048 .f32) (h9 : a9.IsWhole)
  (a10 : Memref sig .tc .vmem S1x4096x192 .bf16) (h10 : a10.IsWhole) (a11 : Memref sig .tc .vmem S1x2048x192 .bf16) (h11 : a11.IsWhole)
  (a12 : Memref sig .tc .vmem S1x2048x128 .bf16) (h12 : a12.IsWhole)
  (x0 : S1x2048x192.Idx → Elt Ideal .bf16) (x1 : S1x2048x192.Idx → Elt Ideal .bf16) (x2 : S1x2048x128.Idx → Elt Ideal .bf16)
  (x3 : S2048x128.Idx → Elt Ideal .f32) (x4 : S1x1x2048.Idx → Elt Ideal .f32) (x5 : S8x2048.Idx → Elt Ideal .f32)

theorem runA_q (e : KindA T0 T1 i) (hT : w0 T0 i = BitVec.ofNat 32 0) : (runA c i T0 T1 a4 h4 a5 h5 a6 h6 a7 h7 a8 h8 a9 h9 a10 h10 a11 h11 a12 h12 x0 x1 x2 x3 x4 x5 e.1 e.2.1 e.2.2.1 e.2.2.2.1 e.2.2.2.2.1 e.2.2.2.2.2).1 = qD i a4 a5 a6 a7 a8 a9 x0 x1 x2 x3 x4 x5 0 (fun _ => 0) 4 := by
  have h := step_add scM0.view scM0.view.junk (2048 * 0 + 512 * (Fin.ofNat 4 3).val) (k0_off3_inb (w0 T0 i) (w1 T1 i) e.1 e.2.2.1 (Fin.ofNat 4 3)) (dqD i a4 a5 a6 a7 a8 a9 x0 x1 x2 x3 x4 x5 (Fin.ofNat 4 3)) (runA.sl.HS0_4 i T0 T1 a4 a5 a6 a7 a8 a9 x0 x1 x2 x3 x4 x5 e.1 e.2.2.1) (qD i a4 a5 a6 a7 a8 a9 x0 x1 x2 x3 x4 x5 0 (fun _ => 0) 3) _ shapeCasts_S512x192_S512x192 _ (off3_eq _ 0 (by decide) hT (Fin.ofNat 4 3)) rfl rfl (runA_HS0 i T0 T1 a4 a5 a6 a7 a8 a9 x0 x1 x2 x3 x4 x5 e.1 e.2.2.1 hT)
  exact Eq.trans (by sl_kernel_rfl) h
theorem runA_k (e : KindA T0 T1 i) : (runA c i T0 T1 a4 h4 a5 h5 a6 h6 a7 h7 a8 h8 a9 h9 a10 h10 a11 h11 a12 h12 x0 x1 x2 x3 x4 x5 e.1 e.2.1 e.2.2.1 e.2.2.2.1 e.2.2.2.2.1 e.2.2.2.2.2).2.1 = kD i a4 a5 a6 a7 a8 a9 x0 x1 x2 x3 x4 x5 10 :=
  Eq.trans (by sl_kernel_rfl) (runA_HS1 i a4 a5 a6 a7 a8 a9 x0 x1 x2 x3 x4 x5)
theorem runA_v (e : KindA T0 T1 i) : (runA c i T0 T1 a4 h4 a5 h5 a6 h6 a7 h7 a8 h8 a9 h9 a10 h10 a11 h11 a12 h12 x0 x1 x2 x3 x4 x5 e.1 e.2.1 e.2.2.1 e.2.2.2.1 e.2.2.2.2.1 e.2.2.2.2.2).2.2.1 = vD a4 a5 a7 a8 x0 x1 x3 x4 10 :=
  Eq.trans (by sl_kernel_rfl) (runA_HS2 a4 a5 a7 a8 x0 x1 x3 x4)

theorem runB_q (s0 : Acc0) (s1 : Acc1) (s2 : Acc2) (e : KindB T0 T1 i) (hT : w0 T0 i = 1#32) : (runB c i T0 T1 a4 h4 a5 h5 a6 h6 a7 h7 a8 h8 a9 h9 a10 h10 a11 h11 a12 h12 x0 x1 x2 x3 x4 x5 s0 s1 s2 e.1 e.2.1 e.2.2.1 e.2.2.2.1 e.2.2.2.2.1 e.2.2.2.2.2).2.2.1 = qF i a4 a5 a6 a7 a8 a9 x0 x1 x2 x3 x4 x5 1 s0 4 := by
  have h := step_add scM0.view s0 (2048 * 1 + 512 * (Fin.ofNat 4 3).val) (k0_off8_inb (w0 T0 i) (w1 T1 i) e.1 e.2.2.2.1 (Fin.ofNat 4 3)) (dqF i a4 a5 a6 a7 a8 a9 x0 x1 x2 x3 x4 x5 (Fin.ofNat 4 3)) (runB.sl.HS0_3 i T0 T1 a4 a5 a6 a7 a8 a9 x0 x1 x2 x3 x4 x5 s0 e.1 e.2.2.2.1) (qF i a4 a5 a6 a7 a8 a9 x0 x1 x2 x3 x4 x5 1 s0 3) _ shapeCasts_S512x192_S512x192 _ (off8_eq _ hT (Fin.ofNat 4 3)) rfl rfl (runB_HS0 i T0 T1 a4 a5 a6 a7 a8 a9 x0 x1 x2 x3 x4 x5 s0 e.1 e.2.2.2.1 hT)
  exact Eq.trans (by sl_kernel_rfl) h
theorem runB_k (s0 : Acc0) (s1 : Acc1) (s2 : Acc2) (e : KindB T0 T1 i) :
    (runB c i T0 T1 a4 h4 a5 h5 a6 h6 a7 h7 a8 h8 a9 h9 a10 h10 a11 h11 a12 h12 x0 x1 x2 x3 x4 x5 s0 s1 s2 e.1 e.2.1 e.2.2.1 e.2.2.2.1 e.2.2.2.2.1 e.2.2.2.2.2).1 = [⟨Rect.unit (s := S1x2048x192) ![0, 0, 0] S1x2048x192.size inb_S1x2048x192_S1x2048x192_0_0_0, k0_pay5 (kF i a4 a5 a6 a7 a8 a9 x0 x1 x2 x3 x4 x5 s1 16)⟩] := by
  rw [← runB_HS1 i a4 a5 a6 a7 a8 a9 x0 x1 x2 x3 x4 x5 s1, ← View.readAt_full scM1.view _ (inb_S2048x192_S2048x192_0_0)]
  sl_kernel_rfl
theorem runB_v (s0 : Acc0) (s1 : Acc1) (s2 : Acc2) (e : KindB T0 T1 i) :
    (runB c i T0 T1 a4 h4 a5 h5 a6 h6 a7 h7 a8 h8 a9 h9 a10 h10 a11 h11 a12 h12 x0 x1 x2 x3 x4 x5 s0 s1 s2 e.1 e.2.1 e.2.2.1 e.2.2.2.1 e.2.2.2.2.1 e.2.2.2.2.2).2.1 = [⟨Rect.unit (s := S1x2048x128) ![0, 0, 0] S1x2048x128.size inb_S1x2048x128_S1x2048x128_0_0_0, k0_pay6 (vF a4 a5 a7 a8 x0 x1 x3 x4 s2 16)⟩] := by
  rw [← runB_HS2 a4 a5 a7 a8 x0 x1 x3 x4 s2, ← View.readAt_full scM2.view _ (inb_S2048x128_S2048x128_0_0)]
  sl_kernel_rfl

theorem runC_HS0_4 (s0 : Acc0) (e : KindC T0 T1 i) (hT : w0 T0 i = BitVec.ofNat 32 1) :
    scM0.view.read (Elt Ideal) (scM0.view.writes (Elt Ideal) s0 (runC.sl.HS0_4 i T0 T1 a4 a5 a6 a7 a8 a9 x0 x1 x2 x3 x4 x5 s0 e.1 e.2.2.1)) = qD i a4 a5 a6 a7 a8 a9 x0 x1 x2 x3 x4 x5 1 s0 4 :=
  step_add scM0.view s0 (2048 * 1 + 512 * (Fin.ofNat 4 3).val) _ (dqD i a4 a5 a6 a7 a8 a9 x0 x1 x2 x3 x4 x5 (Fin.ofNat 4 3)) (runC.sl.HS0_3 i T0 T1 a4 a5 a6 a7 a8 a9 x0 x1 x2 x3 x4 x5 s0 e.1 e.2.2.1) (qD i a4 a5 a6 a7 a8 a9 x0 x1 x2 x3 x4 x5 1 s0 3) _ shapeCasts_S512x192_S512x192 _ (off3_eq _ 1 (by decide) hT (Fin.ofNat 4 3)) (by sl_kernel_rfl) rfl (runC_HS0 i T0 T1 a4 a5 a6 a7 a8 a9 x0 x1 x2 x3 x4 x5 s0 e.1 e.2.2.1 hT)
theorem runC_q (s0 : Acc0) (e : KindC T0 T1 i) (hT : w0 T0 i = BitVec.ofNat 32 1) :
    (runC c i T0 T1 a4 h4 a5 h5 a6 h6 a7 h7 a8 h8 a9 h9 a10 h10 a11 h11 a12 h12 x0 x1 x2 x3 x4 x5 s0 e.1 e.2.1 e.2.2.1 e.2.2.2.1 e.2.2.2.2.1 e.2.2.2.2.2).1 = [⟨Rect.unit (s := S1x4096x192) ![0, 0, 0] S1x4096x192.size inb_S1x4096x192_S1x4096x192_0_0_0, k0_pay7 (qD i a4 a5 a6 a7 a8 a9 x0 x1 x2 x3 x4 x5 1 s0 4)⟩] := by
  rw [← runC_HS0_4 i T0 T1 a4 a5 a6 a7 a8 a9 x0 x1 x2 x3 x4 x5 s0 e hT, ← View.readAt_full scM0.view _ (inb_S4096x192_S4096x192_0_0)]
  sl_kernel_rfl
theorem runC_k (s0 : Acc0) (e : KindC T0 T1 i) :
    (runC c i T0 T1 a4 h4 a5 h5 a6 h6 a7 h7 a8 h8 a9 h9 a10 h10 a11 h11 a12 h12 x0 x1 x2 x3 x4 x5 s0 e.1 e.2.1 e.2.2.1 e.2.2.2.1 e.2.2.2.2.1 e.2.2.2.2.2).2.1 = [⟨Rect.unit (s := S1x2048x192) ![0, 0, 0] S1x2048x192.size inb_S1x2048x192_S1x2048x192_0_0_0, k0_pay5 (kD i a4 a5 a6 a7 a8 a9 x0 x1 x2 x3 x4 x5 10)⟩] := by
  rw [← runC_HS1 i a4 a5 a6 a7 a8 a9 x0 x1 x2 x3 x4 x5, ← View.readAt_full scM1.view _ (inb_S2048x192_S2048x192_0_0)]
  sl_kernel_rfl
theorem runC_v (s0 : Acc0) (e : KindC T0 T1 i) :
    (runC c i T0 T1 a4 h4 a5 h5 a6 h6 a7 h7 a8 h8 a9 h9 a10 h10 a11 h11 a12 h12 x0 x1 x2 x3 x4 x5 s0 e.1 e.2.1 e.2.2.1 e.2.2.2.1 e.2.2.2.2.1 e.2.2.2.2.2).2.2.1 = [⟨Rect.unit (s := S1x2048x128) ![0, 0, 0] S1x2048x128.size inb_S1x2048x128_S1x2048x128_0_0_0, k0_pay6 (vD a4 a5 a7 a8 x0 x1 x3 x4 10)⟩] := by
  rw [← runC_HS2 a4 a5 a7 a8 x0 x1 x3 x4, ← View.readAt_full scM2.view _ (inb_S2048x128_S2048x128_0_0)]
  sl_kernel_rfl

end Cert.AttnKernelIdeal

end
-- ==== Proof.IdealFrame.lean ====
module

public import proofs.«01_k».proof.Proof.IdealRuns
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-!
# The attention gradient's run, point by point

The two tables are constants of the program, so the pipeline is the one at those tables: its blocks lie in their arrays, the
kind of a point is its place in the head (`t % 3`), and the contents of the accumulators before each point follow from the
runs of one point. The launch then gives the whole program's run: every argument unchanged, every counter at zero, and the
three results at the blocks the points stored.
-/

@[expose] public section

set_option maxRecDepth 16384
set_option Elab.async false

noncomputable section

namespace Cert.AttnKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The pipeline at the program's tables -/

/-- The tables' contents: the query block and the key block of each of a head's three pairs. -/
def tab0 : S3.Idx → BitVec 32 := fun i => lit0 (S3.rowMajor i)
def tab1 : S3.Idx → BitVec 32 := fun i => lit1 (S3.rowMajor i)

set_option backward.proofsInPublic true in
def tabs : pre0.Contents (Elt Ideal) := fun | ⟨0, _⟩ => tab0 | ⟨1, _⟩ => tab1 | ⟨_ + 2, h⟩ => absurd h (by simp)

theorem inb0 : ∀ i : grid0.Coords, ∀ a, (cc0_transform_0 k0_off1_inb numel1_S1 tabs i a + 1) * S1x2048x192.size a ≤ S8x4096x192.size a := by decide +kernel
theorem inb1 : ∀ i : grid0.Coords, ∀ a, (cc0_transform_1 k0_off1_inb numel1_S1 tabs i a + 1) * S1x2048x192.size a ≤ S8x4096x192.size a := by decide +kernel
theorem inb2 : ∀ i : grid0.Coords, ∀ a, (cc0_transform_2 k0_off1_inb numel1_S1 tabs i a + 1) * S1x2048x128.size a ≤ S8x4096x128.size a := by decide +kernel
theorem inb3 : ∀ i : grid0.Coords, ∀ a, (cc0_transform_3 k0_off1_inb numel1_S1 tabs i a + 1) * S2048x128.size a ≤ S4096x1024.size a := by decide +kernel
theorem inb4 : ∀ i : grid0.Coords, ∀ a, (cc0_transform_4 k0_off1_inb numel1_S1 tabs i a + 1) * S1x1x2048.size a ≤ S8x1x4096.size a := by decide +kernel
theorem inb5 : ∀ i : grid0.Coords, ∀ a, (cc0_transform_5 k0_off1_inb numel1_S1 tabs i a + 1) * S8x2048.size a ≤ S8x4096.size a := by decide +kernel
theorem inb7 : ∀ i : grid0.Coords, ∀ a, (cc0_transform_7 k0_off1_inb numel1_S1 tabs i a + 1) * S1x2048x192.size a ≤ S8x4096x192.size a := by decide +kernel
theorem inb8 : ∀ i : grid0.Coords, ∀ a, (cc0_transform_8 k0_off1_inb numel1_S1 tabs i a + 1) * S1x2048x128.size a ≤ S8x4096x128.size a := by decide +kernel

/-- Every block lies in its array and is moved by whole words. -/
theorem ok_tabs : ok0 (F := Ideal) tabs :=
  ⟨fun i => ⟨inb0 i, .inr (Affine.block_words_dvd (s := S8x4096x192) (p := EltTy.packing .bf16) (by decide) (by decide))⟩,
   fun i => ⟨inb1 i, .inr (Affine.block_words_dvd (s := S8x4096x192) (p := EltTy.packing .bf16) (by decide) (by decide))⟩,
   fun i => ⟨inb2 i, .inr (Affine.block_words_dvd (s := S8x4096x128) (p := EltTy.packing .bf16) (by decide) (by decide))⟩,
   fun i => ⟨inb3 i, .inl rfl⟩,
   fun i => ⟨inb4 i, .inl rfl⟩,
   fun i => ⟨inb5 i, .inl rfl⟩,
   fun i => ⟨inb7 i, .inr (Affine.block_words_dvd (s := S8x4096x192) (p := EltTy.packing .bf16) (by decide) (by decide))⟩,
   fun i => ⟨inb8 i, .inr (Affine.block_words_dvd (s := S8x4096x128) (p := EltTy.packing .bf16) (by decide) (by decide))⟩⟩

/-- The pipeline at the tables. -/
def adm : (pcfg0 (F := Ideal)).Adm := ⟨tabs, ok_tabs⟩
abbrev cfgA : Pipeline.Cfg sig Λ₀ := cfg0 (F := Ideal) adm
abbrev pcs : Fin 1 → Pipeline.Cfg sig Λ₀ := Pipeline.pin (pcfgs (F := Ideal)) fun _ => adm

variable (m : (ℓ : Loc nD τ sig) → Buf (Elt Ideal) ℓ) (ρ : Dev nD → PrngReg)

/-- Point `t`'s coordinates, and each window's staging buffer there. -/
abbrev crd (t : Fin cfgA.N) : cfgA.grid.Coords := cfgA.grid.coords t
abbrev ms0 (t : Fin cfgA.N) : Memref sig .tc .vmem S1x2048x192 .bf16 := spec0_0.stage (cfgA.slots t (0 : Fin 9))
abbrev hs0 (t : Fin cfgA.N) : (ms0 t).IsWhole := hstage0_0 ((cfgA.slots t (0 : Fin 9)).cast nbuf0_0)
abbrev ms1 (t : Fin cfgA.N) : Memref sig .tc .vmem S1x2048x192 .bf16 := spec0_1.stage (cfgA.slots t (1 : Fin 9))
abbrev hs1 (t : Fin cfgA.N) : (ms1 t).IsWhole := hstage0_1 ((cfgA.slots t (1 : Fin 9)).cast nbuf0_1)
abbrev ms2 (t : Fin cfgA.N) : Memref sig .tc .vmem S1x2048x128 .bf16 := spec0_2.stage (cfgA.slots t (2 : Fin 9))
abbrev hs2 (t : Fin cfgA.N) : (ms2 t).IsWhole := hstage0_2 ((cfgA.slots t (2 : Fin 9)).cast nbuf0_2)
abbrev ms3 (t : Fin cfgA.N) : Memref sig .tc .vmem S2048x128 .f32 := spec0_3.stage (cfgA.slots t (3 : Fin 9))
abbrev hs3 (t : Fin cfgA.N) : (ms3 t).IsWhole := hstage0_3 ((cfgA.slots t (3 : Fin 9)).cast nbuf0_3)
abbrev ms4 (t : Fin cfgA.N) : Memref sig .tc .vmem S1x1x2048 .f32 := spec0_4.stage (cfgA.slots t (4 : Fin 9))
abbrev hs4 (t : Fin cfgA.N) : (ms4 t).IsWhole := hstage0_4 ((cfgA.slots t (4 : Fin 9)).cast nbuf0_4)
abbrev ms5 (t : Fin cfgA.N) : Memref sig .tc .vmem S8x2048 .f32 := spec0_5.stage (cfgA.slots t (5 : Fin 9))
abbrev hs5 (t : Fin cfgA.N) : (ms5 t).IsWhole := hstage0_5 ((cfgA.slots t (5 : Fin 9)).cast nbuf0_5)
abbrev ms6 (t : Fin cfgA.N) : Memref sig .tc .vmem S1x4096x192 .bf16 := spec0_6.stage (cfgA.slots t (6 : Fin 9))
abbrev hs6 (t : Fin cfgA.N) : (ms6 t).IsWhole := hstage0_6 ((cfgA.slots t (6 : Fin 9)).cast nbuf0_6)
abbrev ms7 (t : Fin cfgA.N) : Memref sig .tc .vmem S1x2048x192 .bf16 := spec0_7.stage (cfgA.slots t (7 : Fin 9))
abbrev hs7 (t : Fin cfgA.N) : (ms7 t).IsWhole := hstage0_7 ((cfgA.slots t (7 : Fin 9)).cast nbuf0_7)
abbrev ms8 (t : Fin cfgA.N) : Memref sig .tc .vmem S1x2048x128 .bf16 := spec0_8.stage (cfgA.slots t (8 : Fin 9))
abbrev hs8 (t : Fin cfgA.N) : (ms8 t).IsWhole := hstage0_8 ((cfgA.slots t (8 : Fin 9)).cast nbuf0_8)

/-- The contents of a core's buffers where the pipeline starts: after the host's operations. -/
def V (c : Dev nD) (b : Ref sig .tc) : Buf (Elt Ideal) ((c : Thread nD τ).loc b) :=
  StableHlo.after [hostOps0, hostOps0_1, hostOps0_2].flatten (fun b => m (c, b)) b

/-- Window `w`'s block at point `t`, read off its array there. -/
def iblk (c : Dev nD) (w : Fin cfgA.W) (t : Fin cfgA.N) : ((cfgA.win w).xblock (crd t)).Idx → Elt Ideal (cfgA.win w).elt :=
  ((cfgA.win w).blk t).view.read (Elt Ideal) (V m c (Pipeline.arrRef spec0 w))

/-! ## The kind of a point, and the schedule -/

theorem kindA : ∀ t : Fin cfgA.N, t.val % 3 = 0 → KindA tab0 tab1 (crd t) := by decide +kernel
theorem kindB : ∀ t : Fin cfgA.N, t.val % 3 = 1 → KindB tab0 tab1 (crd t) := by decide +kernel
theorem kindC : ∀ t : Fin cfgA.N, t.val % 3 = 2 → KindC tab0 tab1 (crd t) := by decide +kernel

theorem sched6 : ∀ t : Fin cfgA.N, cfgA.idle (6 : Fin 9) (crd t) = !(decide (t.val % 3 = 2)) ∧ (cfgA.win (6 : Fin 9)).flush t = decide (t.val % 3 = 2) := by decide +kernel
theorem sched7 : ∀ t : Fin cfgA.N, cfgA.idle (7 : Fin 9) (crd t) = decide (t.val % 3 = 0) ∧ (cfgA.win (7 : Fin 9)).flush t = !(decide (t.val % 3 = 0)) := by decide +kernel
theorem sched8 : ∀ t : Fin cfgA.N, cfgA.idle (8 : Fin 9) (crd t) = decide (t.val % 3 = 0) ∧ (cfgA.win (8 : Fin 9)).flush t = !(decide (t.val % 3 = 0)) := by decide +kernel

theorem fresh6 (t : Fin cfgA.N) : cfgA.fresh (6 : Fin 9) t.val = true :=
  Pipeline.Cfg.fresh_tab cfgA (6 : Fin 9) (fun _ => true) rfl (fun t => by rw [(sched6 t).1, (sched6 t).2]; cases decide (t.val % 3 = 2) <;> rfl) t.val (Nat.le_of_lt t.isLt)
theorem fresh7 (t : Fin cfgA.N) : cfgA.fresh (7 : Fin 9) t.val = true :=
  Pipeline.Cfg.fresh_tab cfgA (7 : Fin 9) (fun _ => true) rfl (fun t => by rw [(sched7 t).1, (sched7 t).2]; cases decide (t.val % 3 = 0) <;> rfl) t.val (Nat.le_of_lt t.isLt)
theorem fresh8 (t : Fin cfgA.N) : cfgA.fresh (8 : Fin 9) t.val = true :=
  Pipeline.Cfg.fresh_tab cfgA (8 : Fin 9) (fun _ => true) rfl (fun t => by rw [(sched8 t).1, (sched8 t).2]; cases decide (t.val % 3 = 0) <;> rfl) t.val (Nat.le_of_lt t.isLt)

/-! ## The accumulators before each point, and the blocks stored -/

/-- The contents of the three accumulators. -/
abbrev Accs := Acc0 × Acc1 × Acc2

/-- The three runs at a point of the grid. -/
abbrev atA (c : Dev nD) (t : Fin cfgA.N) (h : t.val % 3 = 0) :=
  runA c (crd t) tab0 tab1 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (iblk m c (0 : Fin 9) t) (iblk m c (1 : Fin 9) t) (iblk m c (2 : Fin 9) t) (iblk m c (3 : Fin 9) t) (iblk m c (4 : Fin 9) t) (iblk m c (5 : Fin 9) t)
    (kindA t h).1 (kindA t h).2.1 (kindA t h).2.2.1 (kindA t h).2.2.2.1 (kindA t h).2.2.2.2.1 (kindA t h).2.2.2.2.2
abbrev atB (c : Dev nD) (t : Fin cfgA.N) (h : t.val % 3 = 1) (s : Accs) :=
  runB c (crd t) tab0 tab1 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (iblk m c (0 : Fin 9) t) (iblk m c (1 : Fin 9) t) (iblk m c (2 : Fin 9) t) (iblk m c (3 : Fin 9) t) (iblk m c (4 : Fin 9) t) (iblk m c (5 : Fin 9) t)
    s.1 s.2.1 s.2.2
    (kindB t h).1 (kindB t h).2.1 (kindB t h).2.2.1 (kindB t h).2.2.2.1 (kindB t h).2.2.2.2.1 (kindB t h).2.2.2.2.2
abbrev atC (c : Dev nD) (t : Fin cfgA.N) (h : t.val % 3 = 2) (s : Accs) :=
  runC c (crd t) tab0 tab1 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (iblk m c (0 : Fin 9) t) (iblk m c (1 : Fin 9) t) (iblk m c (2 : Fin 9) t) (iblk m c (3 : Fin 9) t) (iblk m c (4 : Fin 9) t) (iblk m c (5 : Fin 9) t)
    s.1
    (kindC t h).1 (kindC t h).2.1 (kindC t h).2.2.1 (kindC t h).2.2.2.1 (kindC t h).2.2.2.2.1 (kindC t h).2.2.2.2.2

attribute [local irreducible] runA runB runC

/-- The accumulators after a point, from those before. -/
def step (c : Dev nD) (t : Fin cfgA.N) (s : Accs) : Accs :=
  if hA : t.val % 3 = 0 then ((atA m c t hA).1, (atA m c t hA).2.1, (atA m c t hA).2.2.1)
  else if hB : t.val % 3 = 1 then ((atB m c t hB s).2.2.1, (atB m c t hB s).2.2.2.1, (atB m c t hB s).2.2.2.2.1)
  else ((atC m c t (by omega) s).2.2.2.1, (atC m c t (by omega) s).2.2.2.2.1, (atC m c t (by omega) s).2.2.2.2.2.1)

/-- The accumulators before point `n`. -/
def accAt (c : Dev nD) : ℕ → Accs
  | 0 => default
  | n + 1 => if h : n < cfgA.N then step m c ⟨n, h⟩ (accAt c n) else accAt c n

theorem accAt_succ (c : Dev nD) (t : Fin cfgA.N) : accAt m c (t.val + 1) = step m c t (accAt m c t.val) := by
  show (if h : t.val < cfgA.N then step m c ⟨t.val, h⟩ (accAt m c t.val) else accAt m c t.val) = _
  rw [dif_pos t.isLt]

theorem accAt_A (c : Dev nD) (t : Fin cfgA.N) (h : t.val % 3 = 0) :
    accAt m c (t.val + 1) = ((atA m c t h).1, (atA m c t h).2.1, (atA m c t h).2.2.1) :=
  (accAt_succ m c t).trans (dif_pos h)
theorem accAt_B (c : Dev nD) (t : Fin cfgA.N) (h : t.val % 3 = 1) :
    accAt m c (t.val + 1) = ((atB m c t h (accAt m c t.val)).2.2.1, (atB m c t h (accAt m c t.val)).2.2.2.1, (atB m c t h (accAt m c t.val)).2.2.2.2.1) :=
  (accAt_succ m c t).trans <| (dif_neg (show ¬ t.val % 3 = 0 by omega)).trans (dif_pos h)
theorem accAt_C (c : Dev nD) (t : Fin cfgA.N) (h : t.val % 3 = 2) :
    accAt m c (t.val + 1) = ((atC m c t h (accAt m c t.val)).2.2.2.1, (atC m c t h (accAt m c t.val)).2.2.2.2.1, (atC m c t h (accAt m c t.val)).2.2.2.2.2.1) :=
  (accAt_succ m c t).trans <| (dif_neg (show ¬ t.val % 3 = 0 by omega)).trans (dif_neg (show ¬ t.val % 3 = 1 by omega))

/-- A staging buffer of each result, to read the stored pieces through. -/
abbrev V6 : View sig .tc .vmem S1x4096x192 .bf16 := (Memref.whole cc0_stg6_0 : Memref sig .tc .vmem S1x4096x192 .bf16).view
abbrev V7 : View sig .tc .vmem S1x2048x192 .bf16 := (Memref.whole cc0_stg7_0 : Memref sig .tc .vmem S1x2048x192 .bf16).view
abbrev V8 : View sig .tc .vmem S1x2048x128 .bf16 := (Memref.whole cc0_stg8_0 : Memref sig .tc .vmem S1x2048x128 .bf16).view

/-- The blocks a point stores. -/
def out6 (c : Dev nD) (t : Fin cfgA.N) : S1x4096x192.Idx → Elt Ideal .bf16 :=
  if h : t.val % 3 = 2 then V6.read (Elt Ideal) (V6.writes (Elt Ideal) V6.junk (atC m c t h (accAt m c t.val)).1) else default
def out7 (c : Dev nD) (t : Fin cfgA.N) : S1x2048x192.Idx → Elt Ideal .bf16 :=
  if h : t.val % 3 = 2 then V7.read (Elt Ideal) (V7.writes (Elt Ideal) V7.junk (atC m c t h (accAt m c t.val)).2.1)
  else if h : t.val % 3 = 1 then V7.read (Elt Ideal) (V7.writes (Elt Ideal) V7.junk (atB m c t h (accAt m c t.val)).1) else default
def out8 (c : Dev nD) (t : Fin cfgA.N) : S1x2048x128.Idx → Elt Ideal .bf16 :=
  if h : t.val % 3 = 2 then V8.read (Elt Ideal) (V8.writes (Elt Ideal) V8.junk (atC m c t h (accAt m c t.val)).2.2.1)
  else if h : t.val % 3 = 1 then V8.read (Elt Ideal) (V8.writes (Elt Ideal) V8.junk (atB m c t h (accAt m c t.val)).2.1) else default

theorem out6_C (c : Dev nD) (t : Fin cfgA.N) (h : t.val % 3 = 2) :
    out6 m c t = V6.read (Elt Ideal) (V6.writes (Elt Ideal) V6.junk (atC m c t h (accAt m c t.val)).1) := by unfold out6; rw [dif_pos h]
theorem out7_C (c : Dev nD) (t : Fin cfgA.N) (h : t.val % 3 = 2) :
    out7 m c t = V7.read (Elt Ideal) (V7.writes (Elt Ideal) V7.junk (atC m c t h (accAt m c t.val)).2.1) := by unfold out7; rw [dif_pos h]
theorem out8_C (c : Dev nD) (t : Fin cfgA.N) (h : t.val % 3 = 2) :
    out8 m c t = V8.read (Elt Ideal) (V8.writes (Elt Ideal) V8.junk (atC m c t h (accAt m c t.val)).2.2.1) := by unfold out8; rw [dif_pos h]
theorem out7_B (c : Dev nD) (t : Fin cfgA.N) (h : t.val % 3 = 1) :
    out7 m c t = V7.read (Elt Ideal) (V7.writes (Elt Ideal) V7.junk (atB m c t h (accAt m c t.val)).1) := by unfold out7; rw [dif_neg (by omega), dif_pos h]
theorem out8_B (c : Dev nD) (t : Fin cfgA.N) (h : t.val % 3 = 1) :
    out8 m c t = V8.read (Elt Ideal) (V8.writes (Elt Ideal) V8.junk (atB m c t h (accAt m c t.val)).2.1) := by unfold out8; rw [dif_neg (by omega), dif_pos h]

theorem coverC6 (c : Dev nD) (t : Fin cfgA.N) (h : t.val % 3 = 2) (s : Accs) : ∀ y, ∃ p ∈ (atC m c t h s).1, y ∈ p.1.set :=
  View.cover_of_tiledL (atC m c t h s).1 S1x4096x192.size (by sl_kernel_rfl)
theorem coverC7 (c : Dev nD) (t : Fin cfgA.N) (h : t.val % 3 = 2) (s : Accs) : ∀ y, ∃ p ∈ (atC m c t h s).2.1, y ∈ p.1.set :=
  View.cover_of_tiledL (atC m c t h s).2.1 S1x2048x192.size (by sl_kernel_rfl)
theorem coverC8 (c : Dev nD) (t : Fin cfgA.N) (h : t.val % 3 = 2) (s : Accs) : ∀ y, ∃ p ∈ (atC m c t h s).2.2.1, y ∈ p.1.set :=
  View.cover_of_tiledL (atC m c t h s).2.2.1 S1x2048x128.size (by sl_kernel_rfl)
theorem coverB7 (c : Dev nD) (t : Fin cfgA.N) (h : t.val % 3 = 1) (s : Accs) : ∀ y, ∃ p ∈ (atB m c t h s).1, y ∈ p.1.set :=
  View.cover_of_tiledL (atB m c t h s).1 S1x2048x192.size (by sl_kernel_rfl)
theorem coverB8 (c : Dev nD) (t : Fin cfgA.N) (h : t.val % 3 = 1) (s : Accs) : ∀ y, ∃ p ∈ (atB m c t h s).2.1, y ∈ p.1.set :=
  View.cover_of_tiledL (atB m c t h s).2.1 S1x2048x128.size (by sl_kernel_rfl)

/-! ## The proof data -/

/-- Before point `t`: the accumulators, at the contents the points gave them unless a head begins, and the tables. -/
def Phi (c : Dev nD) (t : Fin (cfgA.N + 1)) : sProp 𝕄 :=
  iprop(∃ s : Accs, ⌜t.val % 3 ≠ 0 → s = accAt m c t.val⌝ ∗ accs c s.1 s.2.1 s.2.2
    ∗ (tbM0.view.loc (c : Thread nD τ) ↦{fullShare.right} (tab0 : Buf (Elt Ideal) (tbM0.view.loc (c : Thread nD τ))))
    ∗ (tbM1.view.loc (c : Thread nD τ) ↦{fullShare.right} (tab1 : Buf (Elt Ideal) (tbM1.view.loc (c : Thread nD τ))))
    ∗ ∃ r, prngReg c r)

def dats (_ : Fin 1) (c : Dev nD) : Dat τ (Elt Ideal) Unit ℕ (UR sig nD τ) ℕ cfgA c where
  A w := V m c (Pipeline.arrRef spec0 w)
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => out6 m c t
    | ⟨7, _⟩ => out7 m c t
    | ⟨8, _⟩ => out8 m c t
  Φ t := Phi m c t
  q _ := fullShare
  owed _ := 0

theorem after_0 (c : Dev nD) (t : Fin cfgA.N) : (dats m 0 c).after (0 : Fin 9) t = iblk m c (0 : Fin 9) t := rfl
theorem after_1 (c : Dev nD) (t : Fin cfgA.N) : (dats m 0 c).after (1 : Fin 9) t = iblk m c (1 : Fin 9) t := rfl
theorem after_2 (c : Dev nD) (t : Fin cfgA.N) : (dats m 0 c).after (2 : Fin 9) t = iblk m c (2 : Fin 9) t := rfl
theorem after_3 (c : Dev nD) (t : Fin cfgA.N) : (dats m 0 c).after (3 : Fin 9) t = iblk m c (3 : Fin 9) t := rfl
theorem after_4 (c : Dev nD) (t : Fin cfgA.N) : (dats m 0 c).after (4 : Fin 9) t = iblk m c (4 : Fin 9) t := rfl
theorem after_5 (c : Dev nD) (t : Fin cfgA.N) : (dats m 0 c).after (5 : Fin 9) t = iblk m c (5 : Fin 9) t := rfl
theorem after_6 (c : Dev nD) (t : Fin cfgA.N) : (dats m 0 c).after (6 : Fin 9) t = out6 m c t := rfl
theorem after_7 (c : Dev nD) (t : Fin cfgA.N) : (dats m 0 c).after (7 : Fin 9) t = out7 m c t := rfl
theorem after_8 (c : Dev nD) (t : Fin cfgA.N) : (dats m 0 c).after (8 : Fin 9) t = out8 m c t := rfl

/-- What the body finds in the staging buffers: an input's block, and anything in a result's buffer. -/
theorem before_0 (c : Dev nD) (t : Fin cfgA.N) (d) : (dats m 0 c).before (0 : Fin 9) t d = iblk m c (0 : Fin 9) t :=
  ((dats m 0 c).before_in_eq_fetched (0 : Fin 9) rfl (fun _ => rfl) (fun _ _ _ => rfl) (fun t => by rw [after_0]; unfold Dat.blockOf iblk; rfl) t d).trans
    (by unfold Dat.fetched Dat.blockOf iblk; rfl)
theorem before_1 (c : Dev nD) (t : Fin cfgA.N) (d) : (dats m 0 c).before (1 : Fin 9) t d = iblk m c (1 : Fin 9) t :=
  ((dats m 0 c).before_in_eq_fetched (1 : Fin 9) rfl (fun _ => rfl) (fun _ _ _ => rfl) (fun t => by rw [after_1]; unfold Dat.blockOf iblk; rfl) t d).trans
    (by unfold Dat.fetched Dat.blockOf iblk; rfl)
theorem before_2 (c : Dev nD) (t : Fin cfgA.N) (d) : (dats m 0 c).before (2 : Fin 9) t d = iblk m c (2 : Fin 9) t :=
  ((dats m 0 c).before_in_eq_fetched (2 : Fin 9) rfl (fun _ => rfl) (fun _ _ _ => rfl) (fun t => by rw [after_2]; unfold Dat.blockOf iblk; rfl) t d).trans
    (by unfold Dat.fetched Dat.blockOf iblk; rfl)
theorem before_3 (c : Dev nD) (t : Fin cfgA.N) (d) : (dats m 0 c).before (3 : Fin 9) t d = iblk m c (3 : Fin 9) t :=
  ((dats m 0 c).before_in_eq_fetched (3 : Fin 9) rfl (fun _ => rfl) (fun _ _ _ => rfl) (fun t => by rw [after_3]; unfold Dat.blockOf iblk; rfl) t d).trans
    (by unfold Dat.fetched Dat.blockOf iblk; rfl)
theorem before_4 (c : Dev nD) (t : Fin cfgA.N) (d) : (dats m 0 c).before (4 : Fin 9) t d = iblk m c (4 : Fin 9) t :=
  ((dats m 0 c).before_in_eq_fetched (4 : Fin 9) rfl (fun _ => rfl) (fun _ _ _ => rfl) (fun t => by rw [after_4]; unfold Dat.blockOf iblk; rfl) t d).trans
    (by unfold Dat.fetched Dat.blockOf iblk; rfl)
theorem before_5 (c : Dev nD) (t : Fin cfgA.N) (d) : (dats m 0 c).before (5 : Fin 9) t d = iblk m c (5 : Fin 9) t :=
  ((dats m 0 c).before_in_eq_fetched (5 : Fin 9) rfl (fun _ => rfl) (fun _ _ _ => rfl) (fun t => by rw [after_5]; unfold Dat.blockOf iblk; rfl) t d).trans
    (by unfold Dat.fetched Dat.blockOf iblk; rfl)
theorem before_6 (c : Dev nD) (t : Fin cfgA.N) (d) : (dats m 0 c).before (6 : Fin 9) t d = d := by
  rw [(dats m 0 c).before_out_traj (6 : Fin 9) rfl (fun _ _ => rfl) (fun t _ _ hf => absurd ((fresh6 t).symm.trans hf) (by decide)) t.val t rfl d]
  exact if_pos (fresh6 t)
theorem before_7 (c : Dev nD) (t : Fin cfgA.N) (d) : (dats m 0 c).before (7 : Fin 9) t d = d := by
  rw [(dats m 0 c).before_out_traj (7 : Fin 9) rfl (fun _ _ => rfl) (fun t _ _ hf => absurd ((fresh7 t).symm.trans hf) (by decide)) t.val t rfl d]
  exact if_pos (fresh7 t)
theorem before_8 (c : Dev nD) (t : Fin cfgA.N) (d) : (dats m 0 c).before (8 : Fin 9) t d = d := by
  rw [(dats m 0 c).before_out_traj (8 : Fin 9) rfl (fun _ _ => rfl) (fun t _ _ hf => absurd ((fresh8 t).symm.trans hf) (by decide)) t.val t rfl d]
  exact if_pos (fresh8 t)

/-! ## The body at every point -/

/-- The inputs' staging buffers, read as blocks or as contents. -/
theorem inputs_iff (c : Dev nD) (t : Fin cfgA.N) :
    iprop(owns (c : Thread nD τ) (ms0 t) fullShare (iblk m c (0 : Fin 9) t) ∗ owns (c : Thread nD τ) (ms1 t) fullShare (iblk m c (1 : Fin 9) t)
      ∗ owns (c : Thread nD τ) (ms2 t) fullShare (iblk m c (2 : Fin 9) t) ∗ owns (c : Thread nD τ) (ms3 t) fullShare (iblk m c (3 : Fin 9) t)
      ∗ owns (c : Thread nD τ) (ms4 t) fullShare (iblk m c (4 : Fin 9) t) ∗ owns (c : Thread nD τ) (ms5 t) fullShare (iblk m c (5 : Fin 9) t)
      ∗ (tbM0.view.loc (c : Thread nD τ) ↦{fullShare.right} (tab0 : Buf (Elt Ideal) (tbM0.view.loc (c : Thread nD τ))))
      ∗ (tbM1.view.loc (c : Thread nD τ) ↦{fullShare.right} (tab1 : Buf (Elt Ideal) (tbM1.view.loc (c : Thread nD τ)))))
    = (inputs c tab0 tab1 (ms0 t) (ms1 t) (ms2 t) (ms3 t) (ms4 t) (ms5 t) (iblk m c (0 : Fin 9) t) (iblk m c (1 : Fin 9) t) (iblk m c (2 : Fin 9) t)
        (iblk m c (3 : Fin 9) t) (iblk m c (4 : Fin 9) t) (iblk m c (5 : Fin 9) t) : sProp 𝕄) := by
  unfold inputs
  simp only [owns_eq_rep]

/-- The body at point `t` as the pipeline calls it. -/
abbrev bodyAt (t : Fin cfgA.N) : Prog (TpuEff nD τ sig (Elt Ideal) Λ₀ .tc) PUnit :=
  bodyOn (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)

set_option maxHeartbeats 4800000 in
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 9) t d))
        ∗ (∃ d, owns (c : Thread nD τ) (ms1 t) fullShare ((dats m 0 c).before (1 : Fin 9) t d))
        ∗ (∃ d, owns (c : Thread nD τ) (ms2 t) fullShare ((dats m 0 c).before (2 : Fin 9) t d))
        ∗ (∃ d, owns (c : Thread nD τ) (ms3 t) fullShare ((dats m 0 c).before (3 : Fin 9) t d))
        ∗ (∃ d, owns (c : Thread nD τ) (ms4 t) fullShare ((dats m 0 c).before (4 : Fin 9) t d))
        ∗ (∃ d, owns (c : Thread nD τ) (ms5 t) fullShare ((dats m 0 c).before (5 : Fin 9) t d))
        ∗ (∃ d, owns (c : Thread nD τ) (ms6 t) fullShare ((dats m 0 c).before (6 : Fin 9) t d))
        ∗ (∃ d, owns (c : Thread nD τ) (ms7 t) fullShare ((dats m 0 c).before (7 : Fin 9) t d))
        ∗ (∃ d, owns (c : Thread nD τ) (ms8 t) fullShare ((dats m 0 c).before (8 : Fin 9) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  have s6 := sched6 t; have s7 := sched7 t; have s8 := sched8 t
  rewrite [s6.1, s7.1, s6.2, s7.2, s8.2]
  clear s6 s7 s8
  rewrite [show (dats m 0 c).Φ t.succ = Phi m c t.succ from rfl, show (dats m 0 c).Φ t.castSucc = Phi m c t.castSucc from rfl,
    show (dats m 0 c).owesAt () t.succ = (dats m 0 c).owesAt () t.castSucc from rfl]
  simp only [before_0, before_1, before_2, before_3, before_4, before_5, before_6, before_7, before_8, after_0, after_1, after_2, after_3, after_4, after_5, after_6, after_7, after_8]
  unfold Phi
  simp only [Fin.val_castSucc, Fin.val_succ]
  by_cases hA : t.val % 3 = 0
  · simp only [decide_eq_false (show ¬ t.val % 3 = 2 by omega), decide_eq_true hA, Bool.not_true, Bool.not_false]
    iintro ⟨⟨%s, -, HS, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atA m c t hA).2.2.2 d6 d7 d8 s.1 s.2.1 s.2.2 _)
    isplitl [H0 H1 H2 H3 H4 H5 HT0 HT1]
    · rw [← inputs_iff]
      isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [H6]; · iexact H6
    isplitl [H7]; · iexact H7
    isplitl [H8]; · iexact H8
    isplitl [HS]; · iexact HS
    unfold inputs
    iintro ⟨⟨H0, H1, H2, H3, H4, H5, HT0, HT1⟩, H6, H7, H8, HS⟩
    isplitl [HS HT0 HT1 HR]
    · iexists ((atA m c t hA).1, (atA m c t hA).2.1, (atA m c t hA).2.2.1)
      isplitr; swap
      · isplitl [HS]; · iexact HS
        isplitl [HT0]; · iexact HT0
        isplitl [HT1]; · iexact HT1
        iexact HR
      · ipureintro; intro _; exact (accAt_A m c t hA).symm
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iexists d6; iexact H6
    isplitl [H7]; · iexists d7; iexact H7
    iexists d8; iexact H8
  by_cases hB : t.val % 3 = 1
  · simp only [decide_eq_false (show ¬ t.val % 3 = 2 by omega), decide_eq_false hA, Bool.not_true, Bool.not_false]
    rw [out7_B m c t hB, out8_B m c t hB]
    iintro ⟨⟨%s, %hs, HS, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := hs (by omega)
    iapply ((atB m c t hB (accAt m c t.val)).2.2.2.2.2 d6 _)
    isplitl [H0 H1 H2 H3 H4 H5 HT0 HT1]
    · rw [← inputs_iff]
      isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [H6]; · iexact H6
    isplitl [H7]; · iexists d7; iexact H7
    isplitl [H8]; · iexists d8; iexact H8
    isplitl [HS]; · iexact HS
    unfold inputs
    iintro ⟨⟨H0, H1, H2, H3, H4, H5, HT0, HT1⟩, H6, ⟨%e7, H7⟩, ⟨%e8, H8⟩, HS⟩
    isplitl [HS HT0 HT1 HR]
    · iexists ((atB m c t hB (accAt m c t.val)).2.2.1, (atB m c t hB (accAt m c t.val)).2.2.2.1, (atB m c t hB (accAt m c t.val)).2.2.2.2.1)
      isplitr; swap
      · isplitl [HS]; · iexact HS
        isplitl [HT0]; · iexact HT0
        isplitl [HT1]; · iexact HT1
        iexact HR
      · ipureintro; intro _; exact (accAt_B m c t hB).symm
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iexists d6; iexact H6
    isplitl [H7]
    · unfold owns; iexists _; isplitr; swap
      · iexact H7
      · ipureintro; exact View.read_writes_of_cover _ _ _ _ _ (coverB7 m c t hB _)
    unfold owns; iexists _; isplitr; swap
    · iexact H8
    · ipureintro; exact View.read_writes_of_cover _ _ _ _ _ (coverB8 m c t hB _)
  have hC : t.val % 3 = 2 := by omega
  simp only [decide_eq_true hC, decide_eq_false hA, Bool.not_true, Bool.not_false]
  rw [out6_C m c t hC, out7_C m c t hC, out8_C m c t hC]
  iintro ⟨⟨%s, %hs, HS, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hs (by omega)
  iapply ((atC m c t hC (accAt m c t.val)).2.2.2.2.2.2 (accAt m c t.val).2.1 (accAt m c t.val).2.2 _)
  isplitl [H0 H1 H2 H3 H4 H5 HT0 HT1]
  · rw [← inputs_iff]
    isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [H6]; · iexists d6; iexact H6
  isplitl [H7]; · iexists d7; iexact H7
  isplitl [H8]; · iexists d8; iexact H8
  isplitl [HS]; · iexact HS
  unfold inputs
  iintro ⟨⟨H0, H1, H2, H3, H4, H5, HT0, HT1⟩, ⟨%e6, H6⟩, ⟨%e7, H7⟩, ⟨%e8, H8⟩, HS⟩
  isplitl [HS HT0 HT1 HR]
  · iexists ((atC m c t hC (accAt m c t.val)).2.2.2.1, (atC m c t hC (accAt m c t.val)).2.2.2.2.1, (atC m c t hC (accAt m c t.val)).2.2.2.2.2.1)
    isplitr; swap
    · isplitl [HS]; · iexact HS
      isplitl [HT0]; · iexact HT0
      isplitl [HT1]; · iexact HT1
      iexact HR
    · ipureintro; intro _; exact (accAt_C m c t hC).symm
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · unfold owns; iexists _; isplitr; swap
    · iexact H6
    · ipureintro; exact View.read_writes_of_cover _ _ _ _ _ (coverC6 m c t hC _)
  isplitl [H7]
  · unfold owns; iexists _; isplitr; swap
    · iexact H7
    · ipureintro; exact View.read_writes_of_cover _ _ _ _ _ (coverC7 m c t hC _)
  unfold owns; iexists _; isplitr; swap
  · iexact H8
  · ipureintro; exact View.read_writes_of_cover _ _ _ _ _ (coverC8 m c t hC _)

theorem body_obligation (c : Dev nD) : BodyObligation (dats m 0 c) (defs₀ (F := Ideal)) Variants.none () Set.univ := fun t => by
  rw [bigSep_W0]
  exact sound_body m c t

/-! ## The launch -/

theorem share_eq (c : Dev nD) (w : Fin cfgA.W) : (dats m 0 c).share w = fullShare := by unfold Dat.share; split <;> rfl

/-! ### The host's operations before the pipeline -/

/-- What each stretch of host operations writes. -/
def W0 : List (Ref sig .tc) := [main_c, main_c_0, main_v0, main_v1, main_cst, main_v2, main_v3, main_v4, main_v5, main_v6, main_v7, main_v8, main_v9, main_cst_1]
def W1 : List (Ref sig .tc) := [main_call0_v0, main_call0_v1, main_call0_v2, main_v10]
def W2 : List (Ref sig .tc) := [main_cst_2, main_v11, main_v12, main_v13, main_v14, main_v15, main_cst_3, main_v16, main_v17, main_v18, main_v19, main_v20, main_v21,
  main_v22, main_v23, main_v24, main_v25, main_cst_4, main_v26, main_v27, main_v28, main_v29, main_v30, main_v31]

theorem writes0 : (hostOps0 (F := Ideal)).Forall fun op => op.writes ⊆ (W0.map (Proc.devRef (τ := τ) .tc)).toFinset :=
  StableHlo.forall_writes_sub_of_map rfl
theorem writes1 : (hostOps0_1 (F := Ideal)).Forall fun op => op.writes ⊆ (W1.map (Proc.devRef (τ := τ) .tc)).toFinset :=
  StableHlo.forall_writes_sub_of_map rfl
theorem writes2 : (hostOps0_2 (F := Ideal)).Forall fun op => op.writes ⊆ (W2.map (Proc.devRef (τ := τ) .tc)).toFinset :=
  StableHlo.forall_writes_sub_of_map rfl

/-- The contents after the host's operations, one stretch after another. -/
theorem V_split (c : Dev nD) (b : Ref sig .tc) :
    V m c b = StableHlo.after hostOps0_2 (StableHlo.after hostOps0_1 (StableHlo.after hostOps0 fun b => m (c, b))) b := by
  unfold V
  simp only [List.flatten_cons, List.flatten_nil, List.append_nil, StableHlo.after_append]

/-- A buffer that the second and the third stretch leave holds what the first left. -/
theorem V_first (c : Dev nD) (b : Ref sig .tc) (h1 : b ∉ W1) (h2 : b ∉ W2) :
    V m c b = StableHlo.after hostOps0 (fun b => m (c, b)) b := by
  rw [V_split, StableHlo.after_of_writes_sub _ _ writes2 h2, StableHlo.after_of_writes_sub _ _ writes1 h1]

/-- A buffer the host leaves holds what it held at the start. -/
theorem V_kept (c : Dev nD) (b : Ref sig .tc) (h0 : b ∉ W0) (h1 : b ∉ W1) (h2 : b ∉ W2) : V m c b = m ((c : Thread nD τ).loc b) := by
  rw [V_first m c b h1 h2, StableHlo.after_of_writes_sub _ _ writes0 h0]

theorem V_tab0 (c : Dev nD) : V m c main_c = tab0 := by
  rw [V_first m c main_c (by decide) (by decide)]
  after_results
  rfl
theorem V_tab1 (c : Dev nD) : V m c main_c_0 = tab1 := by
  rw [V_first m c main_c_0 (by decide) (by decide)]
  after_results
  rfl

theorem V_pre (c : Dev nD) (k : Fin 2) : V m c (pre0.ref k) = tabs k := by
  fin_cases k
  · exact V_tab0 m c
  · exact V_tab1 m c

/-! ### Into the first point, and out of the last -/

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) : iprop(Pipeline.ΦA spec0 c ∗ Pipeline.ΦT pre0 adm.1 c) ⊢ (dats m 0 c).Φ 0 := by
  unfold Pipeline.ΦA Pipeline.ΦT
  rw [prefHeld_eq, scopedRest0_eq, show (dats m 0 c).Φ 0 = Phi m c 0 from rfl]
  unfold Phi accs
  iintro ⟨⟨⟨⟨%a0, HS0⟩, ⟨%a1, HS1⟩, ⟨%a2, HS2⟩⟩, HR⟩, HT0, HT1⟩
  iexists (a0, a1, a2)
  isplitr; swap
  · isplitl [HS0 HS1 HS2]
    · isplitl [HS0]; · iexact HS0
      isplitl [HS1]; · iexact HS1
      iexact HS2
    isplitl [HT0]; · iexact HT0
    isplitl [HT1]; · iexact HT1
    iexact HR
  · ipureintro; intro h; exact absurd rfl h

theorem phi_out (c : Dev nD) : (dats m 0 c).Φ (Fin.last cfgA.N) ⊢ Pipeline.ΦA spec0 c := by
  unfold Pipeline.ΦA
  rw [scopedRest0_eq, show (dats m 0 c).Φ (Fin.last cfgA.N) = Phi m c (Fin.last _) from rfl]
  unfold Phi accs
  iintro ⟨%s, -, ⟨HS0, HS1, HS2⟩, -, -, HR⟩
  isplitr [HR]
  · isplitl [HS0]; · iexists _; iexact HS0
    isplitl [HS1]; · iexists _; iexact HS1
    iexists _; iexact HS2
  iexact HR

theorem fresh_ops : [hostOps0 (F := Ideal), hostOps0_1, hostOps0_2].Forall fun ops => ops.Forall fun op => op.fresh = ∅ := by
  repeat' first | exact trivial | exact rfl | apply And.intro

set_option backward.isDefEq.respectTransparency.types false in
set_option maxHeartbeats 4000000 in
/-- The run: every array of the pipeline at what the points stored, every other buffer as the host left it, every counter zero. -/
theorem run_main : θ_run (defs (F := Ideal)) (onTc (τ := τ) (main (F := Ideal))) ⟨m, fun _ => 0, ρ⟩
    (fun r => Pipeline.FramePost pcs (dats m) 0 (V m) r ∧ r.2.sem = fun _ => 0) :=
  Pipeline.θ_run_frameP_track (pcfgs (F := Ideal)) (fun _ => adm) (dats m) 0 launch0 (defs₀ (F := Ideal)) Variants.none m ρ (main (F := Ideal))
    (fun c => (body_obligation m c).loose) (share_eq m) (fun _ _ => rfl) (V m)
    (Pipeline.hmainP_prefixes (pcfgs (F := Ideal)) 0 (defs₀ (F := Ideal)) Variants.none m (main (F := Ideal)) [hostOps0, hostOps0_1, hostOps0_2]
      ⟨hostOps0_sub, hostOps0_1_sub, hostOps0_2_sub⟩ fresh_ops main_chain)
    (fun _ _ => rfl) (V_pre m) (phi_in m) (phi_out m)
    (fun r => Pipeline.FramePost pcs (dats m) 0 (V m) r ∧ r.2.sem = fun _ => 0) (fun _ h => h)

/-- Every argument ends as it began. -/
theorem kept_of_post {r : PUnit × MemSt nD τ sig (Elt Ideal)} (h : Pipeline.FramePost pcs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine ⟨?_, ?_, ?_, ?_⟩
  · rw [(h c).2 main_arg0 (Pipeline.mem_restRefs_of _ rfl (by decide))]; exact V_kept m c _ (by decide) (by decide) (by decide)
  · rw [(h c).2 main_arg1 (Pipeline.mem_restRefs_of _ rfl (by decide))]; exact V_kept m c _ (by decide) (by decide) (by decide)
  · rw [(h c).2 main_arg2 (Pipeline.mem_restRefs_of _ rfl (by decide))]; exact V_kept m c _ (by decide) (by decide) (by decide)
  · exact ((h c).1 (3 : Fin 9)).trans (((dats m 0 c).arrAt_in (3 : Fin 9) rfl _).trans (V_kept m c main_arg3 (by decide) (by decide) (by decide)))

/-- The frame: the program ends with its arguments unchanged and every counter at zero. -/
theorem frame_main : θ_run (defs (F := Ideal)) (onTc (τ := τ) (main (F := Ideal))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨kept_of_post m h.1, h.2⟩) (run_main m ρ)

end Cert.AttnKernelIdeal

end
-- ==== Proof.IdealChain.lean ====
module

public import proofs.«01_k».proof.Proof.IdealEnds
public import proofs.«01_k».proof.Proof.IdealFrame
public import Idealize.ShloMosaic.Lib.Pipeline.ValueKit

/-!
# From the pairs of blocks to the three gradients

Each head takes three pairs of blocks: the first diagonal one, the one below it, the second diagonal one. The accumulators are
followed through them, and every entry of the three results is a sum over all queries, or all keys, of the sequence.
-/

@[expose] public section

set_option maxRecDepth 16384
set_option Elab.async false

noncomputable section

namespace Cert.AttnKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC

/-! ## The grid -/

/-- The head of a point, its block of queries and its block of keys. -/
def hd (t : Fin cfgA.N) : Fin 8 := ⟨t.val / 3, by have : t.val < 24 := t.isLt; omega⟩
def Ib (t : Fin cfgA.N) : Fin 2 := if t.val % 3 = 0 then 0 else 1
def Jb (t : Fin cfgA.N) : Fin 2 := if t.val % 3 = 2 then 1 else 0

theorem idx0 : ∀ t : Fin cfgA.N, ∀ a, (cfgA.win (0 : Fin 9)).index t a = (![(hd t).val, (Ib t).val, 0] : Fin 3 → ℕ) a := by decide +kernel
theorem idx1 : ∀ t : Fin cfgA.N, ∀ a, (cfgA.win (1 : Fin 9)).index t a = (![(hd t).val, (Jb t).val, 0] : Fin 3 → ℕ) a := by decide +kernel
theorem idx2 : ∀ t : Fin cfgA.N, ∀ a, (cfgA.win (2 : Fin 9)).index t a = (![(hd t).val, (Jb t).val, 0] : Fin 3 → ℕ) a := by decide +kernel
theorem idx3 : ∀ t : Fin cfgA.N, ∀ a, (cfgA.win (3 : Fin 9)).index t a = (![(Ib t).val, (hd t).val] : Fin 2 → ℕ) a := by decide +kernel
theorem idx4 : ∀ t : Fin cfgA.N, ∀ a, (cfgA.win (4 : Fin 9)).index t a = (![(hd t).val, 0, (Ib t).val] : Fin 3 → ℕ) a := by decide +kernel
theorem idx5 : ∀ t : Fin cfgA.N, ∀ a, (cfgA.win (5 : Fin 9)).index t a = (![0, (Ib t).val] : Fin 2 → ℕ) a := by decide +kernel
theorem idx6 : ∀ t : Fin cfgA.N, ∀ a, (cfgA.win (6 : Fin 9)).index t a = (![(hd t).val, 0, 0] : Fin 3 → ℕ) a := by decide +kernel
theorem idx7 : ∀ t : Fin cfgA.N, ∀ a, (cfgA.win (7 : Fin 9)).index t a = (![(hd t).val, (Jb t).val, 0] : Fin 3 → ℕ) a := by decide +kernel
theorem idx8 : ∀ t : Fin cfgA.N, ∀ a, (cfgA.win (8 : Fin 9)).index t a = (![(hd t).val, (Jb t).val, 0] : Fin 3 → ℕ) a := by decide +kernel
theorem crd0v : ∀ t : Fin cfgA.N, ((crd t) 0).val = (hd t).val := by decide +kernel
theorem crd0 (t : Fin cfgA.N) : (crd t) 0 = hd t := Fin.ext (crd0v t)
theorem wA : ∀ t : Fin cfgA.N, t.val % 3 = 0 → w0 tab0 (crd t) = BitVec.ofNat 32 0 := by decide +kernel
theorem wB : ∀ t : Fin cfgA.N, t.val % 3 ≠ 0 → w0 tab0 (crd t) = BitVec.ofNat 32 1 := by decide +kernel

variable (m : (ℓ : Loc nD τ sig) → Buf (Elt Ideal) ℓ) (c : Dev nD)

/-- Column `e` of head `h`. -/
def col (h : Fin 8) (e : Fin 128) : Fin 1024 := ⟨128 * h.val + e.val, by omega⟩

theorem blk0 (t : Fin cfgA.N) (y : Fin 2048) (d : Fin 192) :
    iblk m c (0 : Fin 9) t (ix3 0 y d) = V m c main_v28 (ix3 (hd t) (row2 (Ib t) y) d) := by
  refine congrArg (V m c main_v28) (funext fun a => Fin.ext (((cfgA.win (0 : Fin 9)).rect_emb_val t _ a).trans ?_))
  rw [idx0]
  fin_cases a
  · show (hd t).val * 1 + 0 = (hd t).val; omega
  · show (Ib t).val * 2048 + y.val = 2048 * (Ib t).val + y.val; omega
  · show 0 * 192 + d.val = d.val; omega
theorem blk1 (t : Fin cfgA.N) (y : Fin 2048) (d : Fin 192) :
    iblk m c (1 : Fin 9) t (ix3 0 y d) = V m c main_v29 (ix3 (hd t) (row2 (Jb t) y) d) := by
  refine congrArg (V m c main_v29) (funext fun a => Fin.ext (((cfgA.win (1 : Fin 9)).rect_emb_val t _ a).trans ?_))
  rw [idx1]
  fin_cases a
  · show (hd t).val * 1 + 0 = (hd t).val; omega
  · show (Jb t).val * 2048 + y.val = 2048 * (Jb t).val + y.val; omega
  · show 0 * 192 + d.val = d.val; omega
theorem blk2 (t : Fin cfgA.N) (y : Fin 2048) (d : Fin 128) :
    iblk m c (2 : Fin 9) t (ix3 0 y d) = V m c main_v30 (ix3 (hd t) (row2 (Jb t) y) d) := by
  refine congrArg (V m c main_v30) (funext fun a => Fin.ext (((cfgA.win (2 : Fin 9)).rect_emb_val t _ a).trans ?_))
  rw [idx2]
  fin_cases a
  · show (hd t).val * 1 + 0 = (hd t).val; omega
  · show (Jb t).val * 2048 + y.val = 2048 * (Jb t).val + y.val; omega
  · show 0 * 128 + d.val = d.val; omega
theorem emb3 (t : Fin cfgA.N) (y : Fin 2048) (e : Fin 128) :
    ((cfgA.win (3 : Fin 9)).rect t).emb (ix2 y e) = ix2 (row2 (Ib t) y) (col (hd t) e) := by
  refine funext fun a => Fin.ext (((cfgA.win (3 : Fin 9)).rect_emb_val t _ a).trans ?_)
  rw [idx3]
  fin_cases a
  · show (Ib t).val * 2048 + y.val = 2048 * (Ib t).val + y.val; omega
  · show (hd t).val * 128 + e.val = 128 * (hd t).val + e.val; omega
theorem blk3' (t : Fin cfgA.N) (y : Fin 2048) (e : Fin 128) :
    iblk m c (3 : Fin 9) t (ix2 y e) = V m c (Pipeline.arrRef spec0 (3 : Fin 9)) (ix2 (row2 (Ib t) y) (col (hd t) e)) :=
  congrArg (V m c (Pipeline.arrRef spec0 (3 : Fin 9))) (emb3 t y e)
theorem ref3 (A : (c : Dev nD) → (b : Ref sig .tc) → Buf (Elt Ideal) ((c : Thread nD τ).loc b)) :
    A c (Pipeline.arrRef spec0 (3 : Fin 9)) = A c main_arg3 := rfl
theorem blk3 (t : Fin cfgA.N) (y : Fin 2048) (e : Fin 128) :
    iblk m c (3 : Fin 9) t (ix2 y e) = V m c main_arg3 (ix2 (row2 (Ib t) y) (col (hd t) e)) :=
  (blk3' m c t y e).trans (congrFun (ref3 c (V m)) (ix2 (row2 (Ib t) y) (col (hd t) e)))
theorem emb4 (t : Fin cfgA.N) (y : Fin 2048) :
    ((cfgA.win (4 : Fin 9)).rect t).emb (ix3 (0 : Fin 1) (0 : Fin 1) y) = ix3 (hd t) (0 : Fin 1) (row2 (Ib t) y) := by
  refine funext fun a => Fin.ext (((cfgA.win (4 : Fin 9)).rect_emb_val t _ a).trans ?_)
  rw [idx4]
  fin_cases a
  · show (hd t).val * 1 + 0 = (hd t).val; omega
  · show 0 * 1 + 0 = 0; omega
  · show (Ib t).val * 2048 + y.val = 2048 * (Ib t).val + y.val; omega
theorem rd4 (A : (main_v31 : Ref sig .tc).ty.Contents (Elt Ideal)) (t : Fin cfgA.N) (y : Fin 2048) :
    ((cfgA.win (4 : Fin 9)).blk t).view.read (Elt Ideal) A (ix3 (0 : Fin 1) (0 : Fin 1) y) = A (ix3 (hd t) (0 : Fin 1) (row2 (Ib t) y)) := congrArg A (emb4 t y)
theorem rdF4 (A : (c : Dev nD) → (b : Ref sig .tc) → Buf (Elt Ideal) ((c : Thread nD τ).loc b)) (t : Fin cfgA.N) (y : Fin 2048) :
    ((cfgA.win (4 : Fin 9)).blk t).view.read (Elt Ideal) (A c (Pipeline.arrRef spec0 (4 : Fin 9))) (ix3 (0 : Fin 1) (0 : Fin 1) y) = A c main_v31 (ix3 (hd t) (0 : Fin 1) (row2 (Ib t) y)) :=
  rd4 (A c main_v31) t y
theorem blk4 (t : Fin cfgA.N) (y : Fin 2048) :
    iblk m c (4 : Fin 9) t (ix3 (0 : Fin 1) (0 : Fin 1) y) = V m c main_v31 (ix3 (hd t) (0 : Fin 1) (row2 (Ib t) y)) := by
  unfold iblk
  exact rdF4 c (V m) t y
theorem blk5 (t : Fin cfgA.N) (h : Fin 8) (y : Fin 2048) :
    iblk m c (5 : Fin 9) t (ix2 h y) = V m c main_v27 (ix2 h (row2 (Ib t) y)) := by
  refine congrArg (V m c main_v27) (funext fun a => Fin.ext (((cfgA.win (5 : Fin 9)).rect_emb_val t _ a).trans ?_))
  rw [idx5]
  fin_cases a
  · show 0 * 8 + h.val = h.val; omega
  · show (Ib t).val * 2048 + y.val = 2048 * (Ib t).val + y.val; omega

/-! ## The whole sequence -/

/-- The probability of key `k` for query `q` of head `h`, from the scores and the saved log-sum-exp; nothing after the query. -/
def gP (h : Fin 8) (q k : Fin 4096) : EReal :=
  if q.val < k.val then 0
  else Ideal.exp2 ((∑ d : Fin 192, (show EReal from V m c main_v29 (ix3 h k d)) * (show EReal from V m c main_v28 (ix3 h q d))) * cScaleLog2e
    - (show EReal from V m c main_v31 (ix3 h (0 : Fin 1) q)) * cLog2e)

/-- The gradient of its score. -/
def gD (h : Fin 8) (q k : Fin 4096) : EReal :=
  gP m c h q k * ((∑ e : Fin 128, (show EReal from V m c main_v30 (ix3 h k e)) * (show EReal from V m c main_arg3 (ix2 q (col h e))))
    - (show EReal from V m c main_v27 (ix2 h q))) * cScale

theorem pV_g (t : Fin cfgA.N) (g : Bool) (hg : g = true ↔ Ib t = Jb t) (hle : (Jb t).val ≤ (Ib t).val) (q k : Fin 2048) :
    pV (iblk m c (0 : Fin 9) t) (iblk m c (1 : Fin 9) t) (iblk m c (4 : Fin 9) t) g q k = gP m c (hd t) (row2 (Ib t) q) (row2 (Jb t) k) := by
  unfold pV gP
  have hiff : (g = true ∧ q.val < k.val) ↔ (row2 (Ib t) q).val < (row2 (Jb t) k).val := by
    rw [hg]
    simp only [row2]
    constructor
    · rintro ⟨h, hk⟩; rw [h]; omega
    · intro h
      have : Ib t = Jb t := Fin.ext (by omega)
      exact ⟨this, by rw [this] at h; omega⟩
  by_cases h : g = true ∧ q.val < k.val
  · rw [if_pos h, if_pos (hiff.1 h)]
  · rw [if_neg h, if_neg fun h' => h (hiff.2 h')]
    simp only [blk0, blk1, blk4]

theorem dsV_g (t : Fin cfgA.N) (g : Bool) (hg : g = true ↔ Ib t = Jb t) (hle : (Jb t).val ≤ (Ib t).val) (q k : Fin 2048) :
    dsV (crd t) (iblk m c (0 : Fin 9) t) (iblk m c (1 : Fin 9) t) (iblk m c (2 : Fin 9) t) (iblk m c (3 : Fin 9) t) (iblk m c (4 : Fin 9) t) (iblk m c (5 : Fin 9) t) g q k
      = gD m c (hd t) (row2 (Ib t) q) (row2 (Jb t) k) := by
  unfold dsV gD
  rw [pV_g m c t g hg hle, crd0]
  simp only [blk2, blk3, blk5]

theorem gP_zero (h : Fin 8) (q k : Fin 4096) (hk : q.val < k.val) : gP m c h q k = 0 := if_pos hk
theorem gD_zero (h : Fin 8) (q k : Fin 4096) (hk : q.val < k.val) : gD m c h q k = 0 := by unfold gD; rw [gP_zero m c h q k hk, zero_mul, zero_mul]

/-- The three gradients, entry by entry. -/
def gq (h : Fin 8) (q : Fin 4096) (d : Fin 192) : EReal := ∑ k, gD m c h q k * (show EReal from V m c main_v29 (ix3 h k d))
def gk (h : Fin 8) (k : Fin 4096) (d : Fin 192) : EReal := ∑ q, gD m c h q k * (show EReal from V m c main_v28 (ix3 h q d))
def gv (h : Fin 8) (k : Fin 4096) (e : Fin 128) : EReal := ∑ q, gP m c h q k * (show EReal from V m c main_arg3 (ix2 q (col h e)))

/-- A sum over the sequence, block by block. -/
theorem sum_row2 (f : Fin 4096 → EReal) : ∑ q, f q = (∑ y, f (row2 0 y)) + ∑ y, f (row2 1 y) := by
  rw [← Fin.sum_univ_two (fun J => ∑ y, f (row2 J y)), ← Fintype.sum_prod_type' (f := fun (J : Fin 2) (y : Fin 2048) => f (row2 J y))]
  exact (Fintype.sum_equiv (finProdFinEquiv (m := 2) (n := 2048)) (fun p => f (row2 p.1 p.2)) f fun p => congrArg f (Fin.ext (by simp [row2, finProdFinEquiv]; omega))).symm

theorem row2_surj (y : Fin 4096) : ∃ J r, y = row2 J r := ⟨⟨y.val / 2048, by omega⟩, ⟨y.val % 2048, by omega⟩, Fin.ext (by simp [row2]; omega)⟩
theorem row2_lt (q k : Fin 2048) : (row2 0 q).val < (row2 1 k).val := by show 2048 * 0 + q.val < 2048 * 1 + k.val; omega

/-! ## The accumulators of a head -/

theorem prev (t : Fin cfgA.N) (h : t.val % 3 ≠ 0) : ∃ s : Fin cfgA.N, t.val = s.val + 1 ∧ hd s = hd t :=
  ⟨⟨t.val - 1, by have := t.isLt; omega⟩, by show t.val = t.val - 1 + 1; omega, Fin.ext (by show (t.val - 1) / 3 = t.val / 3; omega)⟩

theorem kindsA (t : Fin cfgA.N) (h : t.val % 3 = 0) : Ib t = 0 ∧ Jb t = 0 := ⟨if_pos h, if_neg (by omega)⟩
theorem kindsB (t : Fin cfgA.N) (h : t.val % 3 = 1) : Ib t = 1 ∧ Jb t = 0 := ⟨if_neg (by omega), if_neg (by omega)⟩
theorem kindsC (t : Fin cfgA.N) (h : t.val % 3 = 2) : Ib t = 1 ∧ Jb t = 1 := ⟨if_neg (by omega), if_pos h⟩

/-- After the first pair. -/
theorem accA_k (t : Fin cfgA.N) (h : t.val % 3 = 0) (y : Fin 2048) (d : Fin 192) :
    (show EReal from (accAt m c (t.val + 1)).2.1 (ix2 y d)) = ∑ q : Fin 2048, gD m c (hd t) (row2 0 q) (row2 0 y) * (show EReal from V m c main_v28 (ix3 (hd t) (row2 0 q) d)) := by
  obtain ⟨hI, hJ⟩ := kindsA t h
  rw [accAt_A m c t h]
  show (atA m c t h).2.1 (ix2 y d) = _
  rw [runA_k (e := kindA t h), kD_at]
  refine Finset.sum_congr rfl fun q _ => ?_
  rw [dsV_g m c t true (by simp [hI, hJ]) (by rw [hI, hJ]), blk0, hI, hJ]
theorem accA_v (t : Fin cfgA.N) (h : t.val % 3 = 0) (y : Fin 2048) (e : Fin 128) :
    (show EReal from (accAt m c (t.val + 1)).2.2 (ix2 y e)) = ∑ q : Fin 2048, gP m c (hd t) (row2 0 q) (row2 0 y) * (show EReal from V m c main_arg3 (ix2 (row2 0 q) (col (hd t) e))) := by
  obtain ⟨hI, hJ⟩ := kindsA t h
  rw [accAt_A m c t h]
  show (atA m c t h).2.2.1 (ix2 y e) = _
  rw [runA_v (e := kindA t h), vD_at]
  refine Finset.sum_congr rfl fun q _ => ?_
  rw [pV_g m c t true (by simp [hI, hJ]) (by rw [hI, hJ]), blk3, hI, hJ]
theorem accA_q (t : Fin cfgA.N) (h : t.val % 3 = 0) (J : Fin 2) (y : Fin 2048) (d : Fin 192) :
    (show EReal from (accAt m c (t.val + 1)).1 (ix2 (row2 J y) d))
      = if (0 : Fin 2) = J then ∑ k : Fin 2048, gD m c (hd t) (row2 0 y) (row2 0 k) * (show EReal from V m c main_v29 (ix3 (hd t) (row2 0 k) d)) else 0 := by
  obtain ⟨hI, hJ⟩ := kindsA t h
  rw [accAt_A m c t h]
  show (atA m c t h).1 (ix2 (row2 J y) d) = _
  rw [runA_q (e := kindA t h) (hT := wA t h)]
  refine (qD_at _ _ _ _ _ _ _ _ _ _ _ _ _ 0 J _ y d).trans ?_
  by_cases h0 : (0 : Fin 2) = J
  · rw [if_pos h0, if_pos h0]
    refine (zero_add _).trans (Finset.sum_congr rfl fun k _ => ?_)
    rw [dsV_g m c t true (by simp [hI, hJ]) (by rw [hI, hJ]), blk1, hI, hJ]
  · rw [if_neg h0, if_neg h0]

/-- After the second pair. -/
theorem accB_q (t : Fin cfgA.N) (h : t.val % 3 = 1) (J : Fin 2) (y : Fin 2048) (d : Fin 192) :
    (show EReal from (accAt m c (t.val + 1)).1 (ix2 (row2 J y) d)) = ∑ k : Fin 2048, gD m c (hd t) (row2 J y) (row2 0 k) * (show EReal from V m c main_v29 (ix3 (hd t) (row2 0 k) d)) := by
  obtain ⟨hI, hJ⟩ := kindsB t h
  obtain ⟨s, hs, hh⟩ := prev t (by omega)
  rw [accAt_B m c t h]
  show (atB m c t h (accAt m c t.val)).2.2.1 (ix2 (row2 J y) d) = _
  rw [runB_q (e := kindB t h) (hT := wB t (by omega))]
  refine (qF_at _ _ _ _ _ _ _ _ _ _ _ _ _ 1 J _ y d).trans ?_
  by_cases h0 : (1 : Fin 2) = J
  · subst h0
    rw [if_pos rfl, hs, accA_q m c s (by omega) 1 y d, if_neg (by decide)]
    refine (zero_add _).trans (Finset.sum_congr rfl fun k _ => ?_)
    rw [dsV_g m c t false (by simp [hI, hJ]) (by rw [hI, hJ]; decide), blk1, hI, hJ]
  · have : J = 0 := by omega
    subst this
    rw [if_neg h0, hs]
    refine (accA_q m c s (by omega) 0 y d).trans ?_
    rw [if_pos rfl, hh]

end Cert.AttnKernelIdeal

end
-- ==== Proof.IdealArrays.lean ====
module

public import proofs.«01_k».proof.Proof.IdealChain

/-!
# The three result arrays

What the points store, entry by entry, and so the arrays after the run: the gradients of the queries, the keys and the values.
-/

@[expose] public section

set_option maxRecDepth 16384
set_option Elab.async false

noncomputable section

namespace Cert.AttnKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC

variable (m : (ℓ : Loc nD τ sig) → Buf (Elt Ideal) ℓ) (c : Dev nD)

/-! ## The stored blocks -/

theorem pay5_at (f : Vec Ideal S2048x192 .f32) (y : Fin 2048) (d : Fin 192) : k0_pay5 f (ix3 (0 : Fin 1) y d) = f (ix2 y d) := by pointwise [k0_pay5]
theorem pay6_at (f : Vec Ideal S2048x128 .f32) (y : Fin 2048) (d : Fin 128) : k0_pay6 f (ix3 (0 : Fin 1) y d) = f (ix2 y d) := by pointwise [k0_pay6]
theorem pay7_at (f : Vec Ideal S4096x192 .f32) (y : Fin 4096) (d : Fin 192) : k0_pay7 f (ix3 (0 : Fin 1) y d) = f (ix2 y d) := by pointwise [k0_pay7]

theorem gk_0 (h : Fin 8) (y : Fin 2048) (d : Fin 192) : gk m c h (row2 0 y) d
    = (∑ q : Fin 2048, gD m c h (row2 0 q) (row2 0 y) * (show EReal from V m c main_v28 (ix3 h (row2 0 q) d)))
      + ∑ q : Fin 2048, gD m c h (row2 1 q) (row2 0 y) * (show EReal from V m c main_v28 (ix3 h (row2 1 q) d)) := sum_row2 _
theorem gk_1 (h : Fin 8) (y : Fin 2048) (d : Fin 192) : gk m c h (row2 1 y) d
    = ∑ q : Fin 2048, gD m c h (row2 1 q) (row2 1 y) * (show EReal from V m c main_v28 (ix3 h (row2 1 q) d)) := by
  refine (sum_row2 _).trans ?_
  rw [Finset.sum_eq_zero (fun q _ => by rw [gD_zero m c h _ _ (row2_lt q y)]; exact zero_mul _), zero_add]
theorem gv_0 (h : Fin 8) (y : Fin 2048) (e : Fin 128) : gv m c h (row2 0 y) e
    = (∑ q : Fin 2048, gP m c h (row2 0 q) (row2 0 y) * (show EReal from V m c main_arg3 (ix2 (row2 0 q) (col h e))))
      + ∑ q : Fin 2048, gP m c h (row2 1 q) (row2 0 y) * (show EReal from V m c main_arg3 (ix2 (row2 1 q) (col h e))) := sum_row2 _
theorem gv_1 (h : Fin 8) (y : Fin 2048) (e : Fin 128) : gv m c h (row2 1 y) e
    = ∑ q : Fin 2048, gP m c h (row2 1 q) (row2 1 y) * (show EReal from V m c main_arg3 (ix2 (row2 1 q) (col h e))) := by
  refine (sum_row2 _).trans ?_
  rw [Finset.sum_eq_zero (fun q _ => by rw [gP_zero m c h _ _ (row2_lt q y)]; exact zero_mul _), zero_add]
theorem gq_0 (h : Fin 8) (y : Fin 2048) (d : Fin 192) : gq m c h (row2 0 y) d
    = ∑ k : Fin 2048, gD m c h (row2 0 y) (row2 0 k) * (show EReal from V m c main_v29 (ix3 h (row2 0 k) d)) := by
  refine (sum_row2 _).trans ?_
  rw [Finset.sum_eq_zero (s := Finset.univ) (f := fun k => gD m c h (row2 0 y) (row2 1 k) * (show EReal from V m c main_v29 (ix3 h (row2 1 k) d)))
    (fun k _ => by rw [gD_zero m c h _ _ (row2_lt y k)]; exact zero_mul _), add_zero]
theorem gq_1 (h : Fin 8) (y : Fin 2048) (d : Fin 192) : gq m c h (row2 1 y) d
    = (∑ k : Fin 2048, gD m c h (row2 1 y) (row2 0 k) * (show EReal from V m c main_v29 (ix3 h (row2 0 k) d)))
      + ∑ k : Fin 2048, gD m c h (row2 1 y) (row2 1 k) * (show EReal from V m c main_v29 (ix3 h (row2 1 k) d)) := sum_row2 _

theorem out7_B_at (t : Fin cfgA.N) (h : t.val % 3 = 1) (y : Fin 2048) (d : Fin 192) :
    out7 m c t (ix3 (0 : Fin 1) y d) = gk m c (hd t) (row2 0 y) d := by
  obtain ⟨hI, hJ⟩ := kindsB t h
  obtain ⟨s, hs, hh⟩ := prev t (by omega)
  rw [out7_B m c t h, runB_k (e := kindB t h), View.read_writes_full, pay5_at]
  refine (kF_at _ _ _ _ _ _ _ _ _ _ _ _ _ _ y d).trans ?_
  rw [gk_0]
  refine Ideal.add_congr ?_ (Finset.sum_congr rfl fun q _ => ?_)
  · rw [hs, ← hh]
    exact accA_k m c s (by omega) y d
  · rw [dsV_g m c t false (by simp [hI, hJ]) (by rw [hI, hJ]; decide), blk0, hI, hJ]
theorem out8_B_at (t : Fin cfgA.N) (h : t.val % 3 = 1) (y : Fin 2048) (e : Fin 128) :
    out8 m c t (ix3 (0 : Fin 1) y e) = gv m c (hd t) (row2 0 y) e := by
  obtain ⟨hI, hJ⟩ := kindsB t h
  obtain ⟨s, hs, hh⟩ := prev t (by omega)
  rw [out8_B m c t h, runB_v (e := kindB t h), View.read_writes_full, pay6_at]
  refine (vF_at _ _ _ _ _ _ _ _ _ y e).trans ?_
  rw [gv_0]
  refine Ideal.add_congr ?_ (Finset.sum_congr rfl fun q _ => ?_)
  · rw [hs, ← hh]
    exact accA_v m c s (by omega) y e
  · rw [pV_g m c t false (by simp [hI, hJ]) (by rw [hI, hJ]; decide), blk3, hI, hJ]
theorem out7_C_at (t : Fin cfgA.N) (h : t.val % 3 = 2) (y : Fin 2048) (d : Fin 192) :
    out7 m c t (ix3 (0 : Fin 1) y d) = gk m c (hd t) (row2 1 y) d := by
  obtain ⟨hI, hJ⟩ := kindsC t h
  rw [out7_C m c t h, runC_k (e := kindC t h), View.read_writes_full, pay5_at, gk_1]
  refine (kD_at _ _ _ _ _ _ _ _ _ _ _ _ _ y d).trans (Finset.sum_congr rfl fun q _ => ?_)
  rw [dsV_g m c t true (by simp [hI, hJ]) (by rw [hI, hJ]), blk0, hI, hJ]
theorem out8_C_at (t : Fin cfgA.N) (h : t.val % 3 = 2) (y : Fin 2048) (e : Fin 128) :
    out8 m c t (ix3 (0 : Fin 1) y e) = gv m c (hd t) (row2 1 y) e := by
  obtain ⟨hI, hJ⟩ := kindsC t h
  rw [out8_C m c t h, runC_v (e := kindC t h), View.read_writes_full, pay6_at, gv_1]
  refine (vD_at _ _ _ _ _ _ _ _ y e).trans (Finset.sum_congr rfl fun q _ => ?_)
  rw [pV_g m c t true (by simp [hI, hJ]) (by rw [hI, hJ]), blk3, hI, hJ]
theorem out6_C_at (t : Fin cfgA.N) (h : t.val % 3 = 2) (J : Fin 2) (y : Fin 2048) (d : Fin 192) :
    out6 m c t (ix3 (0 : Fin 1) (row2 J y) d) = gq m c (hd t) (row2 J y) d := by
  obtain ⟨hI, hJ⟩ := kindsC t h
  obtain ⟨s, hs, hh⟩ := prev t (by omega)
  rw [out6_C m c t h, runC_q (e := kindC t h) (hT := wB t (by omega)), View.read_writes_full, pay7_at]
  refine (qD_at _ _ _ _ _ _ _ _ _ _ _ _ _ 1 J _ y d).trans ?_
  by_cases h0 : (1 : Fin 2) = J
  · subst h0
    rw [if_pos rfl, gq_1]
    refine Ideal.add_congr ?_ (Finset.sum_congr rfl fun k _ => ?_)
    · rw [hs, ← hh]
      exact accB_q m c s (by omega) 1 y d
    · rw [dsV_g m c t true (by simp [hI, hJ]) (by rw [hI, hJ]), blk1, hI, hJ]
  · have : J = 0 := by omega
    subst this
    rw [if_neg h0, gq_0, hs, ← hh]
    exact accB_q m c s (by omega) 0 y d

/-! ## The arrays after the run -/

theorem fl6 : ∀ t : Fin cfgA.N, (cfgA.win (6 : Fin 9)).flush t = true → t.val % 3 = 2 := by decide +kernel
theorem fl7 : ∀ t : Fin cfgA.N, (cfgA.win (7 : Fin 9)).flush t = true → t.val % 3 = 1 ∨ t.val % 3 = 2 := by decide +kernel
theorem fl8 : ∀ t : Fin cfgA.N, (cfgA.win (8 : Fin 9)).flush t = true → t.val % 3 = 1 ∨ t.val % 3 = 2 := by decide +kernel

theorem emb6 (t : Fin cfgA.N) (y : Fin 4096) (d : Fin 192) :
    ((cfgA.win (6 : Fin 9)).rect t).emb (ix3 (0 : Fin 1) y d) = ix3 (hd t) y d := by
  refine funext fun a => Fin.ext (((cfgA.win (6 : Fin 9)).rect_emb_val t _ a).trans ?_)
  rw [idx6]
  fin_cases a
  · show (hd t).val * 1 + 0 = (hd t).val; omega
  · show 0 * 4096 + y.val = y.val; omega
  · show 0 * 192 + d.val = d.val; omega
theorem emb7 (t : Fin cfgA.N) (y : Fin 2048) (d : Fin 192) :
    ((cfgA.win (7 : Fin 9)).rect t).emb (ix3 (0 : Fin 1) y d) = ix3 (hd t) (row2 (Jb t) y) d := by
  refine funext fun a => Fin.ext (((cfgA.win (7 : Fin 9)).rect_emb_val t _ a).trans ?_)
  rw [idx7]
  fin_cases a
  · show (hd t).val * 1 + 0 = (hd t).val; omega
  · show (Jb t).val * 2048 + y.val = 2048 * (Jb t).val + y.val; omega
  · show 0 * 192 + d.val = d.val; omega
theorem emb8 (t : Fin cfgA.N) (y : Fin 2048) (d : Fin 128) :
    ((cfgA.win (8 : Fin 9)).rect t).emb (ix3 (0 : Fin 1) y d) = ix3 (hd t) (row2 (Jb t) y) d := by
  refine funext fun a => Fin.ext (((cfgA.win (8 : Fin 9)).rect_emb_val t _ a).trans ?_)
  rw [idx8]
  fin_cases a
  · show (hd t).val * 1 + 0 = (hd t).val; omega
  · show (Jb t).val * 2048 + y.val = 2048 * (Jb t).val + y.val; omega
  · show 0 * 128 + d.val = d.val; omega

def G6 : S8x4096x192.Idx → EReal := fun j => gq m c (j 0) (j 1) (j 2)
def G7 : S8x4096x192.Idx → EReal := fun j => gk m c (j 0) (j 1) (j 2)
def G8 : S8x4096x128.Idx → EReal := fun j => gv m c (j 0) (j 1) (j 2)

theorem at6 (t : Fin cfgA.N) (h : t.val % 3 = 2) (y : S1x4096x192.Idx) : out6 m c t y = G6 m c (((cfgA.win (6 : Fin 9)).rect t).emb y) := by
  obtain ⟨y, d, rfl⟩ : ∃ a b, y = ix3 (0 : Fin 1) a b := ⟨y 1, y 2, (eq_ix3 y).trans (congrArg (fun a : Fin 1 => ix3 a (y 1) (y 2)) (Subsingleton.elim (α := Fin 1) _ _))⟩
  refine Eq.trans ?_ (congrArg (G6 m c) (emb6 t y d)).symm
  obtain ⟨J, r, rfl⟩ := row2_surj y
  exact out6_C_at m c t h J r d
theorem at7 (t : Fin cfgA.N) (h : t.val % 3 = 1 ∨ t.val % 3 = 2) (y : S1x2048x192.Idx) : out7 m c t y = G7 m c (((cfgA.win (7 : Fin 9)).rect t).emb y) := by
  obtain ⟨y, d, rfl⟩ : ∃ a b, y = ix3 (0 : Fin 1) a b := ⟨y 1, y 2, (eq_ix3 y).trans (congrArg (fun a : Fin 1 => ix3 a (y 1) (y 2)) (Subsingleton.elim (α := Fin 1) _ _))⟩
  refine Eq.trans ?_ (congrArg (G7 m c) (emb7 t y d)).symm
  rcases h with h | h
  · rw [(kindsB t h).2]; exact out7_B_at m c t h y d
  · rw [(kindsC t h).2]; exact out7_C_at m c t h y d
theorem at8 (t : Fin cfgA.N) (h : t.val % 3 = 1 ∨ t.val % 3 = 2) (y : S1x2048x128.Idx) : out8 m c t y = G8 m c (((cfgA.win (8 : Fin 9)).rect t).emb y) := by
  obtain ⟨y, d, rfl⟩ : ∃ a b, y = ix3 (0 : Fin 1) a b := ⟨y 1, y 2, (eq_ix3 y).trans (congrArg (fun a : Fin 1 => ix3 a (y 1) (y 2)) (Subsingleton.elim (α := Fin 1) _ _))⟩
  refine Eq.trans ?_ (congrArg (G8 m c) (emb8 t y d)).symm
  rcases h with h | h
  · rw [(kindsB t h).2]; exact out8_B_at m c t h y d
  · rw [(kindsC t h).2]; exact out8_C_at m c t h y d

theorem arr6 : (dats m 0 c).arrAt (6 : Fin 9) cfgA.N = G6 m c :=
  (dats m 0 c).arrAt_eq_of_covers (6 : Fin 9) (G6 m c) (by decide +kernel) fun t hf y => at6 m c t (fl6 t hf) y
theorem arr7 : (dats m 0 c).arrAt (7 : Fin 9) cfgA.N = G7 m c :=
  (dats m 0 c).arrAt_eq_of_covers (7 : Fin 9) (G7 m c) (by decide +kernel) fun t hf y => at7 m c t (fl7 t hf) y
theorem arr8 : (dats m 0 c).arrAt (8 : Fin 9) cfgA.N = G8 m c :=
  (dats m 0 c).arrAt_eq_of_covers (8 : Fin 9) (G8 m c) (by decide +kernel) fun t hf y => at8 m c t (fl8 t hf) y

end Cert.AttnKernelIdeal

end
-- ==== Proof.IdealHost.lean ====
module

public import proofs.«01_k».proof.Proof.IdealChain

/-!
# The lines before the kernel

The log-sum-exp of the scores, the row sums of output times its gradient, and the rounded inputs, as terms of the arguments and entry by entry.
-/

@[expose] public section

set_option maxRecDepth 16384
set_option Elab.async false

noncomputable section

namespace Cert.AttnKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC

/-! ## The terms -/

theorem ofBits_ninf : Ideal.ofBits .f32 0xFF800000#32 = ⊥ := by simp [Ideal.ofBits, Ideal.ieee]
theorem ofBits_192 : Ideal.ofBits .f32 0x43400000#32 = ((192 : ℝ) : EReal) := by
  simp [Ideal.ofBits, Ideal.ieee, -EReal.coe_mul]; norm_num
theorem sge_lt (q k : Fin 4096) : IntOp.cmpi CmpIPredicate.sge (BitVec.ofNat 32 q.val) (BitVec.ofNat 32 k.val) = if q.val < k.val then 0#1 else 1#1 := by
  have hx : ∀ n, n < 4096 → (BitVec.ofNat 32 n).toInt = (n : ℤ) := by
    intro n hn
    rw [BitVec.toInt_eq_toNat_of_lt (by rw [BitVec.toNat_ofNat, Nat.mod_eq_of_lt (by omega)]; omega), BitVec.toNat_ofNat, Nat.mod_eq_of_lt (by omega)]
  show BitVec.ofBool (BitVec.sle (BitVec.ofNat 32 k.val) (BitVec.ofNat 32 q.val)) = _
  rw [BitVec.sle_eq_decide, hx _ q.isLt, hx _ k.isLt]
  by_cases h : q.val < k.val
  · rw [if_pos h, decide_eq_false (by omega)]; rfl
  · rw [if_neg h, decide_eq_true (by omega)]; rfl

section terms
variable (x0 x1 : FVec Ideal S8x4096x192 .f32) (x2 : FVec Ideal S8x4096x128 .f32) (x3 : FVec Ideal S4096x1024 .f32)

/-- The rounded inputs. -/
def hB {s : Shape} (x : FVec Ideal s .f32) : FVec Ideal s .bf16 := truncf .bf16 x bitsLt_bf16_f32
/-- The scores, nothing after the query. -/
def hS : FVec Ideal S8x4096x4096 .f32 :=
  select (broadcastInDim S8x4096x4096 ![1, 2] bcast_S4096x4096_S8x4096x4096_1_2
      (cmpi .sge (broadcastInDim S4096x4096 ![0, 1] bcast_S4096x1_S4096x4096_0_1 (broadcastInDim S4096x1 ![0] bcast_S4096_S4096x1_0 (iotaInDim S4096 32 0)))
        (broadcastInDim S4096x4096 ![0, 1] bcast_S1x4096_S4096x4096_0_1 (broadcastInDim S1x4096 ![1] bcast_S4096_S1x4096_1 (iotaInDim S4096 32 0)))))
    (Host.divf (Host.dotGeneral dot_S8x4096x192_S8x4096x192_S8x4096x4096_2_2_1_1_0_0 none x0 x1)
      (broadcastInDim S8x4096x4096 ![] bcast_S_S8x4096x4096 (Host.sqrt (constant (F := Ideal) S_ .f32 0x43400000#32))))
    (broadcastInDim S8x4096x4096 ![] bcast_S_S8x4096x4096 (constant (F := Ideal) S_ .f32 0xFF800000#32))
/-- Their greatest. -/
def hM : FVec Ideal S8x4096 .f32 := Host.reduce FloatOps.maximumf (hS x0 x1) (constant (F := Ideal) S_ .f32 0xFF800000#32) reducesTo_S8x4096x4096_S8x4096_d2 h_S_
/-- The exponentials. -/
def hE : FVec Ideal S8x4096x4096 .f32 :=
  Host.exp (subf (hS x0 x1) (broadcastInDim S8x4096x4096 ![0, 1, 2] bcast_S8x4096x1_S8x4096x4096_0_1_2 (broadcastInDim S8x4096x1 ![0, 1] bcast_S8x4096_S8x4096x1_0_1 (hM x0 x1))))
/-- Their sum. -/
def hZ : FVec Ideal S8x4096 .f32 := Host.reduceAdd (hE x0 x1) (constant (F := Ideal) S_ .f32 0x00000000#32) reducesTo_S8x4096x4096_S8x4096_d2 h_S_
/-- The log-sum-exp, as a column and as a row. -/
def hLc : FVec Ideal S8x4096x1 .f32 :=
  addf (broadcastInDim S8x4096x1 ![0, 1] bcast_S8x4096_S8x4096x1_0_1 (hM x0 x1)) (Host.log (broadcastInDim S8x4096x1 ![0, 1] bcast_S8x4096_S8x4096x1_0_1 (hZ x0 x1)))
def hL : FVec Ideal S8x1x4096 .f32 := shapeCast S8x1x4096 (hLc x0 x1) shapeCasts_S8x4096x1_S8x1x4096
/-- The probabilities. -/
def hP : FVec Ideal S8x4096x4096 .f32 :=
  Host.divf (hE x0 x1) (broadcastInDim S8x4096x4096 ![0, 1, 2] bcast_S8x4096x1_S8x4096x4096_0_1_2 (broadcastInDim S8x4096x1 ![0, 1] bcast_S8x4096_S8x4096x1_0_1 (hZ x0 x1)))
/-- The output. -/
def hO : FVec Ideal S8x128x4096 .f32 := Host.dotGeneral dot_S8x4096x128_S8x4096x4096_S8x128x4096_1_2_2_1_0_0 none x2 (hP x0 x1)
/-- The row sums of output times its gradient. -/
def hD : FVec Ideal S8x4096 .f32 :=
  transpose S8x4096 [1, 0] (Host.reduceAdd (mulf (shapeCast S4096x8x128 x3 shapeCasts_S4096x1024_S4096x8x128)
      (transpose S4096x8x128 [2, 0, 1] (hO x0 x1 x2) transposes_S8x128x4096_S4096x8x128_2_0_1)) (constant (F := Ideal) S_ .f32 0x00000000#32) reducesTo_S4096x8x128_S4096x8_d2 h_S_)
    transposes_S4096x8_S8x4096_1_0

theorem hS_at (h : Fin 8) (q k : Fin 4096) : hS x0 x1 (ix3 h q k)
    = if q.val < k.val then (⊥ : EReal) else Ideal.div (∑ d : Fin 192, (show EReal from x0 (ix3 h q d)) * (show EReal from x1 (ix3 h k d))) (Ideal.sqrt ((192 : ℝ) : EReal)) := by
  pointwise [hS]
  rw [ofBits_ninf, ofBits_192, sge_lt]
  by_cases h : q.val < k.val
  · rw [if_pos h, if_pos h]; rfl
  · rw [if_neg h, if_neg h]; rfl
theorem hM_at (h : Fin 8) (q : Fin 4096) : hM x0 x1 (ix2 h q) = Finset.univ.fold (max : EReal → EReal → EReal) ⊥ fun k : Fin 4096 => (show EReal from hS x0 x1 (ix3 h q k)) := by
  pointwise [hM]
  rw [ofBits_ninf]
theorem hE_at (h : Fin 8) (q k : Fin 4096) : hE x0 x1 (ix3 h q k) = Ideal.exp ((show EReal from hS x0 x1 (ix3 h q k)) - (show EReal from hM x0 x1 (ix2 h q))) := by
  pointwise [hE]
theorem hZ_at (h : Fin 8) (q : Fin 4096) : hZ x0 x1 (ix2 h q) = ∑ k : Fin 4096, (show EReal from hE x0 x1 (ix3 h q k)) := by
  pointwise [hZ]
/-- A column read as a row. -/
theorem col_row (A : FVec Ideal S8x4096x1 .f32) (h : Fin 8) (z : Fin 1) (q : Fin 4096) :
    shapeCast S8x1x4096 A shapeCasts_S8x4096x1_S8x1x4096 (ix3 h z q) = A (ix3 h q z) :=
  congrArg A (Shape.reshapeEquiv_eq_of_rowMajor _ (by
    rw [Shape.rowMajor_val_three, Shape.rowMajor_val_three]; show (h.val * 4096 + q.val) * 1 + z.val = (h.val * 1 + z.val) * 4096 + q.val; have := z.isLt; omega))
theorem add_log (A B : FVec Ideal S8x4096 .f32) (h : Fin 8) (q : Fin 4096) (z : Fin 1) :
    addf (broadcastInDim S8x4096x1 ![0, 1] bcast_S8x4096_S8x4096x1_0_1 A) (Host.log (broadcastInDim S8x4096x1 ![0, 1] bcast_S8x4096_S8x4096x1_0_1 B)) (ix3 h q z)
      = (show EReal from A (ix2 h q)) + Ideal.log (show EReal from B (ix2 h q)) := by
  pointwise
theorem hLc_at (h : Fin 8) (q : Fin 4096) (z : Fin 1) : hLc x0 x1 (ix3 h q z) = (show EReal from hM x0 x1 (ix2 h q)) + Ideal.log (show EReal from hZ x0 x1 (ix2 h q)) := by
  unfold hLc
  exact add_log (hM x0 x1) (hZ x0 x1) h q z
theorem hL_at (h : Fin 8) (z : Fin 1) (q : Fin 4096) : hL x0 x1 (ix3 h z q) = (show EReal from hM x0 x1 (ix2 h q)) + Ideal.log (show EReal from hZ x0 x1 (ix2 h q)) :=
  (col_row (hLc x0 x1) h z q).trans (hLc_at x0 x1 h q z)
theorem hP_at (h : Fin 8) (q k : Fin 4096) : hP x0 x1 (ix3 h q k) = Ideal.div (show EReal from hE x0 x1 (ix3 h q k)) (show EReal from hZ x0 x1 (ix2 h q)) := by
  pointwise [hP]
theorem hO_at (h : Fin 8) (e : Fin 128) (q : Fin 4096) : hO x0 x1 x2 (ix3 h e q) = ∑ k : Fin 4096, (show EReal from x2 (ix3 h k e)) * (show EReal from hP x0 x1 (ix3 h q k)) := by
  pointwise [hO]
theorem hD_at (h : Fin 8) (q : Fin 4096) : hD x0 x1 x2 x3 (ix2 h q) = ∑ e : Fin 128, (show EReal from x3 (ix2 q (col h e))) * (show EReal from hO x0 x1 x2 (ix3 h e q)) := by
  pointwise [hD]
  exact Finset.sum_congr rfl fun e _ => by rw [show (⟨h.val * 128 + e.val, by omega⟩ : Fin 1024) = col h e from Fin.ext (by show h.val * 128 + e.val = 128 * h.val + e.val; omega)]
end terms

/-! ## What the kernel finds -/

variable (m : (ℓ : Loc nD τ sig) → Buf (Elt Ideal) ℓ) (c : Dev nD)

set_option maxHeartbeats 4000000 in
theorem V_q : V m c main_v28 = hB (m ((c : Thread nD τ).loc main_arg0) : FVec Ideal S8x4096x192 .f32) := by
  unfold V
  simp only [List.flatten_cons, List.flatten_nil, List.append_nil, List.cons_append, List.nil_append, hostOps0, hostOps0_1, hostOps0_2, StableHlo.TRef.unary, StableHlo.TRef.ternary, StableHlo.TRef.toBuf, StableHlo.TRef.ofBuf, cast_eq]
  after_results_simp <;> rfl
set_option maxHeartbeats 4000000 in
theorem V_k : V m c main_v29 = hB (m ((c : Thread nD τ).loc main_arg1) : FVec Ideal S8x4096x192 .f32) := by
  unfold V
  simp only [List.flatten_cons, List.flatten_nil, List.append_nil, List.cons_append, List.nil_append, hostOps0, hostOps0_1, hostOps0_2, StableHlo.TRef.unary, StableHlo.TRef.ternary, StableHlo.TRef.toBuf, StableHlo.TRef.ofBuf, cast_eq]
  after_results_simp <;> rfl
set_option maxHeartbeats 4000000 in
theorem V_v : V m c main_v30 = hB (m ((c : Thread nD τ).loc main_arg2) : FVec Ideal S8x4096x128 .f32) := by
  unfold V
  simp only [List.flatten_cons, List.flatten_nil, List.append_nil, List.cons_append, List.nil_append, hostOps0, hostOps0_1, hostOps0_2, StableHlo.TRef.unary, StableHlo.TRef.ternary, StableHlo.TRef.toBuf, StableHlo.TRef.ofBuf, cast_eq]
  after_results_simp <;> rfl
theorem V_do : V m c main_arg3 = m ((c : Thread nD τ).loc main_arg3) := V_kept m c main_arg3 (by decide) (by decide) (by decide)
set_option maxHeartbeats 4000000 in
theorem V_lse : V m c main_v31 = hL (m ((c : Thread nD τ).loc main_arg0)) (m ((c : Thread nD τ).loc main_arg1)) := by
  unfold V
  simp only [List.flatten_cons, List.flatten_nil, List.append_nil, List.cons_append, List.nil_append, hostOps0, hostOps0_1, hostOps0_2, StableHlo.TRef.unary, StableHlo.TRef.ternary, StableHlo.TRef.toBuf, StableHlo.TRef.ofBuf, cast_eq]
  after_results_simp <;> rfl
set_option maxHeartbeats 4000000 in
theorem V_delta : V m c main_v27 = hD (m ((c : Thread nD τ).loc main_arg0)) (m ((c : Thread nD τ).loc main_arg1)) (m ((c : Thread nD τ).loc main_arg2)) (m ((c : Thread nD τ).loc main_arg3)) := by
  unfold V
  simp only [List.flatten_cons, List.flatten_nil, List.append_nil, List.cons_append, List.nil_append, hostOps0, hostOps0_1, hostOps0_2, StableHlo.TRef.unary, StableHlo.TRef.ternary, StableHlo.TRef.toBuf, StableHlo.TRef.ofBuf, cast_eq]
  after_results_simp <;> rfl

end Cert.AttnKernelIdeal

end
-- ==== Proof.ReferenceValue.lean ====
module

public import proofs.«01_k».proof.Proof.IdealHost
public import proofs.«01_k».proof.Proof.Gen.ReferenceIdeal.Run
public import Idealize.ShloMosaic.Lib.Pipeline.ValueKit

/-!
# The reference, entry by entry

The three gradients of the reference as terms of the arguments, and each of their entries.
-/

@[expose] public section

set_option maxRecDepth 16384
set_option Elab.async false

noncomputable section

namespace Cert.AttnReference

open Cert.ReferenceIdeal Cert.ReferenceIdeal.Gen Cert.ReferenceIdeal.Value
open Cert.AttnKernelIdeal (sge_lt ofBits_ninf ofBits_192 col)
open Idealize.ShloMosaic
open Idealize.ShloMosaic.TcCoe Idealize.ShloMosaic.Tactic
open Idealize.SL Idealize.SL.Sem

section terms
variable (x0 x1 : FVec Ideal S8x4096x192 .f32) (x2 : FVec Ideal S8x4096x128 .f32) (x3 : FVec Ideal S4096x1024 .f32)

/-- One value per query, spread over the keys. -/
abbrev sp (A : FVec Ideal S8x4096x1 .f32) : FVec Ideal S8x4096x4096 .f32 := broadcastInDim S8x4096x4096 ![0, 1, 2] bcast_S8x4096x1_S8x4096x4096_0_1_2 A
/-- One value per query, as a column. -/
abbrev cl (A : FVec Ideal S8x4096 .f32) : FVec Ideal S8x4096x1 .f32 := broadcastInDim S8x4096x1 ![0, 1] bcast_S8x4096_S8x4096x1_0_1 A
abbrev zero0 : FVec Ideal S_ .f32 := constant (F := Ideal) S_ .f32 0x00000000#32
abbrev ninf0 : FVec Ideal S_ .f32 := constant (F := Ideal) S_ .f32 0xFF800000#32

/-- The square root of the head's width. -/
def rR : FVec Ideal S_ .f32 := Host.sqrt (constant (F := Ideal) S_ .f32 0x43400000#32)
/-- Keys up to the query. -/
def rK : IVec S8x4096x4096 1 :=
  broadcastInDim S8x4096x4096 ![1, 2] bcast_S4096x4096_S8x4096x4096_1_2
      (cmpi .sge (broadcastInDim S4096x4096 ![0, 1] bcast_S4096x1_S4096x4096_0_1 (broadcastInDim S4096x1 ![0] bcast_S4096_S4096x1_0 (iotaInDim S4096 32 0)))
        (broadcastInDim S4096x4096 ![0, 1] bcast_S1x4096_S4096x4096_0_1 (broadcastInDim S1x4096 ![1] bcast_S4096_S1x4096_1 (iotaInDim S4096 32 0))))
/-- The scores. -/
def rS : FVec Ideal S8x4096x4096 .f32 :=
  select rK (Host.divf (Host.dotGeneral dot_S8x4096x192_S8x4096x192_S8x4096x4096_2_2_1_1_0_0 none x0 x1) (broadcastInDim S8x4096x4096 ![] bcast_S_S8x4096x4096 rR))
    (broadcastInDim S8x4096x4096 ![] bcast_S_S8x4096x4096 ninf0)
/-- Their greatest. -/
def rM : FVec Ideal S8x4096 .f32 :=
  maximumf (broadcastInDim S8x4096 ![] bcast_S_S8x4096 ninf0) (Host.reduce FloatOps.maximumf (rS x0 x1) ninf0 reducesTo_S8x4096x4096_S8x4096_d2 h_S_)
/-- The exponentials. -/
def rE : FVec Ideal S8x4096x4096 .f32 := Host.exp (subf (rS x0 x1) (sp (cl (rM x0 x1))))
/-- Their sum. -/
def rZ : FVec Ideal S8x4096 .f32 := Host.reduceAdd (rE x0 x1) zero0 reducesTo_S8x4096x4096_S8x4096_d2 h_S_
/-- The probabilities. -/
def rP : FVec Ideal S8x4096x4096 .f32 := Host.divf (rE x0 x1) (sp (cl (rZ x0 x1)))
/-- The gradient of the output, head by head. -/
def rG : FVec Ideal S8x128x4096 .f32 := transpose S8x128x4096 [1, 2, 0] (shapeCast S4096x8x128 x3 shapeCasts_S4096x1024_S4096x8x128) transposes_S4096x8x128_S8x128x4096_1_2_0
/-- The gradient of the probabilities. -/
def rH : FVec Ideal S8x4096x4096 .f32 := Host.dotGeneral dot_S8x128x4096_S8x4096x128_S8x4096x4096_1_2_2_1_0_0 none (rG x3) x2
/-- The gradient of the values. -/
def rV : FVec Ideal S8x4096x128 .bf16 :=
  truncf .bf16 (transpose S8x4096x128 [0, 2, 1] (Host.dotGeneral dot_S8x128x4096_S8x4096x4096_S8x128x4096_2_1_1_2_0_0 none (rG x3) (rP x0 x1)) transposes_S8x128x4096_S8x4096x128_0_2_1) bitsLt_bf16_f32
/-- The reciprocal of the sum's square. -/
def rI : FVec Ideal S8x4096x1 .f32 :=
  Host.divf (broadcastInDim S8x4096x1 ![] bcast_S_S8x4096x1 (constant (F := Ideal) S_ .f32 0x3F800000#32)) (mulf (cl (rZ x0 x1)) (cl (rZ x0 x1)))
/-- The products whose sum is the gradient of the sum of exponentials. -/
def rT : FVec Ideal S8x4096x4096 .f32 := mulf (mulf (rH x2 x3) (sp (rI x0 x1))) (rE x0 x1)
/-- Their sum. -/
def rU : FVec Ideal S8x4096 .f32 := Host.reduceAdd (rT x0 x1 x2 x3) zero0 reducesTo_S8x4096x4096_S8x4096_d2 h_S_
/-- Its opposite. -/
def rN : FVec Ideal S8x4096 .f32 :=
  Host.reduceAdd (Host.negf (shapeCast S8x4096x1 (rU x0 x1 x2 x3) shapeCasts_S8x4096_S8x4096x1)) zero0 reducesTo_S8x4096x1_S8x4096_d2 h_S_
/-- The gradient of the exponentials' arguments. -/
def rB : FVec Ideal S8x4096x4096 .f32 :=
  mulf (addf (Host.divf (rH x2 x3) (sp (cl (rZ x0 x1)))) (broadcastInDim S8x4096x4096 ![0, 1] bcast_S8x4096_S8x4096x4096_0_1 (rN x0 x1 x2 x3))) (rE x0 x1)
/-- The gradient of the products of queries and keys. -/
def rD : FVec Ideal S8x4096x4096 .f32 :=
  Host.divf (select rK (rB x0 x1 x2 x3) (broadcastInDim S8x4096x4096 ![] bcast_S_S8x4096x4096 zero0)) (broadcastInDim S8x4096x4096 ![] bcast_S_S8x4096x4096 rR)
/-- The gradients of the queries and of the keys. -/
def rQ : FVec Ideal S8x4096x192 .bf16 := truncf .bf16 (Host.dotGeneral dot_S8x4096x4096_S8x4096x192_S8x4096x192_2_1_1_2_0_0 none (rD x0 x1 x2 x3) x1) bitsLt_bf16_f32
def rKg : FVec Ideal S8x4096x192 .bf16 := truncf .bf16 (Host.dotGeneral dot_S8x4096x4096_S8x4096x192_S8x4096x192_1_1_2_2_0_0 none (rD x0 x1 x2 x3) x0) bitsLt_bf16_f32

theorem rK_at (h : Fin 8) (q k : Fin 4096) : rK (ix3 h q k) = if q.val < k.val then 0#1 else 1#1 := by
  pointwise [rK]
  exact sge_lt q k
theorem rS_at (h : Fin 8) (q k : Fin 4096) : rS x0 x1 (ix3 h q k)
    = if q.val < k.val then (⊥ : EReal) else Ideal.div (∑ d : Fin 192, (show EReal from x0 (ix3 h q d)) * (show EReal from x1 (ix3 h k d))) (Ideal.sqrt ((192 : ℝ) : EReal)) := by
  pointwise [rS, rR]
  rw [ofBits_ninf, ofBits_192, rK_at]
  by_cases h : q.val < k.val
  · rw [if_pos h, if_pos h]; rfl
  · rw [if_neg h, if_neg h]; rfl
theorem foldM (S : FVec Ideal S8x4096x4096 .f32) (h : Fin 8) (q : Fin 4096) :
    Host.reduce FloatOps.maximumf S ninf0 reducesTo_S8x4096x4096_S8x4096_d2 h_S_ (ix2 h q)
      = Finset.univ.fold (max : EReal → EReal → EReal) ⊥ fun k : Fin 4096 => (show EReal from S (ix3 h q k)) := by
  pointwise
  rw [ofBits_ninf]
theorem maxW (W : FVec Ideal S8x4096 .f32) (h : Fin 8) (q : Fin 4096) :
    maximumf (broadcastInDim S8x4096 ![] bcast_S_S8x4096 ninf0) W (ix2 h q) = max (⊥ : EReal) (show EReal from W (ix2 h q)) := by
  pointwise
  rw [ofBits_ninf]
theorem rM_at (h : Fin 8) (q : Fin 4096) : rM x0 x1 (ix2 h q)
    = Finset.univ.fold (max : EReal → EReal → EReal) ⊥ fun k : Fin 4096 => (show EReal from rS x0 x1 (ix3 h q k)) := by
  unfold rM
  rw [maxW]
  exact (max_eq_right bot_le).trans (foldM (rS x0 x1) h q)
theorem rE_at (h : Fin 8) (q k : Fin 4096) : rE x0 x1 (ix3 h q k) = Ideal.exp ((show EReal from rS x0 x1 (ix3 h q k)) - (show EReal from rM x0 x1 (ix2 h q))) := by
  pointwise [rE]
theorem rZ_at (h : Fin 8) (q : Fin 4096) : rZ x0 x1 (ix2 h q) = ∑ k : Fin 4096, (show EReal from rE x0 x1 (ix3 h q k)) := by
  pointwise [rZ]
theorem rP_at (h : Fin 8) (q k : Fin 4096) : rP x0 x1 (ix3 h q k) = Ideal.div (show EReal from rE x0 x1 (ix3 h q k)) (show EReal from rZ x0 x1 (ix2 h q)) := by
  pointwise [rP]
theorem rG_at (h : Fin 8) (e : Fin 128) (q : Fin 4096) : rG x3 (ix3 h e q) = x3 (ix2 q (col h e)) := by
  pointwise [rG]
  rw [show (⟨h.val * 128 + e.val, by omega⟩ : Fin 1024) = col h e from Fin.ext (by show h.val * 128 + e.val = 128 * h.val + e.val; omega)]
theorem rH_at (h : Fin 8) (q k : Fin 4096) : rH x2 x3 (ix3 h q k) = ∑ e : Fin 128, (show EReal from rG x3 (ix3 h e q)) * (show EReal from x2 (ix3 h k e)) := by
  pointwise [rH]
theorem rV_at (h : Fin 8) (k : Fin 4096) (e : Fin 128) : rV x0 x1 x3 (ix3 h k e) = ∑ q : Fin 4096, (show EReal from rG x3 (ix3 h e q)) * (show EReal from rP x0 x1 (ix3 h q k)) := by
  pointwise [rV]
theorem mulI (H E : FVec Ideal S8x4096x4096 .f32) (Z : FVec Ideal S8x4096 .f32) (h : Fin 8) (q k : Fin 4096) :
    mulf (mulf H (sp (Host.divf (broadcastInDim S8x4096x1 ![] bcast_S_S8x4096x1 (constant (F := Ideal) S_ .f32 0x3F800000#32)) (mulf (cl Z) (cl Z))))) E (ix3 h q k)
      = (show EReal from H (ix3 h q k)) * Ideal.div 1 ((show EReal from Z (ix2 h q)) * (show EReal from Z (ix2 h q))) * (show EReal from E (ix3 h q k)) := by
  pointwise
theorem rT_at (h : Fin 8) (q k : Fin 4096) : rT x0 x1 x2 x3 (ix3 h q k)
    = (show EReal from rH x2 x3 (ix3 h q k)) * Ideal.div 1 ((show EReal from rZ x0 x1 (ix2 h q)) * (show EReal from rZ x0 x1 (ix2 h q))) * (show EReal from rE x0 x1 (ix3 h q k)) := by
  unfold rT rI
  exact mulI (rH x2 x3) (rE x0 x1) (rZ x0 x1) h q k
theorem rU_at (h : Fin 8) (q : Fin 4096) : rU x0 x1 x2 x3 (ix2 h q) = ∑ k : Fin 4096, (show EReal from rT x0 x1 x2 x3 (ix3 h q k)) := by
  pointwise [rU]
theorem negU (U : FVec Ideal S8x4096 .f32) (h : Fin 8) (q : Fin 4096) :
    Host.reduceAdd (Host.negf (shapeCast S8x4096x1 U shapeCasts_S8x4096_S8x4096x1)) zero0 reducesTo_S8x4096x1_S8x4096_d2 h_S_ (ix2 h q) = - (show EReal from U (ix2 h q)) := by
  pointwise
  simp
theorem rN_at (h : Fin 8) (q : Fin 4096) : rN x0 x1 x2 x3 (ix2 h q) = - (show EReal from rU x0 x1 x2 x3 (ix2 h q)) := by
  unfold rN
  exact negU (rU x0 x1 x2 x3) h q
theorem mulB (H E : FVec Ideal S8x4096x4096 .f32) (Z N : FVec Ideal S8x4096 .f32) (h : Fin 8) (q k : Fin 4096) :
    mulf (addf (Host.divf H (sp (cl Z))) (broadcastInDim S8x4096x4096 ![0, 1] bcast_S8x4096_S8x4096x4096_0_1 N)) E (ix3 h q k)
      = (Ideal.div (show EReal from H (ix3 h q k)) (show EReal from Z (ix2 h q)) + (show EReal from N (ix2 h q))) * (show EReal from E (ix3 h q k)) := by
  pointwise
theorem rB_at (h : Fin 8) (q k : Fin 4096) : rB x0 x1 x2 x3 (ix3 h q k)
    = (Ideal.div (show EReal from rH x2 x3 (ix3 h q k)) (show EReal from rZ x0 x1 (ix2 h q)) + (show EReal from rN x0 x1 x2 x3 (ix2 h q))) * (show EReal from rE x0 x1 (ix3 h q k)) := by
  unfold rB
  exact mulB (rH x2 x3) (rE x0 x1) (rZ x0 x1) (rN x0 x1 x2 x3) h q k
theorem rD_at (h : Fin 8) (q k : Fin 4096) : rD x0 x1 x2 x3 (ix3 h q k)
    = Ideal.div (if q.val < k.val then (0 : EReal) else (show EReal from rB x0 x1 x2 x3 (ix3 h q k))) (Ideal.sqrt ((192 : ℝ) : EReal)) := by
  pointwise [rD, rR]
  rw [ofBits_192, rK_at]
  by_cases h : q.val < k.val
  · rw [if_pos h, if_pos h]; rfl
  · rw [if_neg h, if_neg h]; rfl
theorem rQ_at (h : Fin 8) (q : Fin 4096) (d : Fin 192) : rQ x0 x1 x2 x3 (ix3 h q d) = ∑ k : Fin 4096, (show EReal from rD x0 x1 x2 x3 (ix3 h q k)) * (show EReal from x1 (ix3 h k d)) := by
  pointwise [rQ]
theorem rKg_at (h : Fin 8) (k : Fin 4096) (d : Fin 192) : rKg x0 x1 x2 x3 (ix3 h k d) = ∑ q : Fin 4096, (show EReal from rD x0 x1 x2 x3 (ix3 h q k)) * (show EReal from x0 (ix3 h q d)) := by
  pointwise [rKg]
end terms

variable (m : (ℓ : Loc nD τ sig) → Buf (Elt Ideal) ℓ) (c : Dev nD)

theorem res_q : res_main_v64 m c = rQ (m ((c : Thread nD τ).loc main_arg0)) (m ((c : Thread nD τ).loc main_arg1)) (m ((c : Thread nD τ).loc main_arg2)) (m ((c : Thread nD τ).loc main_arg3)) := by
  sl_kernel_rfl
theorem res_k : res_main_v65 m c = rKg (m ((c : Thread nD τ).loc main_arg0)) (m ((c : Thread nD τ).loc main_arg1)) (m ((c : Thread nD τ).loc main_arg2)) (m ((c : Thread nD τ).loc main_arg3)) := by
  sl_kernel_rfl
theorem res_v : res_main_v66 m c = rV (m ((c : Thread nD τ).loc main_arg0)) (m ((c : Thread nD τ).loc main_arg1)) (m ((c : Thread nD τ).loc main_arg3)) := by
  sl_kernel_rfl

end Cert.AttnReference

end
-- ==== Proof.IdealMatch.lean ====
module

public import proofs.«01_k».proof.Proof.IdealArrays
public import proofs.«01_k».proof.Proof.ReferenceValue

/-!
# The two sides on real numbers

On finite arguments every value of both programs is a real number. The probabilities of both are the same, and so are the gradients of the scores.
-/

@[expose] public section

set_option maxRecDepth 16384
set_option Elab.async false

noncomputable section

namespace Cert.AttnMatch

open Cert.AttnReference
open Cert.AttnKernelIdeal (col hS hM hE hZ hL hP hO hD hS_at hM_at hE_at hZ_at hL_at hP_at hO_at hD_at cScale cLog2e cScaleLog2e)
open Cert.ReferenceIdeal Cert.ReferenceIdeal.Gen
open Idealize.ShloMosaic
open Idealize.ShloMosaic.TcCoe Idealize.ShloMosaic.Tactic
open Idealize.SL Idealize.SL.Sem

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An array of real numbers. -/
def re {s : Shape} (r : s.Idx → ℝ) : FVec Ideal s .f32 := fun j => ((r j : ℝ) : EReal)
theorem re_at {s : Shape} (r : s.Idx → ℝ) (j : s.Idx) : (re r j : EReal) = ((r j : ℝ) : EReal) := rfl

theorem s192 : Real.sqrt 192 ≠ 0 := (Real.sqrt_pos.2 (by norm_num)).ne'
theorem div_s (x : EReal) : Ideal.div x (Ideal.sqrt ((192 : ℝ) : EReal)) = x * ((1 / Real.sqrt 192 : ℝ) : EReal) := by
  rw [Ideal.sqrt_coe, if_neg (by norm_num)]; exact Ideal.div_coe s192 x

variable (r0 r1 : S8x4096x192.Idx → ℝ) (r2 : S8x4096x128.Idx → ℝ) (r3 : S4096x1024.Idx → ℝ)

/-! ## The reference -/

def sR (h : Fin 8) (q k : Fin 4096) : ℝ := (∑ d : Fin 192, r0 (ix3 h q d) * r1 (ix3 h k d)) * (1 / Real.sqrt 192)
def mR (h : Fin 8) (q : Fin 4096) : ℝ := EReal.toReal (show EReal from rM (re r0) (re r1) (ix2 h q))
def eR (h : Fin 8) (q k : Fin 4096) : ℝ := if q.val < k.val then 0 else Real.exp (sR r0 r1 h q k - mR r0 r1 h q)
def zR (h : Fin 8) (q : Fin 4096) : ℝ := ∑ k, eR r0 r1 h q k
def pR (h : Fin 8) (q k : Fin 4096) : ℝ := eR r0 r1 h q k * (1 / zR r0 r1 h q)
def dpR (h : Fin 8) (q k : Fin 4096) : ℝ := ∑ e : Fin 128, r3 (ix2 q (col h e)) * r2 (ix3 h k e)
def dsR (h : Fin 8) (q k : Fin 4096) : ℝ := pR r0 r1 h q k * (dpR r2 r3 h q k - ∑ k', dpR r2 r3 h q k' * pR r0 r1 h q k') * (1 / Real.sqrt 192)

theorem rS_r (h : Fin 8) (q k : Fin 4096) : rS (re r0) (re r1) (ix3 h q k) = if q.val < k.val then (⊥ : EReal) else ((sR r0 r1 h q k : ℝ) : EReal) := by
  rw [rS_at]
  by_cases hk : q.val < k.val
  · rw [if_pos hk, if_pos hk]
  · rw [if_neg hk, if_neg hk, div_s]
    unfold sR
    rw [EReal.coe_mul, ← coe_sum]
    simp only [re_at, EReal.coe_mul]
theorem rM_r (h : Fin 8) (q : Fin 4096) : rM (re r0) (re r1) (ix2 h q) = ((mR r0 r1 h q : ℝ) : EReal) := by
  have hlt : (show EReal from rM (re r0) (re r1) (ix2 h q)) < ⊤ := by
    show rM (re r0) (re r1) (ix2 h q) < (⊤ : EReal)
    rw [rM_at]
    refine (Finset.fold_max_lt (β := EReal) (c := ⊤)).2 ⟨bot_lt_top, fun k _ => ?_⟩
    show rS (re r0) (re r1) (ix3 h q k) < (⊤ : EReal)
    rw [rS_r]
    split
    · exact bot_lt_top
    · exact EReal.coe_lt_top _
  have hgt : ⊥ < (show EReal from rM (re r0) (re r1) (ix2 h q)) := by
    show (⊥ : EReal) < rM (re r0) (re r1) (ix2 h q)
    rw [rM_at]
    refine (Finset.lt_fold_max (β := EReal) (c := ⊥)).2 (Or.inr ⟨q, Finset.mem_univ _, ?_⟩)
    show (⊥ : EReal) < rS (re r0) (re r1) (ix3 h q q)
    rw [rS_r, if_neg (lt_irrefl _)]
    exact EReal.bot_lt_coe _
  exact (EReal.coe_toReal hlt.ne hgt.ne').symm
theorem rE_r (h : Fin 8) (q k : Fin 4096) : rE (re r0) (re r1) (ix3 h q k) = ((eR r0 r1 h q k : ℝ) : EReal) := by
  rw [rE_at, rS_r, rM_r]
  unfold eR
  by_cases hk : q.val < k.val
  · rw [if_pos hk, if_pos hk, EReal.bot_sub]; rfl
  · rw [if_neg hk, if_neg hk]; rfl
theorem zR_pos (h : Fin 8) (q : Fin 4096) : 0 < zR r0 r1 h q := by
  have h0 : ∀ k, 0 ≤ eR r0 r1 h q k := fun k => by unfold eR; split <;> positivity
  refine Finset.sum_pos' (fun k _ => h0 k) ⟨q, Finset.mem_univ _, ?_⟩
  unfold eR
  rw [if_neg (lt_irrefl _)]
  exact Real.exp_pos _
theorem rZ_r (h : Fin 8) (q : Fin 4096) : rZ (re r0) (re r1) (ix2 h q) = ((zR r0 r1 h q : ℝ) : EReal) := by
  rw [rZ_at]
  unfold zR
  rw [← coe_sum]
  exact Finset.sum_congr rfl fun k _ => rE_r r0 r1 h q k
theorem rP_r (h : Fin 8) (q k : Fin 4096) : rP (re r0) (re r1) (ix3 h q k) = ((pR r0 r1 h q k : ℝ) : EReal) := by
  rw [rP_at, rE_r, rZ_r]
  exact (Ideal.div_coe (zR_pos r0 r1 h q).ne' _).trans (EReal.coe_mul _ _).symm
theorem rH_r (h : Fin 8) (q k : Fin 4096) : rH (re r2) (re r3) (ix3 h q k) = ((dpR r2 r3 h q k : ℝ) : EReal) := by
  rw [rH_at]
  unfold dpR
  rw [← coe_sum]
  refine Finset.sum_congr rfl fun e _ => ?_
  rw [rG_at, EReal.coe_mul]
  rfl
theorem rT_r (h : Fin 8) (q k : Fin 4096) : rT (re r0) (re r1) (re r2) (re r3) (ix3 h q k)
    = ((dpR r2 r3 h q k * (1 / (zR r0 r1 h q * zR r0 r1 h q)) * eR r0 r1 h q k : ℝ) : EReal) := by
  rw [rT_at, rH_r, rZ_r, rE_r]
  have hz := (zR_pos r0 r1 h q).ne'
  show ((dpR r2 r3 h q k : ℝ) : EReal) * Ideal.div 1 (((zR r0 r1 h q : ℝ) : EReal) * ((zR r0 r1 h q : ℝ) : EReal)) * ((eR r0 r1 h q k : ℝ) : EReal) = _
  rw [← EReal.coe_mul, Ideal.div_coe (mul_ne_zero hz hz), one_mul, ← EReal.coe_mul, ← EReal.coe_mul]
theorem rN_r (h : Fin 8) (q : Fin 4096) : rN (re r0) (re r1) (re r2) (re r3) (ix2 h q)
    = ((-∑ k, dpR r2 r3 h q k * (1 / (zR r0 r1 h q * zR r0 r1 h q)) * eR r0 r1 h q k : ℝ) : EReal) := by
  rw [rN_at, EReal.coe_neg, ← coe_sum]
  refine congrArg (fun x : EReal => -x) ?_
  rw [rU_at]
  exact Finset.sum_congr rfl fun k _ => rT_r r0 r1 r2 r3 h q k
theorem rB_r (h : Fin 8) (q k : Fin 4096) : rB (re r0) (re r1) (re r2) (re r3) (ix3 h q k)
    = (((dpR r2 r3 h q k * (1 / zR r0 r1 h q) + -∑ k, dpR r2 r3 h q k * (1 / (zR r0 r1 h q * zR r0 r1 h q)) * eR r0 r1 h q k) * eR r0 r1 h q k : ℝ) : EReal) := by
  rw [rB_at, rH_r, rZ_r, rN_r, rE_r]
  show (Ideal.div ((dpR r2 r3 h q k : ℝ) : EReal) ((zR r0 r1 h q : ℝ) : EReal) + ((_ : ℝ) : EReal)) * ((eR r0 r1 h q k : ℝ) : EReal) = _
  rw [Ideal.div_coe (zR_pos r0 r1 h q).ne', ← EReal.coe_mul, ← EReal.coe_add, ← EReal.coe_mul]
theorem rD_r (h : Fin 8) (q k : Fin 4096) : rD (re r0) (re r1) (re r2) (re r3) (ix3 h q k) = ((dsR r0 r1 r2 r3 h q k : ℝ) : EReal) := by
  rw [rD_at, div_s]
  unfold dsR
  by_cases hk : q.val < k.val
  · rw [if_pos hk, zero_mul]
    have : pR r0 r1 h q k = 0 := by unfold pR eR; rw [if_pos hk, zero_mul]
    rw [this, zero_mul, zero_mul, EReal.coe_zero]
  · rw [if_neg hk]
    show rB (re r0) (re r1) (re r2) (re r3) (ix3 h q k) * ((1 / Real.sqrt 192 : ℝ) : EReal) = _
    rw [rB_r, ← EReal.coe_mul]
    congr 2
    have hz := (zR_pos r0 r1 h q).ne'
    have e1 : ∑ k, dpR r2 r3 h q k * (1 / (zR r0 r1 h q * zR r0 r1 h q)) * eR r0 r1 h q k = (∑ k, dpR r2 r3 h q k * pR r0 r1 h q k) * (1 / zR r0 r1 h q) := by
      rw [Finset.sum_mul]
      refine Finset.sum_congr rfl fun k _ => ?_
      unfold pR
      field_simp
    rw [e1]
    unfold pR
    ring

/-! ## The kernel -/

theorem hS_r (h : Fin 8) (q k : Fin 4096) : hS (re r0) (re r1) (ix3 h q k) = rS (re r0) (re r1) (ix3 h q k) := (hS_at _ _ h q k).trans (rS_at _ _ h q k).symm
theorem hM_r (h : Fin 8) (q : Fin 4096) : hM (re r0) (re r1) (ix2 h q) = ((mR r0 r1 h q : ℝ) : EReal) := by
  rw [← rM_r, hM_at, rM_at]
  exact congrArg (fun f => Finset.univ.fold (max : EReal → EReal → EReal) ⊥ f) (funext fun k => hS_r r0 r1 h q k)
theorem hE_r (h : Fin 8) (q k : Fin 4096) : hE (re r0) (re r1) (ix3 h q k) = ((eR r0 r1 h q k : ℝ) : EReal) := by
  rw [← rE_r, hE_at, rE_at, hS_r, hM_r, rM_r]
theorem hZ_r (h : Fin 8) (q : Fin 4096) : hZ (re r0) (re r1) (ix2 h q) = ((zR r0 r1 h q : ℝ) : EReal) := by
  rw [hZ_at]
  unfold zR
  rw [← coe_sum]
  exact Finset.sum_congr rfl fun k _ => hE_r r0 r1 h q k
theorem hP_r (h : Fin 8) (q k : Fin 4096) : hP (re r0) (re r1) (ix3 h q k) = ((pR r0 r1 h q k : ℝ) : EReal) := by
  rw [hP_at, hE_r, hZ_r]
  exact (Ideal.div_coe (zR_pos r0 r1 h q).ne' _).trans (EReal.coe_mul _ _).symm
theorem hO_r (h : Fin 8) (e : Fin 128) (q : Fin 4096) : hO (re r0) (re r1) (re r2) (ix3 h e q) = ((∑ k, r2 (ix3 h k e) * pR r0 r1 h q k : ℝ) : EReal) := by
  rw [hO_at, ← coe_sum]
  refine Finset.sum_congr rfl fun k _ => ?_
  rw [hP_r, EReal.coe_mul]
  rfl
theorem hD_r (h : Fin 8) (q : Fin 4096) : hD (re r0) (re r1) (re r2) (re r3) (ix2 h q) = ((∑ k, dpR r2 r3 h q k * pR r0 r1 h q k : ℝ) : EReal) := by
  have e1 : ∑ k, dpR r2 r3 h q k * pR r0 r1 h q k = ∑ e : Fin 128, r3 (ix2 q (col h e)) * ∑ k, r2 (ix3 h k e) * pR r0 r1 h q k := by
    unfold dpR
    simp only [Finset.sum_mul, Finset.mul_sum]
    rw [Finset.sum_comm]
    exact Finset.sum_congr rfl fun e _ => Finset.sum_congr rfl fun k _ => mul_assoc _ _ _
  rw [hD_at, e1, ← coe_sum]
  refine Finset.sum_congr rfl fun e _ => ?_
  rw [hO_r, EReal.coe_mul]
  rfl
theorem hL_r (h : Fin 8) (z : Fin 1) (q : Fin 4096) : hL (re r0) (re r1) (ix3 h z q) = ((mR r0 r1 h q + Real.log (zR r0 r1 h q) : ℝ) : EReal) := by
  rw [hL_at, hM_r, hZ_r, EReal.coe_add]
  exact congrArg (fun x : EReal => ((mR r0 r1 h q : ℝ) : EReal) + x) (if_neg (not_le.2 (zR_pos r0 r1 h q)))

/-! ## The kernel's constants -/

theorem cScale_r : cScale = (((Real.sqrt 192)⁻¹ : ℝ) : EReal) := (IdealRules.named_const.statement Cert.KernelIdeal.κ "scale" .f32 0x3D93CD3A#32 (((Real.sqrt 192)⁻¹ : ℝ) : EReal) rfl).2.2
theorem cLog2e_r : cLog2e = (((Real.log 2)⁻¹ : ℝ) : EReal) := (IdealRules.named_const.statement Cert.KernelIdeal.κ "log2e" .f32 0x3FB8AA3B#32 (((Real.log 2)⁻¹ : ℝ) : EReal) rfl).2.2
theorem cScaleLog2e_r : cScaleLog2e = (((Real.sqrt 192)⁻¹ * (Real.log 2)⁻¹ : ℝ) : EReal) :=
  (IdealRules.named_const.statement Cert.KernelIdeal.κ "scale_log2e" .f32 0x3DD53B95#32 (((Real.sqrt 192)⁻¹ * (Real.log 2)⁻¹ : ℝ) : EReal) rfl).2.2

/-- The probability as the kernel takes it, from the raw product and the log-sum-exp in the base of two. -/
theorem p_exp2 (h : Fin 8) (q k : Fin 4096) (hk : ¬ q.val < k.val) :
    Real.rpow 2 ((∑ d : Fin 192, r1 (ix3 h k d) * r0 (ix3 h q d)) * ((Real.sqrt 192)⁻¹ * (Real.log 2)⁻¹) - (mR r0 r1 h q + Real.log (zR r0 r1 h q)) * (Real.log 2)⁻¹)
      = pR r0 r1 h q k := by
  have hl : Real.log 2 ≠ 0 := (Real.log_pos (by norm_num)).ne'
  have e1 : Real.log 2 * ((∑ d : Fin 192, r1 (ix3 h k d) * r0 (ix3 h q d)) * ((Real.sqrt 192)⁻¹ * (Real.log 2)⁻¹) - (mR r0 r1 h q + Real.log (zR r0 r1 h q)) * (Real.log 2)⁻¹)
      = (sR r0 r1 h q k - mR r0 r1 h q) - Real.log (zR r0 r1 h q) := by
    unfold sR
    rw [Finset.sum_congr rfl fun d _ => mul_comm (r1 (ix3 h k d)) (r0 (ix3 h q d))]
    field_simp
    ring
  unfold pR eR
  rw [if_neg hk]
  refine (Real.rpow_def_of_pos (by norm_num : (0 : ℝ) < 2) _).trans ?_
  rw [e1, Real.exp_sub, Real.exp_log (zR_pos r0 r1 h q), div_eq_mul_one_div]

end Cert.AttnMatch

end
-- ==== Proof.IdealAgree.lean ====
module

public import proofs.«01_k».proof.Proof.IdealMatch
public import proofs.«01_k».proof.Proof.Gen.Pre_finite
public import Idealize.ShloMosaic.Lib.ReduceAll

/-!
# The kernel's gradients are the reference's

On finite arguments the three arrays of the kernel and those of the reference are equal.
-/

@[expose] public section

set_option maxRecDepth 16384
set_option Elab.async false

noncomputable section

namespace Cert.AttnMatch

open Cert.AttnReference
open Cert.AttnKernelIdeal
open Cert.KernelIdeal Cert.KernelIdeal.Gen
open Idealize.ShloMosaic
open Idealize.ShloMosaic.TcCoe Idealize.ShloMosaic.Tactic
open Idealize.SL Idealize.SL.Sem

theorem hB_at {s : Shape} (r : s.Idx → ℝ) (j : s.Idx) : (hB (re r) j : EReal) = ((r j : ℝ) : EReal) := rfl

section
variable (r0 r1 : S8x4096x192.Idx → ℝ) (r2 : S8x4096x128.Idx → ℝ) (r3 : S4096x1024.Idx → ℝ)
variable (m : (ℓ : Loc nD τ sig) → Buf (Elt Ideal) ℓ) (c : Dev nD)
variable (h0 : (m ((c : Thread nD τ).loc main_arg0) : FVec Ideal S8x4096x192 .f32) = re r0)
variable (h1 : (m ((c : Thread nD τ).loc main_arg1) : FVec Ideal S8x4096x192 .f32) = re r1)
variable (h2 : (m ((c : Thread nD τ).loc main_arg2) : FVec Ideal S8x4096x128 .f32) = re r2)
variable (h3 : (m ((c : Thread nD τ).loc main_arg3) : FVec Ideal S4096x1024 .f32) = re r3)

include h0 in
theorem vq (h : Fin 8) (q : Fin 4096) (d : Fin 192) : (show EReal from V m c main_v28 (ix3 h q d)) = ((r0 (ix3 h q d) : ℝ) : EReal) :=
  (congrFun ((V_q m c).trans (congrArg hB h0)) (ix3 h q d)).trans (hB_at r0 _)
include h1 in
theorem vk (h : Fin 8) (q : Fin 4096) (d : Fin 192) : (show EReal from V m c main_v29 (ix3 h q d)) = ((r1 (ix3 h q d) : ℝ) : EReal) :=
  (congrFun ((V_k m c).trans (congrArg hB h1)) (ix3 h q d)).trans (hB_at r1 _)
include h2 in
theorem vv (h : Fin 8) (q : Fin 4096) (e : Fin 128) : (show EReal from V m c main_v30 (ix3 h q e)) = ((r2 (ix3 h q e) : ℝ) : EReal) :=
  (congrFun ((V_v m c).trans (congrArg hB h2)) (ix3 h q e)).trans (hB_at r2 _)
include h3 in
theorem vdo (q : Fin 4096) (j : Fin 1024) : (show EReal from V m c main_arg3 (ix2 q j)) = ((r3 (ix2 q j) : ℝ) : EReal) :=
  (congrFun ((V_do m c).trans h3) (ix2 q j)).trans (re_at r3 _)
include h0 h1 in
theorem vlse (h : Fin 8) (z : Fin 1) (q : Fin 4096) : (show EReal from V m c main_v31 (ix3 h z q)) = ((mR r0 r1 h q + Real.log (zR r0 r1 h q) : ℝ) : EReal) :=
  (congrFun ((V_lse m c).trans (congrArg₂ hL h0 h1)) (ix3 h z q)).trans (hL_r r0 r1 h z q)
include h0 h1 h2 h3 in
theorem vdelta (h : Fin 8) (q : Fin 4096) : (show EReal from V m c main_v27 (ix2 h q)) = ((∑ k, dpR r2 r3 h q k * pR r0 r1 h q k : ℝ) : EReal) := by
  refine (congrFun (V_delta m c) (ix2 h q)).trans ?_
  rw [h0, h1, h2, h3]
  exact hD_r r0 r1 r2 r3 h q

include h0 h1 in
theorem gP_r (h : Fin 8) (q k : Fin 4096) : gP m c h q k = ((pR r0 r1 h q k : ℝ) : EReal) := by
  unfold gP
  by_cases hk : q.val < k.val
  · rw [if_pos hk]
    have : pR r0 r1 h q k = 0 := by unfold pR eR; rw [if_pos hk, zero_mul]
    rw [this, EReal.coe_zero]
  · rw [if_neg hk, ← p_exp2 r0 r1 h q k hk, vlse r0 r1 m c h0 h1 h 0 q,
      Finset.sum_congr rfl fun d _ => congrArg₂ (fun x y : EReal => x * y) (vk r1 m c h1 h k d) (vq r0 m c h0 h q d),
      cScaleLog2e_r, cLog2e_r]
    simp only [← EReal.coe_mul]
    rw [coe_sum, ← EReal.coe_mul, ← EReal.coe_sub]
    rfl
include h0 h1 h2 h3 in
theorem gD_r (h : Fin 8) (q k : Fin 4096) : gD m c h q k = ((dsR r0 r1 r2 r3 h q k : ℝ) : EReal) := by
  unfold gD dsR
  rw [gP_r r0 r1 m c h0 h1, vdelta r0 r1 r2 r3 m c h0 h1 h2 h3,
    Finset.sum_congr rfl fun e _ => congrArg₂ (fun x y : EReal => x * y) (vv r2 m c h2 h k e) (vdo r3 m c h3 q (col h e)), cScale_r]
  simp only [← EReal.coe_mul]
  rw [coe_sum, ← EReal.coe_sub, ← EReal.coe_mul, ← EReal.coe_mul]
  have e1 : ∑ e : Fin 128, r2 (ix3 h k e) * r3 (ix2 q (col h e)) = dpR r2 r3 h q k := Finset.sum_congr rfl fun e _ => mul_comm _ _
  rw [e1, one_div]

include h0 h1 h2 h3 in
theorem G6_eq : G6 m c = (rQ (re r0) (re r1) (re r2) (re r3) : S8x4096x192.Idx → EReal) := by
  funext j
  obtain ⟨h, q, d, rfl⟩ : ∃ a b e, j = ix3 a b e := ⟨j 0, j 1, j 2, eq_ix3 j⟩
  refine Eq.trans ?_ (rQ_at (re r0) (re r1) (re r2) (re r3) h q d).symm
  show ∑ k, gD m c h q k * (show EReal from V m c main_v29 (ix3 h k d)) = _
  refine Finset.sum_congr rfl fun k _ => ?_
  rw [gD_r r0 r1 r2 r3 m c h0 h1 h2 h3, vk r1 m c h1, rD_r]
  rfl
include h0 h1 h2 h3 in
theorem G7_eq : G7 m c = (rKg (re r0) (re r1) (re r2) (re r3) : S8x4096x192.Idx → EReal) := by
  funext j
  obtain ⟨h, k, d, rfl⟩ : ∃ a b e, j = ix3 a b e := ⟨j 0, j 1, j 2, eq_ix3 j⟩
  refine Eq.trans ?_ (rKg_at (re r0) (re r1) (re r2) (re r3) h k d).symm
  show ∑ q, gD m c h q k * (show EReal from V m c main_v28 (ix3 h q d)) = _
  refine Finset.sum_congr rfl fun q _ => ?_
  rw [gD_r r0 r1 r2 r3 m c h0 h1 h2 h3, vq r0 m c h0, rD_r]
  rfl
include h0 h1 h3 in
theorem G8_eq : G8 m c = (rV (re r0) (re r1) (re r3) : S8x4096x128.Idx → EReal) := by
  funext j
  obtain ⟨h, k, e, rfl⟩ : ∃ a b e, j = ix3 a b e := ⟨j 0, j 1, j 2, eq_ix3 j⟩
  refine Eq.trans ?_ (rV_at (re r0) (re r1) (re r3) h k e).symm
  show ∑ q, gP m c h q k * (show EReal from V m c main_arg3 (ix2 q (col h e))) = _
  refine Finset.sum_congr rfl fun q _ => ?_
  rw [gP_r r0 r1 m c h0 h1, vdo r3 m c h3, rP_r, rG_at]
  exact mul_comm _ _
end

/-! ## Finite arguments are real numbers -/

theorem real_of_abs (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = 0#1 := by simp [Ideal.cmp, hn]
    rw [this] at h
    exact absurd h (by decide)
  rw [max_lt_iff] at hlt
  refine (EReal.coe_toReal hlt.1.ne fun hb => ?_).symm
  rw [hb] at hlt
  exact absurd hlt.2 (by simp)

theorem re_of_all {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32))) (constantI ⟨0, ![]⟩ 1 1#1) hr hu j = 1#1) :
    x = re fun i => EReal.toReal (show EReal from x i) := by
  haveI : Subsingleton (⟨0, ![]⟩ : Shape).Idx := ⟨fun a b => funext fun i => i.elim0⟩
  funext i
  exact real_of_abs (x i) (Host.reduce_andi_all _ _ hr hu j e i)

theorem re_of_pre (x0 x1 : FVec Ideal S8x4096x192 .f32) (x2 : FVec Ideal S8x4096x128 .f32) (x3 : FVec Ideal S4096x1024 .f32)
    (e : Cert.Pre_finite.fn (F := Ideal) x0 x1 x2 x3 = fun _ => 1#1) :
    (∃ r0, x0 = re r0) ∧ (∃ r1, x1 = re r1) ∧ (∃ r2, x2 = re r2) ∧ (∃ r3, x3 = re r3) := by
  have e := congrFun e (fun i => i.elim0)
  obtain ⟨e012, e3⟩ := IntOp.andi_eq_one.1 e
  obtain ⟨e01, e2⟩ := IntOp.andi_eq_one.1 e012
  obtain ⟨e0, e1⟩ := IntOp.andi_eq_one.1 e01
  exact ⟨⟨_, re_of_all x0 _ _ _ _ e0⟩, ⟨_, re_of_all x1 _ _ _ _ e1⟩, ⟨_, re_of_all x2 _ _ _ _ e2⟩, ⟨_, re_of_all x3 _ _ _ _ e3⟩⟩

end Cert.AttnMatch

end
-- ==== Proof.WeightTwo.lean ====
module

public import proofs.«01_k».proof.Proof.Gen.Dw2Ideal.Value
public import proofs.«01_k».proof.Proof.Gen.Dw2ReferenceIdeal.Run
public import Idealize.ShloMosaic.Lib.Pipeline.ValueKit
public import Idealize.ShloMosaic.Lib.Quiescent

/-!
# The gradient of the second weight of the feed-forward block

Each grid point multiplies one block of 512 columns of the activations, transposed, with the whole incoming gradient; the
blocks tile the result, so every entry of it is one sum of 4096 products, which is what the reference computes.
-/

@[expose] public section

set_option maxRecDepth 16384
set_option Elab.async false

noncomputable section

namespace Cert.WeightTwo

open Cert.Dw2Ideal Cert.Dw2Ideal.Gen
open Idealize.ShloMosaic
open Idealize.ShloMosaic.TcCoe Idealize.ShloMosaic.Tactic
open Idealize.SL.Sem
open Idealize.ShloMosaic.Pipeline (Dat Cfg Window)

/-- Row `i` of block `b`. -/
def at8 (b : Fin 8) (i : Fin 512) : Fin 4096 := ⟨b.val * 512 + i.val, by omega⟩

/-- The block of result rows that point `t` computes. -/
def blk (t : Fin cfg0.N) : Fin 8 := ⟨t.val, t.isLt⟩

theorem idx0 : ∀ t : Fin cfg0.N, ∀ a, (cfg0.win (0 : Fin 3)).index t a = (![0, (blk t).val] : Fin 2 → ℕ) a := by decide +kernel
theorem idx1 : ∀ t : Fin cfg0.N, ∀ a, (cfg0.win (1 : Fin 3)).index t a = (![0, 0] : Fin 2 → ℕ) a := by decide +kernel
theorem idx2 : ∀ t : Fin cfg0.N, ∀ a, (cfg0.win (2 : Fin 3)).index t a = (![(blk t).val, 0, 0] : Fin 3 → ℕ) a := by decide +kernel

variable (m : (ℓ : Loc nD τ sig) → Buf (Elt Ideal) ℓ) (c : Dev nD)

theorem blk0 (t : Fin cfg0.N) (k : Fin 4096) (i : Fin 512) : iblk m c 0 t (ix2 k i) = V m c main_arg0 (ix2 k (at8 (blk t) i)) := by
  refine congrArg (V m c main_arg0) (funext fun a => Fin.ext (((cfg0.win (0 : Fin 3)).rect_emb_val t _ a).trans ?_))
  rw [idx0]
  fin_cases a
  · show 0 * 4096 + k.val = k.val; omega
  · show (blk t).val * 512 + i.val = (blk t).val * 512 + i.val; rfl
theorem blk1 (t : Fin cfg0.N) (k : Fin 4096) (d : Fin 1024) : iblk m c 1 t (ix2 k d) = V m c main_arg1 (ix2 k d) := by
  refine congrArg (V m c main_arg1) (funext fun a => Fin.ext (((cfg0.win (1 : Fin 3)).rect_emb_val t _ a).trans ?_))
  rw [idx1]
  fin_cases a
  · show 0 * 4096 + k.val = k.val; omega
  · show 0 * 1024 + d.val = d.val; omega
theorem emb2 (t : Fin cfg0.N) (i : Fin 512) (d : Fin 1024) :
    ((cfg0.win (2 : Fin 3)).rect t).emb (ix3 (0 : Fin 1) i d) = ix3 (blk t) i d := by
  refine funext fun a => Fin.ext (((cfg0.win (2 : Fin 3)).rect_emb_val t _ a).trans ?_)
  rw [idx2]
  fin_cases a
  · show (blk t).val * 1 + 0 = (blk t).val; omega
  · show 0 * 512 + i.val = i.val; omega
  · show 0 * 1024 + d.val = d.val; omega

theorem pay_at (x0 : Vec Ideal S4096x512 .bf16) (x1 : Vec Ideal S4096x1024 .bf16) (z : Fin 1) (i : Fin 512) (d : Fin 1024) :
    k0_pay1 x0 x1 (ix3 z i d) = ∑ k : Fin 4096, (show EReal from x0 (ix2 k i)) * (show EReal from x1 (ix2 k d)) := by
  pointwise [k0_pay1]
theorem out_at (x0 : Vec Ideal S4096x512 .bf16) (x1 : Vec Ideal S4096x1024 .bf16) (z : Fin 1) (i : Fin 512) (d : Fin 1024) :
    out0_2 x0 x1 (ix3 z i d) = ∑ k : Fin 4096, (show EReal from x0 (ix2 k i)) * (show EReal from x1 (ix2 k d)) := by
  rw [out0_2, View.canon_cons_unit_lit _ _ _ (by decide), View.ld_unit_lit _ _ (by decide), View.ld_unit_lit _ _ (by decide)]
  exact pay_at x0 x1 z i d

/-- The gradient: entry `(b, i, d)` is the sum over the rows of the products at column `512 b + i` of the activations and column `d` of the incoming gradient. -/
def G : S8x512x1024.Idx → EReal := fun j =>
  ∑ k : Fin 4096, (show EReal from V m c main_arg0 (ix2 k (at8 (j 0) (j 1)))) * (show EReal from V m c main_arg1 (ix2 k (j 2)))

theorem at2 (t : Fin cfg0.N) (y : S1x512x1024.Idx) : out0_2 (iblk m c 0 t) (iblk m c 1 t) y = G m c (((cfg0.win (2 : Fin 3)).rect t).emb y) := by
  obtain ⟨i, d, rfl⟩ : ∃ a b, y = ix3 (0 : Fin 1) a b := ⟨y 1, y 2, (eq_ix3 y).trans (congrArg (fun a : Fin 1 => ix3 a (y 1) (y 2)) (Subsingleton.elim (α := Fin 1) _ _))⟩
  refine Eq.trans ?_ (congrArg (G m c) (emb2 t i d)).symm
  refine (out_at _ _ 0 i d).trans (Finset.sum_congr rfl fun k _ => ?_)
  exact congrArg₂ (fun a b : EReal => a * b) (blk0 m c t k i) (blk1 m c t k d)

theorem arr2 : (dats m 0 c).arrAt (2 : Fin 3) cfg0.N = G m c :=
  (dats m 0 c).arrAt_eq_of_covers (2 : Fin 3) (G m c) (by decide +kernel) fun t hf y => (congrFun (after0_2 m c t) y).trans (at2 m c t y)

/-! ## The reference -/

/-- What the reference computes, as a term of its arguments. -/
def R (x0 : FVec Ideal Cert.Dw2ReferenceIdeal.S4096x4096 .bf16) (x1 : FVec Ideal Cert.Dw2ReferenceIdeal.S4096x1024 .bf16) : FVec Ideal Cert.Dw2ReferenceIdeal.S8x512x1024 .bf16 :=
  truncf .bf16 (shapeCast _ (transpose Cert.Dw2ReferenceIdeal.S4096x1024 [1, 0] (Host.dotGeneral Cert.Dw2ReferenceIdeal.dot_S4096x1024_S4096x4096_S1024x4096_0_0_1_1_n_n none (extf .f32 x1 Cert.Dw2ReferenceIdeal.Gen.bitsLt_bf16_f32) (extf .f32 x0 Cert.Dw2ReferenceIdeal.Gen.bitsLt_bf16_f32)) Cert.Dw2ReferenceIdeal.Gen.transposes_S1024x4096_S4096x1024_1_0) Cert.Dw2ReferenceIdeal.Gen.shapeCasts_S4096x1024_S8x512x1024) Cert.Dw2ReferenceIdeal.Gen.bitsLt_bf16_f32

theorem R_at (x0 : FVec Ideal Cert.Dw2ReferenceIdeal.S4096x4096 .bf16) (x1 : FVec Ideal Cert.Dw2ReferenceIdeal.S4096x1024 .bf16) (b : Fin 8) (i : Fin 512) (d : Fin 1024) :
    R x0 x1 (ix3 b i d) = ∑ k : Fin 4096, (show EReal from x1 (ix2 k d)) * (show EReal from x0 (ix2 k (at8 b i))) := by
  pointwise [R]
  rfl

theorem R_eq (x0 : FVec Ideal Cert.Dw2ReferenceIdeal.S4096x4096 .bf16) (x1 : FVec Ideal Cert.Dw2ReferenceIdeal.S4096x1024 .bf16)
    (h0 : x0 = V m c main_arg0) (h1 : x1 = V m c main_arg1) : R x0 x1 = G m c := by
  subst h0 h1
  funext j
  obtain ⟨b, i, d, rfl⟩ : ∃ x y z, j = ix3 x y z := ⟨j 0, j 1, j 2, eq_ix3 j⟩
  exact (R_at _ _ b i d).trans (Finset.sum_congr rfl fun k _ => mul_comm _ _)

/-! ## The claims -/

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1).trans (arr2 m c), (h c).2⟩) (Cert.Dw2Ideal.Value.run_blocks m ρ)

end Cert.WeightTwo

end
-- ==== Proof.WeightOne.lean ====
module

public import proofs.«01_k».proof.Proof.Gen.Dw1Ideal.Value
public import proofs.«01_k».proof.Proof.Gen.Dw1ReferenceIdeal.Run
public import Idealize.ShloMosaic.Lib.Pipeline.ValueKit
public import Idealize.ShloMosaic.Lib.Quiescent

/-!
# The gradient of the first weight of the feed-forward block

Each grid point multiplies the whole of the activations, transposed, with one block of 512 columns of the incoming gradient; the
blocks tile the result, so every entry of it is one sum of 4096 products, which is what the reference computes.
-/

@[expose] public section

set_option maxRecDepth 16384
set_option Elab.async false

noncomputable section

namespace Cert.WeightOne

open Cert.Dw1Ideal Cert.Dw1Ideal.Gen
open Idealize.ShloMosaic
open Idealize.ShloMosaic.TcCoe Idealize.ShloMosaic.Tactic
open Idealize.SL.Sem
open Idealize.ShloMosaic.Pipeline (Dat Cfg Window)

/-- Column `i` of block `b`. -/
def at8 (b : Fin 8) (i : Fin 512) : Fin 4096 := ⟨b.val * 512 + i.val, by omega⟩

/-- The block of result columns that point `t` computes. -/
def blk (t : Fin cfg0.N) : Fin 8 := ⟨t.val, t.isLt⟩

theorem idx0 : ∀ t : Fin cfg0.N, ∀ a, (cfg0.win (0 : Fin 3)).index t a = (![0, 0] : Fin 2 → ℕ) a := by decide +kernel
theorem idx1 : ∀ t : Fin cfg0.N, ∀ a, (cfg0.win (1 : Fin 3)).index t a = (![0, (blk t).val] : Fin 2 → ℕ) a := by decide +kernel
theorem idx2 : ∀ t : Fin cfg0.N, ∀ a, (cfg0.win (2 : Fin 3)).index t a = (![(blk t).val, 0, 0] : Fin 3 → ℕ) a := by decide +kernel

variable (m : (ℓ : Loc nD τ sig) → Buf (Elt Ideal) ℓ) (c : Dev nD)

theorem blk0 (t : Fin cfg0.N) (k : Fin 4096) (d : Fin 1024) : iblk m c 0 t (ix2 k d) = V m c main_arg0 (ix2 k d) := by
  refine congrArg (V m c main_arg0) (funext fun a => Fin.ext (((cfg0.win (0 : Fin 3)).rect_emb_val t _ a).trans ?_))
  rw [idx0]
  fin_cases a
  · show 0 * 4096 + k.val = k.val; omega
  · show 0 * 1024 + d.val = d.val; omega
theorem blk1 (t : Fin cfg0.N) (k : Fin 4096) (i : Fin 512) : iblk m c 1 t (ix2 k i) = V m c main_arg1 (ix2 k (at8 (blk t) i)) := by
  refine congrArg (V m c main_arg1) (funext fun a => Fin.ext (((cfg0.win (1 : Fin 3)).rect_emb_val t _ a).trans ?_))
  rw [idx1]
  fin_cases a
  · show 0 * 4096 + k.val = k.val; omega
  · show (blk t).val * 512 + i.val = (blk t).val * 512 + i.val; rfl
theorem emb2 (t : Fin cfg0.N) (d : Fin 1024) (i : Fin 512) :
    ((cfg0.win (2 : Fin 3)).rect t).emb (ix3 (0 : Fin 1) d i) = ix3 (blk t) d i := by
  refine funext fun a => Fin.ext (((cfg0.win (2 : Fin 3)).rect_emb_val t _ a).trans ?_)
  rw [idx2]
  fin_cases a
  · show (blk t).val * 1 + 0 = (blk t).val; omega
  · show 0 * 1024 + d.val = d.val; omega
  · show 0 * 512 + i.val = i.val; omega

theorem pay_at (x0 : Vec Ideal S4096x1024 .bf16) (x1 : Vec Ideal S4096x512 .bf16) (z : Fin 1) (d : Fin 1024) (i : Fin 512) :
    k0_pay1 x0 x1 (ix3 z d i) = ∑ k : Fin 4096, (show EReal from x0 (ix2 k d)) * (show EReal from x1 (ix2 k i)) := by
  pointwise [k0_pay1]
theorem out_at (x0 : Vec Ideal S4096x1024 .bf16) (x1 : Vec Ideal S4096x512 .bf16) (z : Fin 1) (d : Fin 1024) (i : Fin 512) :
    out0_2 x0 x1 (ix3 z d i) = ∑ k : Fin 4096, (show EReal from x0 (ix2 k d)) * (show EReal from x1 (ix2 k i)) := by
  rw [out0_2, View.canon_cons_unit_lit _ _ _ (by decide), View.ld_unit_lit _ _ (by decide), View.ld_unit_lit _ _ (by decide)]
  exact pay_at x0 x1 z d i

/-- The gradient: entry `(b, d, i)` is the sum over the rows of the products at column `d` of the activations and column `512 b + i` of the incoming gradient. -/
def G : S8x1024x512.Idx → EReal := fun j =>
  ∑ k : Fin 4096, (show EReal from V m c main_arg0 (ix2 k (j 1))) * (show EReal from V m c main_arg1 (ix2 k (at8 (j 0) (j 2))))

theorem at2 (t : Fin cfg0.N) (y : S1x1024x512.Idx) : out0_2 (iblk m c 0 t) (iblk m c 1 t) y = G m c (((cfg0.win (2 : Fin 3)).rect t).emb y) := by
  obtain ⟨d, i, rfl⟩ : ∃ a b, y = ix3 (0 : Fin 1) a b := ⟨y 1, y 2, (eq_ix3 y).trans (congrArg (fun a : Fin 1 => ix3 a (y 1) (y 2)) (Subsingleton.elim (α := Fin 1) _ _))⟩
  refine Eq.trans ?_ (congrArg (G m c) (emb2 t d i)).symm
  refine (out_at _ _ 0 d i).trans (Finset.sum_congr rfl fun k _ => ?_)
  exact congrArg₂ (fun a b : EReal => a * b) (blk0 m c t k d) (blk1 m c t k i)

theorem arr2 : (dats m 0 c).arrAt (2 : Fin 3) cfg0.N = G m c :=
  (dats m 0 c).arrAt_eq_of_covers (2 : Fin 3) (G m c) (by decide +kernel) fun t hf y => (congrFun (after0_2 m c t) y).trans (at2 m c t y)

/-! ## The reference -/

/-- What the reference computes, as a term of its arguments. -/
def R (x0 : FVec Ideal Cert.Dw1ReferenceIdeal.S4096x1024 .bf16) (x1 : FVec Ideal Cert.Dw1ReferenceIdeal.S4096x4096 .bf16) : FVec Ideal Cert.Dw1ReferenceIdeal.S8x1024x512 .bf16 :=
  truncf .bf16 (transpose Cert.Dw1ReferenceIdeal.S8x1024x512 [1, 0, 2] (shapeCast _ (transpose Cert.Dw1ReferenceIdeal.S1024x4096 [1, 0] (Host.dotGeneral Cert.Dw1ReferenceIdeal.dot_S4096x4096_S4096x1024_S4096x1024_0_0_1_1_n_n none (extf .f32 x1 Cert.Dw1ReferenceIdeal.Gen.bitsLt_bf16_f32) (extf .f32 x0 Cert.Dw1ReferenceIdeal.Gen.bitsLt_bf16_f32)) Cert.Dw1ReferenceIdeal.Gen.transposes_S4096x1024_S1024x4096_1_0) Cert.Dw1ReferenceIdeal.Gen.shapeCasts_S1024x4096_S1024x8x512) Cert.Dw1ReferenceIdeal.Gen.transposes_S1024x8x512_S8x1024x512_1_0_2) Cert.Dw1ReferenceIdeal.Gen.bitsLt_bf16_f32

theorem R_at (x0 : FVec Ideal Cert.Dw1ReferenceIdeal.S4096x1024 .bf16) (x1 : FVec Ideal Cert.Dw1ReferenceIdeal.S4096x4096 .bf16) (b : Fin 8) (d : Fin 1024) (i : Fin 512) :
    R x0 x1 (ix3 b d i) = ∑ k : Fin 4096, (show EReal from x1 (ix2 k (at8 b i))) * (show EReal from x0 (ix2 k d)) := by
  pointwise [R]
  rfl

theorem R_eq (x0 : FVec Ideal Cert.Dw1ReferenceIdeal.S4096x1024 .bf16) (x1 : FVec Ideal Cert.Dw1ReferenceIdeal.S4096x4096 .bf16)
    (h0 : x0 = V m c main_arg0) (h1 : x1 = V m c main_arg1) : R x0 x1 = G m c := by
  subst h0 h1
  funext j
  obtain ⟨b, d, i, rfl⟩ : ∃ x y z, j = ix3 x y z := ⟨j 0, j 1, j 2, eq_ix3 j⟩
  exact (R_at _ _ b d i).trans (Finset.sum_congr rfl fun k _ => mul_comm _ _)

/-! ## The claims -/

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1).trans (arr2 m c), (h c).2⟩) (Cert.Dw1Ideal.Value.run_blocks m ρ)

end Cert.WeightOne

end
-- ==== Proof.NormGradient.lean ====
module

public import Idealize.ShloMosaic.Lib.Pipeline.ValueKit

/-!
# The gradient of the root mean square norm of a row

Two ways to write the gradient of `x / sqrt (mean x² + eps)`: with the normed row, and with the inverse mean square. They agree for every
row and every cotangent, also where entries are infinite.
-/

@[expose] public section

set_option Elab.async false

noncomputable section

namespace Cert.NormGradient

open Idealize.ShloMosaic

theorem c_1024 : Ideal.ofBits .f32 0x44800000#32 = ((1024 : ℝ) : EReal) := by
  simp [Ideal.ofBits, Ideal.ieee, -EReal.coe_mul]; norm_num
theorem c_half : Ideal.ofBits .f32 0xBF000000#32 = ((-(1 / 2) : ℝ) : EReal) := by
  simp [Ideal.ofBits, Ideal.ieee, -EReal.coe_mul, -EReal.coe_neg]
  norm_num
/-- The real number under the mean square's addend. -/
def eps : ℝ := 8796093 / 2 ^ 43
theorem c_eps : Ideal.ofBits .f32 0x358637BD#32 = ((eps : ℝ) : EReal) := by
  simp [Ideal.ofBits, Ideal.ieee, eps, -EReal.coe_mul]; norm_num
theorem eps_pos : 0 < eps := by unfold eps; norm_num

/-- The mean square of a row, and its addend. -/
def ms (h : Fin 1024 → EReal) : EReal := Ideal.div (∑ d : Fin 1024, h d * h d) (Ideal.ofBits .f32 0x44800000#32) + Ideal.ofBits .f32 0x358637BD#32
/-- The reciprocal root mean square of a row. -/
def rstd (h : Fin 1024 → EReal) : EReal := Ideal.rsqrt (ms h)
/-- The gradient, by the normed row. -/
def byNormed (h x : Fin 1024 → EReal) (e : Fin 1024) : EReal :=
  rstd h * (x e - h e * rstd h * Ideal.div (∑ k : Fin 1024, x k * (h k * rstd h)) (Ideal.ofBits .f32 0x44800000#32))
/-- Half the gradient's multiple of the row, by the inverse mean square. -/
def half (h x : Fin 1024 → EReal) : EReal :=
  Ideal.div ((∑ k : Fin 1024, h k * x k) * (Ideal.ofBits .f32 0xBF000000#32 * Ideal.div (rstd h) (ms h))) (Ideal.ofBits .f32 0x44800000#32)

theorem sq_nonneg (x : EReal) : 0 ≤ x * x := by
  induction x with
  | bot => simp
  | top => simp
  | coe r => exact_mod_cast mul_self_nonneg r

theorem mul_sum_of_pos (r : ℝ) (hr : 0 ≤ r) {ι : Type} (s : Finset ι) (f : ι → EReal) : (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

theorem coe_sum_sq {ι : Type} (s : Finset ι) (a : ι → ℝ) : ∑ k ∈ s, (a k : EReal) * (a k : EReal) = ((∑ k ∈ s, a k * a k : ℝ) : EReal) := by
  classical
  induction s using Finset.induction_on with
  | empty => simp
  | insert b s hb ih => rw [Finset.sum_insert hb, Finset.sum_insert hb, EReal.coe_add, EReal.coe_mul, ih]

theorem twice (c : ℝ) (T : EReal) : (c : EReal) * T + (c : EReal) * T = ((2 * c : ℝ) : EReal) * T := by
  rcases lt_trichotomy c 0 with hc | hc | hc
  · induction T with
    | bot => rw [EReal.coe_mul_bot_of_neg hc, EReal.coe_mul_bot_of_neg (by linarith)]; rfl
    | top => rw [EReal.coe_mul_top_of_neg hc, EReal.coe_mul_top_of_neg (by linarith)]; rfl
    | coe t => rw [← EReal.coe_mul, ← EReal.coe_mul, ← EReal.coe_add]; congr 1; ring
  · subst hc; simp
  · induction T with
    | bot => rw [EReal.coe_mul_bot_of_pos hc, EReal.coe_mul_bot_of_pos (by linarith)]; rfl
    | top => rw [EReal.coe_mul_top_of_pos hc, EReal.coe_mul_top_of_pos (by linarith)]; rfl
    | coe t => rw [← EReal.coe_mul, ← EReal.coe_mul, ← EReal.coe_add]; congr 1; ring

theorem ms_top (h : Fin 1024 → EReal) (k : Fin 1024) (hk : h k = ⊤ ∨ h k = ⊥) : ms h = ⊤ := by
  have h1 : h k * h k = ⊤ := by rcases hk with hk | hk <;> rw [hk] <;> rfl
  have h2 : ∑ d : Fin 1024, h d * h d = ⊤ :=
    top_le_iff.mp (h1 ▸ Finset.single_le_sum (f := fun d => h d * h d) (fun d _ => sq_nonneg (h d)) (Finset.mem_univ k))
  rw [ms, h2, c_1024, c_eps, Ideal.div_coe (by norm_num), EReal.top_mul_coe_of_pos (by norm_num), EReal.top_add_coe]

theorem top_case (d : EReal) (h x : Fin 1024 → EReal) (e : Fin 1024) (hm : ms h = ⊤) :
    d + byNormed h x e = d + x e * rstd h + h e * half h x + half h x * h e := by
  have hr : rstd h = 0 := by rw [rstd, hm]; rfl
  have hs : half h x = 0 := by
    rw [half, hr, hm, c_1024, Ideal.div_coe (by norm_num)]
    have : Ideal.div 0 ⊤ = 0 := by unfold Ideal.div; rw [if_neg (by simp), zero_mul]
    rw [this, mul_zero, mul_zero, zero_mul]
  rw [byNormed, hr, hs]
  simp

theorem real_case (d : EReal) (a : Fin 1024 → ℝ) (x : Fin 1024 → EReal) (e : Fin 1024) :
    d + byNormed (fun k => (a k : EReal)) x e = d + x e * rstd (fun k => (a k : EReal)) + (a e : EReal) * half (fun k => (a k : EReal)) x + half (fun k => (a k : EReal)) x * (a e : EReal) := by
  obtain ⟨M, hM, hms⟩ : ∃ M : ℝ, 0 < M ∧ ms (fun k => (a k : EReal)) = (M : EReal) := by
    refine ⟨(∑ k, a k * a k) * (1 / 1024) + eps, ?_, ?_⟩
    · have : 0 ≤ ∑ k, a k * a k := Finset.sum_nonneg fun k _ => mul_self_nonneg (a k)
      have := eps_pos
      positivity
    · rw [ms, c_1024, c_eps, Ideal.div_coe (by norm_num), EReal.coe_add, EReal.coe_mul]
      rw [coe_sum_sq]
  obtain ⟨r, hr, hrr, hrs⟩ : ∃ r : ℝ, 0 < r ∧ r * r = 1 / M ∧ rstd (fun k => (a k : EReal)) = (r : EReal) := by
    have hp := Real.sqrt_pos.mpr hM
    refine ⟨(Real.sqrt M)⁻¹, inv_pos.mpr hp, ?_, ?_⟩
    · rw [← mul_inv, Real.mul_self_sqrt hM.le, one_div]
    · rw [rstd, hms, Ideal.rsqrt_coe, if_neg hM.le.not_gt, if_neg hM.ne']
  set T : EReal := ∑ k : Fin 1024, (a k : EReal) * x k with hT
  have hS : ∑ k : Fin 1024, x k * ((a k : EReal) * (r : EReal)) = (r : EReal) * T := by
    rw [hT, mul_sum_of_pos r hr.le]
    exact Finset.sum_congr rfl fun k _ => by rw [mul_comm (a k : EReal) (r : EReal), mul_left_comm, mul_comm (x k)]
  have hh : half (fun k => (a k : EReal)) x = ((-(1 / 2) * (r * (1 / M)) * (1 / 1024) : ℝ) : EReal) * T := by
    rw [half, hrs, hms, c_half, c_1024, Ideal.div_coe (by norm_num), Ideal.div_coe hM.ne', ← hT]
    rw [EReal.coe_mul (-(1 / 2) * (r * (1 / M))), EReal.coe_mul (-(1 / 2)), EReal.coe_mul r]
    ac_rfl
  rw [byNormed, hrs, hS, hh, c_1024, Ideal.div_coe (by norm_num), sub_eq_add_neg,
    EReal.left_distrib_of_nonneg_of_ne_top (EReal.coe_nonneg.mpr hr.le) (EReal.coe_ne_top r)]
  have h1 : (r : EReal) * -((a e : EReal) * (r : EReal) * ((r : EReal) * T * ((1 / 1024 : ℝ) : EReal))) = ((-(r * a e * r * r * (1 / 1024)) : ℝ) : EReal) * T := by
    rw [EReal.coe_neg, EReal.coe_mul (r * a e * r * r), EReal.coe_mul (r * a e * r), EReal.coe_mul (r * a e), EReal.coe_mul r, mul_neg, neg_mul]
    congr 1
    ac_rfl
  have h2 : (a e : EReal) * (((-(1 / 2) * (r * (1 / M)) * (1 / 1024) : ℝ) : EReal) * T) = ((a e * (-(1 / 2) * (r * (1 / M)) * (1 / 1024)) : ℝ) : EReal) * T := by
    rw [EReal.coe_mul (a e), ← mul_assoc]
  rw [h1, mul_comm _ (a e : EReal), h2, add_assoc (d + x e * (r : EReal)), twice, mul_comm (r : EReal) (x e), ← add_assoc]
  congr 3
  rw [← hrr]
  ring

/-- The two forms of the gradient agree. -/
theorem grad_eq (d : EReal) (h x : Fin 1024 → EReal) (e : Fin 1024) :
    d + byNormed h x e = d + x e * rstd h + h e * half h x + half h x * h e := by
  by_cases hk : ∃ k, h k = ⊤ ∨ h k = ⊥
  · obtain ⟨k, hk⟩ := hk
    exact top_case d h x e (ms_top h k hk)
  · push Not at hk
    obtain ⟨a, rfl⟩ : ∃ a : Fin 1024 → ℝ, h = fun k => (a k : EReal) :=
      ⟨fun k => (h k).toReal, funext fun k => (EReal.coe_toReal (hk k).1 (hk k).2).symm⟩
    exact real_case d a x e

end Cert.NormGradient

end
-- ==== Proof.InputNormReference.lean ====
module

public import proofs.«01_k».proof.Proof.Gen.DupReferenceIdeal.Run
public import proofs.«01_k».proof.Proof.NormGradient

/-!
# The reference's gradients of the input of the feed-forward block and of the gains of its norm

The entries of the two gradients, from the product of the hidden layer's cotangent and the first weight.
-/

@[expose] public section

set_option maxRecDepth 16384
set_option Elab.async false

noncomputable section

namespace Cert.InputNormReference

open Cert.DupReferenceIdeal Cert.DupReferenceIdeal.Gen
open Idealize.ShloMosaic
open Idealize.ShloMosaic.TcCoe Idealize.ShloMosaic.Tactic
open Idealize.SL.Sem
open Cert.NormGradient (ms rstd half)

/-- The mean square of every row, and its addend. -/
def rMs (h : FVec Ideal S4096x1024 .f32) : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
theorem rMs_at (h : FVec Ideal S4096x1024 .f32) (q : Fin 4096) (z : Fin 1) : rMs h (ix2 q z) = ms (fun e => h (ix2 q e)) := by
  pointwise [rMs]
  rfl

/-- Half the gradient's multiple of every row. -/
def rHalf (D h : FVec Ideal S4096x1024 .f32) (g : FVec Ideal S1x1024 .f32) : FVec Ideal S4096 .f32 :=
  Host.reduceAdd (Host.divf (mulf (shapeCast _ (Host.reduceAdd (mulf h (mulf D (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (rMs h)) (rMs h)))) (broadcastInDim S4096x1 ![] bcast_S_S4096x1 (constant S_ .f32 0x44800000#32))) (constant S_ .f32 0x00000000#32) reducesTo_S4096x1_S4096_d1 h_S_
theorem rHalf_at (D h : FVec Ideal S4096x1024 .f32) (g : FVec Ideal S1x1024 .f32) (q : Fin 4096) :
    rHalf D h g (ix1 q) = half (fun e => h (ix2 q e)) (fun e => (show EReal from D (ix2 q e)) * (show EReal from g (ix2 (0 : Fin 1) e))) := by
  pointwise [rHalf, rMs_at]
  exact Fin.sum_univ_one _

/-- The gradient of the input, from the product `D`. -/
def rGrad (D h : FVec Ideal S4096x1024 .f32) (g : FVec Ideal S1x1024 .f32) (dh : FVec Ideal S4096x1024 .f32) : FVec Ideal S4096x1024 .f32 :=
  addf (addf (addf dh (mulf (mulf D (broadcastInDim S4096x1024 ![0, 1] bcast_S1x1024_S4096x1024_0_1 g)) (broadcastInDim S4096x1024 ![0, 1] bcast_S4096x1_S4096x1024_0_1 (Host.rsqrt (rMs h))))) (mulf h (broadcastInDim S4096x1024 ![0] bcast_S4096_S4096x1024_0 (rHalf D h g)))) (mulf (broadcastInDim S4096x1024 ![0] bcast_S4096_S4096x1024_0 (rHalf D h g)) h)
theorem rGrad_at (D h : FVec Ideal S4096x1024 .f32) (g : FVec Ideal S1x1024 .f32) (dh : FVec Ideal S4096x1024 .f32) (q : Fin 4096) (e : Fin 1024) :
    rGrad D h g dh (ix2 q e) = (show EReal from dh (ix2 q e)) + (show EReal from D (ix2 q e)) * (show EReal from g (ix2 (0 : Fin 1) e)) * rstd (fun e => h (ix2 q e))
      + (show EReal from h (ix2 q e)) * half (fun e => h (ix2 q e)) (fun e => (show EReal from D (ix2 q e)) * (show EReal from g (ix2 (0 : Fin 1) e)))
      + half (fun e => h (ix2 q e)) (fun e => (show EReal from D (ix2 q e)) * (show EReal from g (ix2 (0 : Fin 1) e))) * (show EReal from h (ix2 q e)) := by
  pointwise [rGrad, rHalf_at, rMs_at]
  rfl

/-- The gradient of the gains, from the product `D`. -/
def rGain (D h : FVec Ideal S4096x1024 .f32) : FVec Ideal S1x1024 .f32 :=
  shapeCast _ (Host.reduceAdd (mulf (mulf h (broadcastInDim S4096x1024 ![0, 1] bcast_S4096x1_S4096x1024_0_1 (Host.rsqrt (rMs h)))) D) (constant S_ .f32 0x00000000#32) reducesTo_S4096x1024_S1024_d0 h_S_) shapeCasts_S1024_S1x1024
theorem rGain_at (D h : FVec Ideal S4096x1024 .f32) (z : Fin 1) (e : Fin 1024) :
    rGain D h (ix2 z e) = ∑ q : Fin 4096, (show EReal from h (ix2 q e)) * rstd (fun e => h (ix2 q e)) * (show EReal from D (ix2 q e)) := by
  pointwise [rGain, rMs_at]
  rfl

/-- The product of the hidden layer's cotangent and the first weight. -/
def rD (x0 : FVec Ideal S4096x4096 .bf16) (x1 : FVec Ideal S1024x4096 .f32) : FVec Ideal S4096x1024 .f32 :=
  Host.dotGeneral dot_S4096x4096_S1024x4096_S4096x1024_1_1_0_0_n_n none (extf .f32 x0 bitsLt_bf16_f32) x1
theorem rD_at (x0 : FVec Ideal S4096x4096 .bf16) (x1 : FVec Ideal S1024x4096 .f32) (q : Fin 4096) (e : Fin 1024) :
    rD x0 x1 (ix2 q e) = ∑ k : Fin 4096, (show EReal from x0 (ix2 q k)) * (show EReal from x1 (ix2 e k)) := by
  pointwise [rD]

end Cert.InputNormReference

end
-- ==== Proof.InputNorm.lean ====
module

public import proofs.«01_k».proof.Proof.Gen.DupIdeal.Value
public import proofs.«01_k».proof.Proof.InputNormReference
public import Idealize.ShloMosaic.Lib.Pipeline.ValueKit

/-!
# The gradients of the input of the feed-forward block and of the gains of its norm

Each grid point multiplies 512 rows of the hidden layer's cotangent with the first weight and takes the product back through the norm of
those rows; the gains' gradient is summed over the points.
-/

@[expose] public section

set_option maxRecDepth 16384
set_option Elab.async false

noncomputable section

namespace Cert.InputNorm

open Cert.DupIdeal Cert.DupIdeal.Gen
open Idealize.ShloMosaic
open Idealize.ShloMosaic.TcCoe Idealize.ShloMosaic.Tactic
open Idealize.SL.Sem
open Idealize.ShloMosaic.Pipeline (Dat Cfg Window)
open Cert.NormGradient (ms rstd byNormed half)
open Cert.InputNormReference (rD rGrad rGain)

/-- Row `i` of block `b`. -/
def at8 (b : Fin 8) (i : Fin 512) : Fin 4096 := ⟨b.val * 512 + i.val, by omega⟩

theorem at8_surj (q : Fin 4096) : ∃ b i, q = at8 b i :=
  ⟨⟨q.val / 512, by omega⟩, ⟨q.val % 512, by omega⟩, Fin.ext (by show q.val = q.val / 512 * 512 + q.val % 512; omega)⟩

/-- The block of rows that point `t` computes. -/
def blk (t : Fin cfg0.N) : Fin 8 := ⟨t.val, t.isLt⟩

theorem idx0 : ∀ t : Fin cfg0.N, ∀ a, (cfg0.win (0 : Fin 7)).index t a = (![(blk t).val, 0] : Fin 2 → ℕ) a := by decide +kernel
theorem idx1 : ∀ t : Fin cfg0.N, ∀ a, (cfg0.win (1 : Fin 7)).index t a = (![0, 0] : Fin 2 → ℕ) a := by decide +kernel
theorem idx2 : ∀ t : Fin cfg0.N, ∀ a, (cfg0.win (2 : Fin 7)).index t a = (![(blk t).val, 0] : Fin 2 → ℕ) a := by decide +kernel
theorem idx3 : ∀ t : Fin cfg0.N, ∀ a, (cfg0.win (3 : Fin 7)).index t a = (![0, 0] : Fin 2 → ℕ) a := by decide +kernel
theorem idx4 : ∀ t : Fin cfg0.N, ∀ a, (cfg0.win (4 : Fin 7)).index t a = (![(blk t).val, 0] : Fin 2 → ℕ) a := by decide +kernel
theorem idx5 : ∀ t : Fin cfg0.N, ∀ a, (cfg0.win (5 : Fin 7)).index t a = (![(blk t).val, 0] : Fin 2 → ℕ) a := by decide +kernel
theorem idx6 : ∀ t : Fin cfg0.N, ∀ a, (cfg0.win (6 : Fin 7)).index t a = (![0, 0] : Fin 2 → ℕ) a := by decide +kernel

theorem pay3_at (x0 : Vec Ideal S512x4096 .bf16) (x1 : Vec Ideal S1024x4096 .f32) (i : Fin 512) (e : Fin 1024) :
    k0_pay3 x0 x1 (ix2 i e) = ∑ k : Fin 4096, (show EReal from x0 (ix2 i k)) * (show EReal from x1 (ix2 e k)) := by
  pointwise [k0_pay3]
theorem pay4_at (h : Vec Ideal S512x1024 .f32) (i : Fin 512) (z : Fin 1) : k0_pay4 h (ix2 i z) = rstd (fun e => h (ix2 i e)) := by
  pointwise [k0_pay4]
  rfl
theorem pay5_at (h : Vec Ideal S512x1024 .f32) (i : Fin 512) (e : Fin 1024) : k0_pay5 h (ix2 i e) = (show EReal from h (ix2 i e)) * rstd (fun e => h (ix2 i e)) := by
  pointwise [k0_pay5, pay4_at]
theorem pay6_at (x0 : Vec Ideal S512x4096 .bf16) (x1 : Vec Ideal S1024x4096 .f32) (h : Vec Ideal S512x1024 .f32) (i : Fin 512) (e : Fin 1024) :
    k0_pay6 x0 x1 h (ix2 i e) = (show EReal from k0_pay3 x0 x1 (ix2 i e)) * ((show EReal from h (ix2 i e)) * rstd (fun e => h (ix2 i e))) := by
  pointwise [k0_pay6, pay5_at]
/-- The rows' gradient, from the product `D`. -/
def grad (D : FVec Ideal S512x1024 .f32) (h : Vec Ideal S512x1024 .f32) (g : Vec Ideal S1x1024 .f32) (dh : Vec Ideal S512x1024 .f32) : FVec Ideal S512x1024 .f32 :=
  addf dh (mulf (broadcastTo S512x1024 (k0_pay4 h) broadcasts_S512x1_S512x1024) (subf (mulf D (broadcastTo S512x1024 g broadcasts_S1x1024_S512x1024))
    (mulf (k0_pay5 h) (broadcastTo S512x1024 (divf (shapeCast S512x1 (multiReduction .add [1] S512 (mulf (mulf D (broadcastTo S512x1024 g broadcasts_S1x1024_S512x1024)) (k0_pay5 h)) 0x00000000#32 reduces_S512x1024_S512 (.inl rfl) rfl) shapeCasts_S512_S512x1)
      (broadcast S512x1 (Scalar.ofBits .f32 0x44800000#32))) broadcasts_S512x1_S512x1024))))
theorem pay7_grad (x0 : Vec Ideal S512x4096 .bf16) (x1 : Vec Ideal S1024x4096 .f32) (h : Vec Ideal S512x1024 .f32) (g : Vec Ideal S1x1024 .f32) (dh : Vec Ideal S512x1024 .f32) :
    k0_pay7 x0 x1 h g dh = grad (k0_pay3 x0 x1) h g dh := rfl
theorem grad_at (D : FVec Ideal S512x1024 .f32) (h : Vec Ideal S512x1024 .f32) (g : Vec Ideal S1x1024 .f32) (dh : Vec Ideal S512x1024 .f32) (i : Fin 512) (e : Fin 1024) :
    grad D h g dh (ix2 i e) = (show EReal from dh (ix2 i e)) + byNormed (fun e => h (ix2 i e)) (fun e => (show EReal from D (ix2 i e)) * (show EReal from g (ix2 (0 : Fin 1) e))) e := by
  pointwise [grad, pay4_at, pay5_at]
  rfl
theorem pay1_at (v : FVec Ideal S512x1024 .f32) (acc : Vec Ideal S1x1024 .f32) (z : Fin 1) (e : Fin 1024) :
    k0_pay1 v acc (ix2 z e) = (show EReal from acc (ix2 z e)) + ∑ i : Fin 512, (show EReal from v (ix2 i e)) := by
  pointwise [k0_pay1]
theorem pay2_at (z : Fin 1) (e : Fin 1024) : k0_pay2 (F := Ideal) (ix2 z e) = (0 : EReal) := by
  pointwise [k0_pay2]

variable (m : (ℓ : Loc nD τ sig) → Buf (Elt Ideal) ℓ) (c : Dev nD)

theorem outs5 (t : Fin cfg0.N) : (outsAt0 m c t.val t.isLt).1 = k0_pay7 (iblk m c 0 t) (iblk m c 1 t) (iblk m c 2 t) (iblk m c 3 t) (iblk m c 4 t) := by
  by_cases h : t.val % 8 = 0
  · rw [outsAt0_A m c t h]; frame_out
  · rw [outsAt0_B m c t h]; frame_out
theorem outs6_first (t : Fin cfg0.N) (h : t.val % 8 = 0) :
    (outsAt0 m c t.val t.isLt).2 = k0_pay1 (k0_pay6 (iblk m c 0 t) (iblk m c 1 t) (iblk m c 2 t)) (k0_pay2 (F := Ideal)) := by
  rw [outsAt0_A m c t h]; frame_out
theorem outs6_next (t : Fin cfg0.N) (h : ¬t.val % 8 = 0) :
    (outsAt0 m c t.val t.isLt).2 = k0_pay1 (k0_pay6 (iblk m c 0 t) (iblk m c 1 t) (iblk m c 2 t)) (outsAt0 m c (t.val - 1) (Nat.lt_of_le_of_lt (Nat.sub_le _ _) t.isLt)).2 := by
  rw [outsAt0_B m c t h]; frame_out

theorem blk0 (t : Fin cfg0.N) (i : Fin 512) (k : Fin 4096) : iblk m c 0 t (ix2 i k) = V m c main_arg0 (ix2 (at8 (blk t) i) k) := by
  refine congrArg (V m c main_arg0) (funext fun a => Fin.ext (((cfg0.win (0 : Fin 7)).rect_emb_val t _ a).trans ?_))
  rw [idx0]
  fin_cases a
  · show (blk t).val * 512 + i.val = (blk t).val * 512 + i.val; rfl
  · show 0 * 4096 + k.val = k.val; omega
theorem blk1 (t : Fin cfg0.N) (e : Fin 1024) (k : Fin 4096) : iblk m c 1 t (ix2 e k) = V m c main_arg1 (ix2 e k) := by
  refine congrArg (V m c main_arg1) (funext fun a => Fin.ext (((cfg0.win (1 : Fin 7)).rect_emb_val t _ a).trans ?_))
  rw [idx1]
  fin_cases a
  · show 0 * 1024 + e.val = e.val; omega
  · show 0 * 4096 + k.val = k.val; omega
theorem blk2 (t : Fin cfg0.N) (i : Fin 512) (e : Fin 1024) : iblk m c 2 t (ix2 i e) = V m c main_arg2 (ix2 (at8 (blk t) i) e) := by
  refine congrArg (V m c main_arg2) (funext fun a => Fin.ext (((cfg0.win (2 : Fin 7)).rect_emb_val t _ a).trans ?_))
  rw [idx2]
  fin_cases a
  · show (blk t).val * 512 + i.val = (blk t).val * 512 + i.val; rfl
  · show 0 * 1024 + e.val = e.val; omega
theorem blk3 (t : Fin cfg0.N) (z : Fin 1) (e : Fin 1024) : iblk m c 3 t (ix2 z e) = V m c main_arg3 (ix2 z e) := by
  refine congrArg (V m c main_arg3) (funext fun a => Fin.ext (((cfg0.win (3 : Fin 7)).rect_emb_val t _ a).trans ?_))
  rw [idx3]
  fin_cases a
  · show 0 * 1 + z.val = z.val; omega
  · show 0 * 1024 + e.val = e.val; omega
theorem blk4 (t : Fin cfg0.N) (i : Fin 512) (e : Fin 1024) : iblk m c 4 t (ix2 i e) = V m c main_arg4 (ix2 (at8 (blk t) i) e) := by
  refine congrArg (V m c main_arg4) (funext fun a => Fin.ext (((cfg0.win (4 : Fin 7)).rect_emb_val t _ a).trans ?_))
  rw [idx4]
  fin_cases a
  · show (blk t).val * 512 + i.val = (blk t).val * 512 + i.val; rfl
  · show 0 * 1024 + e.val = e.val; omega
theorem emb5 (t : Fin cfg0.N) (i : Fin 512) (e : Fin 1024) : ((cfg0.win (5 : Fin 7)).rect t).emb (ix2 i e) = ix2 (at8 (blk t) i) e := by
  refine funext fun a => Fin.ext (((cfg0.win (5 : Fin 7)).rect_emb_val t _ a).trans ?_)
  rw [idx5]
  fin_cases a
  · show (blk t).val * 512 + i.val = (blk t).val * 512 + i.val; rfl
  · show 0 * 1024 + e.val = e.val; omega
theorem emb6 (t : Fin cfg0.N) (z : Fin 1) (e : Fin 1024) : ((cfg0.win (6 : Fin 7)).rect t).emb (ix2 z e) = ix2 z e := by
  refine funext fun a => Fin.ext (((cfg0.win (6 : Fin 7)).rect_emb_val t _ a).trans ?_)
  rw [idx6]
  fin_cases a
  · show 0 * 1 + z.val = z.val; omega
  · show 0 * 1024 + e.val = e.val; omega

/-- A row of the input. -/
def gH (q : Fin 4096) (e : Fin 1024) : EReal := V m c main_arg2 (ix2 q e)
/-- The product of the hidden layer's cotangent and the first weight. -/
def gD (q : Fin 4096) (e : Fin 1024) : EReal := ∑ k : Fin 4096, (show EReal from V m c main_arg0 (ix2 q k)) * (show EReal from V m c main_arg1 (ix2 e k))
/-- The normed row's cotangent. -/
def gX (q : Fin 4096) (e : Fin 1024) : EReal := gD m c q e * (show EReal from V m c main_arg3 (ix2 (0 : Fin 1) e))
/-- The gradient of the input. -/
def G5 : S4096x1024.Idx → EReal := fun j => (show EReal from V m c main_arg4 j) + byNormed (gH m c (j 0)) (gX m c (j 0)) (j 1)
/-- The gradient of the gains. -/
def G6 : S1x1024.Idx → EReal := fun j => ∑ t : Fin 8, ∑ i : Fin 512, gD m c (at8 t i) (j 1) * (gH m c (at8 t i) (j 1) * rstd (gH m c (at8 t i)))

theorem pay_d (t : Fin cfg0.N) (i : Fin 512) (e : Fin 1024) : k0_pay3 (iblk m c 0 t) (iblk m c 1 t) (ix2 i e) = gD m c (at8 (blk t) i) e :=
  (pay3_at _ _ i e).trans (Finset.sum_congr rfl fun k _ => congrArg₂ (fun a b : EReal => a * b) (blk0 m c t i k) (blk1 m c t e k))
theorem row_h (t : Fin cfg0.N) (i : Fin 512) : (fun e => (show EReal from iblk m c 2 t (ix2 i e))) = gH m c (at8 (blk t) i) := funext fun e => blk2 m c t i e

theorem at5 (t : Fin cfg0.N) (y : S512x1024.Idx) : (outsAt0 m c t.val t.isLt).1 y = G5 m c (((cfg0.win (5 : Fin 7)).rect t).emb y) := by
  obtain ⟨i, e, rfl⟩ : ∃ a b, y = ix2 a b := ⟨y 0, y 1, eq_ix2 y⟩
  refine Eq.trans ?_ (congrArg (G5 m c) (emb5 t i e)).symm
  refine (congrFun ((outs5 m c t).trans (pay7_grad _ _ _ _ _)) _).trans ((grad_at _ _ _ _ i e).trans ?_)
  refine congrArg₂ (fun a b : EReal => a + b) (blk4 m c t i e) (congrArg₂ (fun a b => byNormed a b e) (row_h m c t i) (funext fun e => ?_))
  exact congrArg₂ (fun a b : EReal => a * b) (pay_d m c t i e) (blk3 m c t 0 e)

/-- What point `t` adds to the gains' gradient. -/
def term6 (t : Fin cfg0.N) (j : S1x1024.Idx) : EReal := ∑ i : Fin 512, gD m c (at8 (blk t) i) (j 1) * (gH m c (at8 (blk t) i) (j 1) * rstd (gH m c (at8 (blk t) i)))
theorem sum6 (t : Fin cfg0.N) (e : Fin 1024) :
    ∑ i : Fin 512, (show EReal from k0_pay6 (iblk m c 0 t) (iblk m c 1 t) (iblk m c 2 t) (ix2 i e)) = ∑ i : Fin 512, gD m c (at8 (blk t) i) e * (gH m c (at8 (blk t) i) e * rstd (gH m c (at8 (blk t) i))) :=
  Finset.sum_congr rfl fun i _ => (pay6_at _ _ _ i e).trans
    (congrArg₂ (fun a b : EReal => a * b) (pay_d m c t i e) (congrArg₂ (fun a b : EReal => a * b) (blk2 m c t i e) (congrArg rstd (row_h m c t i))))
theorem total6 (t : Fin cfg0.N) (ht : t.val + 1 = cfg0.N) (j : S1x1024.Idx) :
    (show EReal from (outsAt0 m c t.val t.isLt).2 j) = 0 + ∑ p : Fin cfg0.N, term6 m c p j := by
  refine Pipeline.eq_sum_fin_of_reset_step_apply_last (M := EReal) (fun n hn => (outsAt0 m c n hn).2) 8 (fun _ => 0) (term6 m c) ?_ ?_ (by decide) t ht j
  · intro t h j
    obtain ⟨z, e, rfl⟩ : ∃ a b, j = ix2 a b := ⟨j 0, j 1, eq_ix2 j⟩
    exact (congrFun (outs6_first m c t h) _).trans ((pay1_at _ _ z e).trans (congrArg₂ (fun a b : EReal => a + b) (pay2_at z e) (sum6 m c t e)))
  · intro t h j
    obtain ⟨z, e, rfl⟩ : ∃ a b, j = ix2 a b := ⟨j 0, j 1, eq_ix2 j⟩
    exact (congrFun (outs6_next m c t h) _).trans ((pay1_at _ _ z e).trans (congrArg₂ (fun a b : EReal => a + b) rfl (sum6 m c t e)))
theorem flush6 : ∀ t : Fin cfg0.N, (cfg0.win (6 : Fin 7)).flush t = true → t.val + 1 = cfg0.N := by decide +kernel
theorem at6 (t : Fin cfg0.N) (hf : (cfg0.win (6 : Fin 7)).flush t = true) (y : S1x1024.Idx) :
    (outsAt0 m c t.val t.isLt).2 y = G6 m c (((cfg0.win (6 : Fin 7)).rect t).emb y) := by
  refine (total6 m c t (flush6 t hf) y).trans ?_
  obtain ⟨z, e, rfl⟩ : ∃ a b, y = ix2 a b := ⟨y 0, y 1, eq_ix2 y⟩
  refine Eq.trans ?_ (congrArg (G6 m c) (emb6 t z e)).symm
  exact zero_add _

theorem arr5 : (dats m 0 c).arrAt (5 : Fin 7) cfg0.N = G5 m c :=
  (dats m 0 c).arrAt_eq_of_covers (5 : Fin 7) (G5 m c) (by decide +kernel) fun t hf y => (congrFun (after0_5 m c t) y).trans (at5 m c t y)
theorem arr6 : (dats m 0 c).arrAt (6 : Fin 7) cfg0.N = G6 m c :=
  (dats m 0 c).arrAt_eq_of_covers (6 : Fin 7) (G6 m c) (by decide +kernel) fun t hf y => (congrFun (after0_6 m c t) y).trans (at6 m c t hf y)

open Cert.InputNormReference in
theorem rD_eq (x0 : FVec Ideal Cert.DupReferenceIdeal.S4096x4096 .bf16) (x1 : FVec Ideal Cert.DupReferenceIdeal.S1024x4096 .f32)
    (h0 : x0 = V m c main_arg0) (h1 : x1 = V m c main_arg1) (q : Fin 4096) (e : Fin 1024) : rD x0 x1 (ix2 q e) = gD m c q e := by
  subst h0 h1
  exact rD_at _ _ q e

open Cert.InputNormReference in
theorem rGrad_eq (x0 : FVec Ideal Cert.DupReferenceIdeal.S4096x4096 .bf16) (x1 : FVec Ideal Cert.DupReferenceIdeal.S1024x4096 .f32)
    (h dh : FVec Ideal Cert.DupReferenceIdeal.S4096x1024 .f32) (g : FVec Ideal Cert.DupReferenceIdeal.S1x1024 .f32)
    (h0 : x0 = V m c main_arg0) (h1 : x1 = V m c main_arg1) (h2 : h = V m c main_arg2) (h3 : g = V m c main_arg3) (h4 : dh = V m c main_arg4) :
    rGrad (rD x0 x1) h g dh = G5 m c := by
  funext j
  obtain ⟨q, e, rfl⟩ : ∃ a b, j = ix2 a b := ⟨j 0, j 1, eq_ix2 j⟩
  have hx : (fun e => (show EReal from rD x0 x1 (ix2 q e)) * (show EReal from g (ix2 (0 : Fin 1) e))) = gX m c q :=
    funext fun e => congrArg₂ (fun a b : EReal => a * b) (rD_eq m c x0 x1 h0 h1 q e) (congrFun h3 _)
  have hh : (fun e => (show EReal from h (ix2 q e))) = gH m c q := funext fun e => congrFun h2 _
  refine (rGrad_at _ _ _ _ q e).trans ?_
  refine (Cert.NormGradient.grad_eq (show EReal from dh (ix2 q e)) (fun e => h (ix2 q e)) (fun e => (show EReal from rD x0 x1 (ix2 q e)) * (show EReal from g (ix2 (0 : Fin 1) e))) e).symm.trans ?_
  exact congrArg₂ (fun a b : EReal => a + b) (congrFun h4 _) (congrArg₂ (fun a b => byNormed a b e) hh hx)

theorem sum_rows (f : Fin 4096 → EReal) : ∑ q : Fin 4096, f q = ∑ t : Fin 8, ∑ i : Fin 512, f (at8 t i) := by
  rw [← Fintype.sum_prod_type']
  refine (Fintype.sum_bijective (fun p : Fin 8 × Fin 512 => at8 p.1 p.2) ⟨?_, ?_⟩ _ _ fun _ => rfl).symm
  · rintro ⟨a, b⟩ ⟨a', b'⟩ h
    have h' : a.val * 512 + b.val = a'.val * 512 + b'.val := congrArg Fin.val h
    refine Prod.ext (Fin.ext ?_) (Fin.ext ?_)
    · show a.val = a'.val; omega
    · show b.val = b'.val; omega
  · intro q
    obtain ⟨b, i, rfl⟩ := at8_surj q
    exact ⟨(b, i), rfl⟩

open Cert.InputNormReference in
theorem rGain_eq (x0 : FVec Ideal Cert.DupReferenceIdeal.S4096x4096 .bf16) (x1 : FVec Ideal Cert.DupReferenceIdeal.S1024x4096 .f32)
    (h : FVec Ideal Cert.DupReferenceIdeal.S4096x1024 .f32)
    (h0 : x0 = V m c main_arg0) (h1 : x1 = V m c main_arg1) (h2 : h = V m c main_arg2) : rGain (rD x0 x1) h = G6 m c := by
  funext j
  obtain ⟨z, e, rfl⟩ : ∃ a b, j = ix2 a b := ⟨j 0, j 1, eq_ix2 j⟩
  refine (rGain_at _ _ z e).trans ?_
  refine Eq.trans ?_ (sum_rows fun q => gD m c q e * (gH m c q e * rstd (gH m c q)))
  refine Finset.sum_congr rfl fun q _ => ?_
  have hh : (fun e => (show EReal from h (ix2 q e))) = gH m c q := funext fun e => congrFun h2 _
  exact (mul_comm _ _).trans (congrArg₂ (fun a b : EReal => a * b) (rD_eq m c x0 x1 h0 h1 q e) (congrArg₂ (fun a b : EReal => a * b) (congrFun h2 _) (congrArg rstd hh)))

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = G5 m c
      ∧ r.2.mem ((c.tc : Thread nD τ).loc main_v0_1) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1).trans (arr5 m c), ((h c).2.1).trans (arr6 m c), (h c).2.2⟩) (Cert.DupIdeal.Value.run_blocks m ρ)

end Cert.InputNorm

end
-- ==== Proof.OutputNorm.lean ====
module

public import proofs.«01_k».proof.Proof.Gen.DownIdeal.Value
public import proofs.«01_k».proof.Proof.Gen.DownReferenceIdeal.Run
public import Idealize.ShloMosaic.Lib.Pipeline.ValueKit

/-!
# The output of the feed-forward block

Each grid point multiplies 512 rows of the squared hidden layer with the second weight, norms the rows of the product and adds
the block's input.
-/

@[expose] public section

set_option maxRecDepth 16384
set_option Elab.async false

noncomputable section

namespace Cert.OutputNorm

open Cert.DownIdeal Cert.DownIdeal.Gen
open Idealize.ShloMosaic
open Idealize.ShloMosaic.TcCoe Idealize.ShloMosaic.Tactic
open Idealize.SL.Sem
open Idealize.ShloMosaic.Pipeline (Dat Cfg Window)

/-- Row `i` of block `b`. -/
def at8 (b : Fin 8) (i : Fin 512) : Fin 4096 := ⟨b.val * 512 + i.val, by omega⟩

theorem at8_surj (q : Fin 4096) : ∃ b i, q = at8 b i :=
  ⟨⟨q.val / 512, by omega⟩, ⟨q.val % 512, by omega⟩, Fin.ext (by show q.val = q.val / 512 * 512 + q.val % 512; omega)⟩

/-- The block of rows that point `t` computes. -/
def blk (t : Fin cfg0.N) : Fin 8 := ⟨t.val, t.isLt⟩

theorem idx0 : ∀ t : Fin cfg0.N, ∀ a, (cfg0.win (0 : Fin 6)).index t a = (![(blk t).val, 0] : Fin 2 → ℕ) a := by decide +kernel
theorem idx1 : ∀ t : Fin cfg0.N, ∀ a, (cfg0.win (1 : Fin 6)).index t a = (![0, 0] : Fin 2 → ℕ) a := by decide +kernel
theorem idx2 : ∀ t : Fin cfg0.N, ∀ a, (cfg0.win (2 : Fin 6)).index t a = (![0, 0] : Fin 2 → ℕ) a := by decide +kernel
theorem idx3 : ∀ t : Fin cfg0.N, ∀ a, (cfg0.win (3 : Fin 6)).index t a = (![(blk t).val, 0] : Fin 2 → ℕ) a := by decide +kernel
theorem idx4 : ∀ t : Fin cfg0.N, ∀ a, (cfg0.win (4 : Fin 6)).index t a = (![(blk t).val, 0] : Fin 2 → ℕ) a := by decide +kernel
theorem idx5 : ∀ t : Fin cfg0.N, ∀ a, (cfg0.win (5 : Fin 6)).index t a = (![(blk t).val, 0] : Fin 2 → ℕ) a := by decide +kernel

/-- The reciprocal root mean square of a row of 1024 entries. -/
def rstd (x : Fin 1024 → EReal) : EReal :=
  Ideal.rsqrt (Ideal.div (∑ d : Fin 1024, x d * x d) (show EReal from (FloatOps.ofBits .f32 0x44800000#32 : Ideal .f32)) + (show EReal from (FloatOps.ofBits .f32 0x358637BD#32 : Ideal .f32)))

theorem pay1_at (x0 : Vec Ideal S512x4096 .bf16) (x1 : Vec Ideal S4096x1024 .f32) (i : Fin 512) (d : Fin 1024) :
    k0_pay1 x0 x1 (ix2 i d) = ∑ k : Fin 4096, (show EReal from x0 (ix2 i k)) * (show EReal from x1 (ix2 k d)) := by
  pointwise [k0_pay1]
/-- The norm of the rows of a block, times the gains, added to another block. -/
def normed (z v5 : FVec Ideal S512x1024 .f32) (v16 : FVec Ideal S1x1024 .f32) : FVec Ideal S512x1024 .f32 :=
  addf v5 (mulf (mulf z (broadcastTo S512x1024 (rsqrt (addf (divf (shapeCast S512x1 (multiReduction .add [1] S512 (mulf z z) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)) (broadcastTo S512x1024 v16 broadcasts_S1x1024_S512x1024))
theorem normed_at (z v5 : FVec Ideal S512x1024 .f32) (v16 : FVec Ideal S1x1024 .f32) (i : Fin 512) (d : Fin 1024) :
    normed z v5 v16 (ix2 i d) = (show EReal from v5 (ix2 i d)) + (show EReal from z (ix2 i d)) * rstd (fun e => z (ix2 i e)) * (show EReal from v16 (ix2 (0 : Fin 1) d)) := by
  pointwise [normed]
  rfl

/-- The reference's norm of the rows of `z`, times the gains, added to `h`. -/
def rNormed (z h : FVec Ideal Cert.DownReferenceIdeal.S4096x1024 .f32) (g : FVec Ideal Cert.DownReferenceIdeal.S1x1024 .f32) : FVec Ideal Cert.DownReferenceIdeal.S4096x1024 .f32 :=
  addf h (mulf (mulf z (broadcastInDim Cert.DownReferenceIdeal.S4096x1024 ![0, 1] Cert.DownReferenceIdeal.Gen.bcast_S4096x1_S4096x1024_0_1 (Host.rsqrt (addf (Host.divf (broadcastInDim Cert.DownReferenceIdeal.S4096x1 ![0] Cert.DownReferenceIdeal.Gen.bcast_S4096_S4096x1_0 (Host.reduceAdd (mulf z z) (constant Cert.DownReferenceIdeal.S_ .f32 0x00000000#32) Cert.DownReferenceIdeal.Gen.reducesTo_S4096x1024_S4096_d1 Cert.DownReferenceIdeal.Gen.h_S_)) (broadcastInDim Cert.DownReferenceIdeal.S4096x1 ![] Cert.DownReferenceIdeal.Gen.bcast_S_S4096x1 (constant Cert.DownReferenceIdeal.S_ .f32 0x44800000#32))) (broadcastInDim Cert.DownReferenceIdeal.S4096x1 ![] Cert.DownReferenceIdeal.Gen.bcast_S_S4096x1 (constant Cert.DownReferenceIdeal.S_ .f32 0x358637BD#32)))))) (broadcastInDim Cert.DownReferenceIdeal.S4096x1024 ![0, 1] Cert.DownReferenceIdeal.Gen.bcast_S1x1024_S4096x1024_0_1 g))
theorem rNormed_at (z h : FVec Ideal Cert.DownReferenceIdeal.S4096x1024 .f32) (g : FVec Ideal Cert.DownReferenceIdeal.S1x1024 .f32) (q : Fin 4096) (d : Fin 1024) :
    rNormed z h g (ix2 q d) = (show EReal from h (ix2 q d)) + (show EReal from z (ix2 q d)) * rstd (fun e => z (ix2 q e)) * (show EReal from g (ix2 (0 : Fin 1) d)) := by
  pointwise [rNormed]
  rfl

/-- The reference's product. -/
def rZ (x0 : FVec Ideal Cert.DownReferenceIdeal.S4096x4096 .bf16) (x1 : FVec Ideal Cert.DownReferenceIdeal.S4096x1024 .f32) : FVec Ideal Cert.DownReferenceIdeal.S4096x1024 .f32 :=
  Host.dotGeneral Cert.DownReferenceIdeal.dot_S4096x4096_S4096x1024_S4096x1024_1_0_0_1_n_n none (extf .f32 x0 Cert.DownReferenceIdeal.Gen.bitsLt_bf16_f32) x1
theorem rZ_at (x0 : FVec Ideal Cert.DownReferenceIdeal.S4096x4096 .bf16) (x1 : FVec Ideal Cert.DownReferenceIdeal.S4096x1024 .f32) (q : Fin 4096) (d : Fin 1024) :
    rZ x0 x1 (ix2 q d) = ∑ k : Fin 4096, (show EReal from x0 (ix2 q k)) * (show EReal from x1 (ix2 k d)) := by
  pointwise [rZ]

variable (m : (ℓ : Loc nD τ sig) → Buf (Elt Ideal) ℓ) (c : Dev nD)

theorem blk0 (t : Fin cfg0.N) (i : Fin 512) (k : Fin 4096) : iblk m c 0 t (ix2 i k) = V m c main_arg0 (ix2 (at8 (blk t) i) k) := by
  refine congrArg (V m c main_arg0) (funext fun a => Fin.ext (((cfg0.win (0 : Fin 6)).rect_emb_val t _ a).trans ?_))
  rw [idx0]
  fin_cases a
  · show (blk t).val * 512 + i.val = (blk t).val * 512 + i.val; rfl
  · show 0 * 4096 + k.val = k.val; omega
theorem blk1 (t : Fin cfg0.N) (k : Fin 4096) (d : Fin 1024) : iblk m c 1 t (ix2 k d) = V m c main_arg1 (ix2 k d) := by
  refine congrArg (V m c main_arg1) (funext fun a => Fin.ext (((cfg0.win (1 : Fin 6)).rect_emb_val t _ a).trans ?_))
  rw [idx1]
  fin_cases a
  · show 0 * 4096 + k.val = k.val; omega
  · show 0 * 1024 + d.val = d.val; omega
theorem blk2 (t : Fin cfg0.N) (z : Fin 1) (d : Fin 1024) : iblk m c 2 t (ix2 z d) = V m c main_arg2 (ix2 z d) := by
  refine congrArg (V m c main_arg2) (funext fun a => Fin.ext (((cfg0.win (2 : Fin 6)).rect_emb_val t _ a).trans ?_))
  rw [idx2]
  fin_cases a
  · show 0 * 1 + z.val = z.val; omega
  · show 0 * 1024 + d.val = d.val; omega
theorem blk3 (t : Fin cfg0.N) (i : Fin 512) (d : Fin 1024) : iblk m c 3 t (ix2 i d) = V m c main_arg3 (ix2 (at8 (blk t) i) d) := by
  refine congrArg (V m c main_arg3) (funext fun a => Fin.ext (((cfg0.win (3 : Fin 6)).rect_emb_val t _ a).trans ?_))
  rw [idx3]
  fin_cases a
  · show (blk t).val * 512 + i.val = (blk t).val * 512 + i.val; rfl
  · show 0 * 1024 + d.val = d.val; omega
theorem emb4 (t : Fin cfg0.N) (i : Fin 512) (d : Fin 1024) : ((cfg0.win (4 : Fin 6)).rect t).emb (ix2 i d) = ix2 (at8 (blk t) i) d := by
  refine funext fun a => Fin.ext (((cfg0.win (4 : Fin 6)).rect_emb_val t _ a).trans ?_)
  rw [idx4]
  fin_cases a
  · show (blk t).val * 512 + i.val = (blk t).val * 512 + i.val; rfl
  · show 0 * 1024 + d.val = d.val; omega
theorem emb5 (t : Fin cfg0.N) (i : Fin 512) (d : Fin 1024) : ((cfg0.win (5 : Fin 6)).rect t).emb (ix2 i d) = ix2 (at8 (blk t) i) d := by
  refine funext fun a => Fin.ext (((cfg0.win (5 : Fin 6)).rect_emb_val t _ a).trans ?_)
  rw [idx5]
  fin_cases a
  · show (blk t).val * 512 + i.val = (blk t).val * 512 + i.val; rfl
  · show 0 * 1024 + d.val = d.val; omega

theorem out4_at (x0 : Vec Ideal S512x4096 .bf16) (x1 : Vec Ideal S4096x1024 .f32) (x2 : Vec Ideal S1x1024 .f32) (x3 : Vec Ideal S512x1024 .f32) : out0_4 x0 x1 x2 x3 = k0_pay1 x0 x1 := by
  rw [out0_4, View.canon_cons_unit_lit _ _ _ (by decide), View.ld_unit_lit _ _ (by decide), View.ld_unit_lit _ _ (by decide)]
theorem out5_at (x0 : Vec Ideal S512x4096 .bf16) (x1 : Vec Ideal S4096x1024 .f32) (x2 : Vec Ideal S1x1024 .f32) (x3 : Vec Ideal S512x1024 .f32) : out0_5 x0 x1 x2 x3 = normed (k0_pay1 x0 x1) x3 x2 := by
  rw [out0_5, View.canon_cons_unit_lit _ _ _ (by decide), View.ld_unit_lit _ _ (by decide), View.ld_unit_lit _ _ (by decide), View.ld_unit_lit _ _ (by decide), View.ld_unit_lit _ _ (by decide)]
  rfl

/-- The product of the squared hidden layer and the second weight. -/
def gZ (q : Fin 4096) (d : Fin 1024) : EReal := ∑ k : Fin 4096, (show EReal from V m c main_arg0 (ix2 q k)) * (show EReal from V m c main_arg1 (ix2 k d))
def G4 : S4096x1024.Idx → EReal := fun j => gZ m c (j 0) (j 1)
/-- The normed product added to the block's input. -/
def G5 : S4096x1024.Idx → EReal := fun j =>
  (show EReal from V m c main_arg3 j) + gZ m c (j 0) (j 1) * rstd (gZ m c (j 0)) * (show EReal from V m c main_arg2 (ix2 (0 : Fin 1) (j 1)))

theorem pay_g (t : Fin cfg0.N) (i : Fin 512) (d : Fin 1024) : k0_pay1 (iblk m c 0 t) (iblk m c 1 t) (ix2 i d) = gZ m c (at8 (blk t) i) d :=
  (pay1_at _ _ i d).trans (Finset.sum_congr rfl fun k _ => congrArg₂ (fun a b : EReal => a * b) (blk0 m c t i k) (blk1 m c t k d))

theorem at4 (t : Fin cfg0.N) (y : S512x1024.Idx) : out0_4 (iblk m c 0 t) (iblk m c 1 t) (iblk m c 2 t) (iblk m c 3 t) y = G4 m c (((cfg0.win (4 : Fin 6)).rect t).emb y) := by
  obtain ⟨i, d, rfl⟩ : ∃ a b, y = ix2 a b := ⟨y 0, y 1, eq_ix2 y⟩
  refine Eq.trans ?_ (congrArg (G4 m c) (emb4 t i d)).symm
  exact (congrFun (out4_at _ _ _ _) _).trans (pay_g m c t i d)
theorem at5 (t : Fin cfg0.N) (y : S512x1024.Idx) : out0_5 (iblk m c 0 t) (iblk m c 1 t) (iblk m c 2 t) (iblk m c 3 t) y = G5 m c (((cfg0.win (5 : Fin 6)).rect t).emb y) := by
  obtain ⟨i, d, rfl⟩ : ∃ a b, y = ix2 a b := ⟨y 0, y 1, eq_ix2 y⟩
  refine Eq.trans ?_ (congrArg (G5 m c) (emb5 t i d)).symm
  refine (congrFun (out5_at _ _ _ _) _).trans ((normed_at _ _ _ i d).trans ?_)
  refine congrArg₂ (fun a b : EReal => a + b) (blk3 m c t i d) (congrArg₂ (fun a b : EReal => a * b) (congrArg₂ (fun a b : EReal => a * b) (pay_g m c t i d) (congrArg rstd (funext fun e => pay_g m c t i e))) (blk2 m c t 0 d))

theorem arr4 : (dats m 0 c).arrAt (4 : Fin 6) cfg0.N = G4 m c :=
  (dats m 0 c).arrAt_eq_of_covers (4 : Fin 6) (G4 m c) (by decide +kernel) fun t hf y => (congrFun (after0_4 m c t) y).trans (at4 m c t y)
theorem arr5 : (dats m 0 c).arrAt (5 : Fin 6) cfg0.N = G5 m c :=
  (dats m 0 c).arrAt_eq_of_covers (5 : Fin 6) (G5 m c) (by decide +kernel) fun t hf y => (congrFun (after0_5 m c t) y).trans (at5 m c t y)

theorem rZ_eq (x0 : FVec Ideal Cert.DownReferenceIdeal.S4096x4096 .bf16) (x1 : FVec Ideal Cert.DownReferenceIdeal.S4096x1024 .f32)
    (h0 : x0 = V m c main_arg0) (h1 : x1 = V m c main_arg1) (q : Fin 4096) (d : Fin 1024) : rZ x0 x1 (ix2 q d) = gZ m c q d := by
  subst h0 h1
  exact rZ_at _ _ q d
theorem R4_eq (x0 : FVec Ideal Cert.DownReferenceIdeal.S4096x4096 .bf16) (x1 : FVec Ideal Cert.DownReferenceIdeal.S4096x1024 .f32)
    (h0 : x0 = V m c main_arg0) (h1 : x1 = V m c main_arg1) : rZ x0 x1 = G4 m c := by
  funext j
  obtain ⟨q, d, rfl⟩ : ∃ a b, j = ix2 a b := ⟨j 0, j 1, eq_ix2 j⟩
  exact rZ_eq m c x0 x1 h0 h1 q d
theorem R5_eq (x0 : FVec Ideal Cert.DownReferenceIdeal.S4096x4096 .bf16) (x1 : FVec Ideal Cert.DownReferenceIdeal.S4096x1024 .f32)
    (x2 : FVec Ideal Cert.DownReferenceIdeal.S1x1024 .f32) (x3 : FVec Ideal Cert.DownReferenceIdeal.S4096x1024 .f32)
    (h0 : x0 = V m c main_arg0) (h1 : x1 = V m c main_arg1) (h2 : x2 = V m c main_arg2) (h3 : x3 = V m c main_arg3) : rNormed (rZ x0 x1) x3 x2 = G5 m c := by
  funext j
  obtain ⟨q, d, rfl⟩ : ∃ a b, j = ix2 a b := ⟨j 0, j 1, eq_ix2 j⟩
  refine (rNormed_at _ _ _ q d).trans ?_
  refine congrArg₂ (fun a b : EReal => a + b) (congrFun h3 _) (congrArg₂ (fun a b : EReal => a * b) (congrArg₂ (fun a b : EReal => a * b) (rZ_eq m c x0 x1 h0 h1 q d) (congrArg rstd (funext fun e => rZ_eq m c x0 x1 h0 h1 q e))) (congrFun h2 _))

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = G4 m c
      ∧ r.2.mem ((c.tc : Thread nD τ).loc main_v0_1) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1).trans (arr4 m c), ((h c).2.1).trans (arr5 m c), (h c).2.2⟩) (Cert.DownIdeal.Value.run_blocks m ρ)

end Cert.OutputNorm

end
-- ==== Proof.HiddenLayer.lean ====
module

public import proofs.«01_k».proof.Proof.Gen.UpIdeal.Launch
public import proofs.«01_k».proof.Proof.Gen.UpIdeal.Skeleton
public import proofs.«01_k».proof.Proof.Gen.UpIdeal.Points
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

/-!
# The run of the hidden layer's forward product

The grid is (rows, columns), two by four. The first point of a block of rows norms the rows and stores them; every point
multiplies the stored rows with a block of columns of the first weight and squares the positive part. The run is written once,
over any values of the floating-point types.
-/

@[expose] public section

set_option maxRecDepth 16384
set_option Elab.async false

noncomputable section

namespace Cert.HiddenLayer

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's decision: the point is the first of its block of rows. -/
abbrev isFirst (i : grid0.Coords) : Prop := k0_cond1 i = 1#1
theorem isFirst_iff : ∀ t : Fin cfg0.N, isFirst (grid0.coords t) ↔ t.val % 4 = 0 := by decide +kernel

/-! ## The body at one point -/

section Body

variable (c : Dev nD) (i : grid0.Coords) (arg2 : Memref sig .tc .vmem S2048x1024 .f32) (harg2 : arg2.IsWhole) (arg3 : Memref sig .tc .vmem S1x1024 .f32) (harg3 : arg3.IsWhole)
  (arg4 : Memref sig .tc .vmem S1024x1024 .f32) (harg4 : arg4.IsWhole) (arg5 : Memref sig .tc .vmem S2048x1024 .bf16) (harg5 : arg5.IsWhole) (arg6 : Memref sig .tc .vmem S2048x1024 .bf16) (harg6 : arg6.IsWhole)
  (x0 : Vec F S2048x1024 .f32) (x1 : Vec F S1x1024 .f32) (x2 : Vec F S1024x1024 .f32)

/-- What a store of a whole block leaves, whatever the block held. -/
theorem stored (v : View sig .tc .vmem S2048x1024 .bf16) (f : v.ty.Contents (Elt F)) (w : Vec F S2048x1024 .bf16) :
    v.read (Elt F) (v.writes (Elt F) f [(⟨Rect.unit (s := S2048x1024) ![0, 0] S2048x1024.size inb_S2048x1024_S2048x1024_0_0, w⟩ : View.Piece (Elt F) S2048x1024 .bf16)]) = w :=
  (View.read_writes_eq_canon v f _ (View.cover_of_tiledL _ S2048x1024.size (by sl_kernel_rfl))).trans (View.canon_cons_unit_lit _ _ _ (by decide))

set_option maxHeartbeats 1000000 in
/-- The first point of a block of rows stores the normed rows and its block of the hidden layer. -/
theorem run_first (hc : isFirst i) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay1 x0 x1) ∗ owns (c : Thread nD τ) arg6 fullShare (k0_pay2 (k0_pay1 x0 x1) x2)) -∗ K ⟨⟩))
      ⊢ wp frame (wpE (defs₀ (F := F)) Variants.none c none) E (cc0_up i arg2 harg2 arg3 harg3 arg4 harg4 arg5 harg5 arg6 harg6) K := by
  simp only [cc0_up_eq_skeleton]; unfold cc0_up_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (stored _ _ _).trans ?_
    simp (disch := decide) only [View.ld_unit_lit', View.readCov_unit_lit', View.readAt_eq_ld, Memref.IsWhole.read_unread]
  iexists _; isplitr
  swap; · iexact H4
  ipureintro
  refine (stored _ _ _).trans ?_
  unfold run_first.sl.v3 run_first.sl.H3_1
  simp (disch := decide) only [View.ld_unit_lit', View.readCov_unit_lit', View.readAt_eq_ld, Memref.IsWhole.read_unread]

set_option maxHeartbeats 1000000 in
/-- A later point reads the normed rows, leaves them, and stores its block of the hidden layer. -/
theorem run_later (hc : ¬isFirst i) (a : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare a ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare a ∗ owns (c : Thread nD τ) arg6 fullShare (k0_pay2 a x2)) -∗ K ⟨⟩))
      ⊢ wp frame (wpE (defs₀ (F := F)) Variants.none c none) E (cc0_up i arg2 harg2 arg3 harg3 arg4 harg4 arg5 harg5 arg6 harg6) K := by
  simp only [cc0_up_eq_skeleton]; unfold cc0_up_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (stored _ _ _).trans ?_
  simp (disch := decide) only [View.ld_unit_lit', View.readAt_eq_ld, Memref.IsWhole.read_unread]

end Body

variable (m : (ℓ : Loc nD τ sig) → Buf (Elt F) ℓ) (ρ : Dev nD → PrngReg)

/-! ## The windows' blocks -/

/-- The contents of a core's buffers where the pipeline starts: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of argument 0 holds its block at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of argument 1 holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of argument 2 holds its block at every point. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .bf16 := win0_4.stage (cfg0.slots t 4)
abbrev hs4 (t : Fin cfg0.N) : (ms4 t).IsWhole := hstage0_4 ((cfg0.slots t 4).cast nbuf0_4)

/-! ## What the results' buffers hold after each point -/

/-- The first point of `t`'s block of rows. -/
def first (t : Fin cfg0.N) : Fin cfg0.N := ⟨4 * (t.val / 4), Nat.lt_of_le_of_lt (Nat.mul_div_le _ _) t.isLt⟩
/-- The point before `t`. -/
def pred (t : Fin cfg0.N) : Fin cfg0.N := ⟨t.val - 1, Nat.lt_of_le_of_lt (Nat.sub_le _ _) t.isLt⟩
theorem first_of (t : Fin cfg0.N) (h : t.val % 4 = 0) : first t = t := Fin.ext (by show 4 * (t.val / 4) = t.val; omega)
theorem first_pred (t : Fin cfg0.N) (h : ¬t.val % 4 = 0) : first (pred t) = first t := Fin.ext (by show 4 * ((t.val - 1) / 4) = 4 * (t.val / 4); omega)

/-- The normed rows, and a block of the hidden layer. -/
def rows (c : Dev nD) (t : Fin cfg0.N) : Vec F S2048x1024 .bf16 := k0_pay1 (iblk m c 0 (first t)) (iblk m c 1 (first t))
def hidden (c : Dev nD) (t : Fin cfg0.N) : Vec F S2048x1024 .bf16 := k0_pay2 (rows m c t) (iblk m c 2 t)

theorem rows_first (c : Dev nD) (t : Fin cfg0.N) (h : t.val % 4 = 0) : rows m c t = k0_pay1 (iblk m c 0 t) (iblk m c 1 t) := by
  unfold rows; rw [first_of t h]
theorem rows_pred (c : Dev nD) (t : Fin cfg0.N) (h : ¬t.val % 4 = 0) : rows m c (pred t) = rows m c t := by
  unfold rows; rw [first_pred t h]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => hidden m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rows m c t := by dsimp only [dats]
theorem after4 (c : Dev nD) (t : Fin cfg0.N) : (dats m 0 c).after 4 t = hidden m c t := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
/-- The normed rows are stored at the first point of their block and written back at the last. -/
theorem sched3 : ∀ t : Fin cfg0.N, cfg0.idle (3 : Fin 5) (cfg0.grid.coords t) = !(decide (t.val % 4 = 0)) ∧ (cfg0.win (3 : Fin 5)).flush t = decide (t.val % 4 = 3) := by decide +kernel
theorem fresh3 (t : Fin cfg0.N) : cfg0.fresh (3 : Fin 5) t.val = decide (t.val % 4 = 0) :=
  Pipeline.Cfg.fresh_tab cfg0 (3 : Fin 5) (fun n => decide (n % 4 = 0)) rfl (fun t => by
    rw [(sched3 t).1, (sched3 t).2]
    by_cases h : t.val % 4 = 0
    · simp [h]; omega
    · simp [h]; omega) t.val (Nat.le_of_lt t.isLt)
/-- At a later point of a block of rows the buffer of the normed rows holds what the first point left. -/
theorem before3 (c : Dev nD) (t : Fin cfg0.N) (h : ¬t.val % 4 = 0) (d) : (dats m 0 c).before 3 t d = rows m c t := by
  rw [(dats m 0 c).before_out_traj (3 : Fin 5) rfl (fun _ _ => rfl) (fun t _ _ hf => ?_) t.val t rfl d, fresh3, if_neg (by simpa using h)]
  · exact (after3 m c (pred t)).trans (rows_pred m c t h)
  · rw [fresh3, decide_eq_false_iff_not] at hf
    exact ((after3 m c t).trans (rows_pred m c t hf).symm).trans (after3 m c (pred t)).symm

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (match cfg0.idle (3 : Fin 5) (cfg0.grid.coords t) with
        | true =>
          match (cfg0.win (3 : Fin 5)).flush t with
          | false => iprop(∃ d, owns (c : Thread nD τ) (ms3 t) fullShare ((dats m 0 c).before 3 t d))
          | true => owns (c : Thread nD τ) (ms3 t) fullShare ((dats m 0 c).after 3 t)
        | false => owns (c : Thread nD τ) (ms3 t) fullShare ((dats m 0 c).after 3 t))
    ∗ owns (c : Thread nD τ) (ms4 t) fullShare ((dats m 0 c).after 4 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hs := sched3 t
  rewrite [hs.1, hs.2]
  simp only [before0, before1, before2]
  rw [show (dats m 0 c).Φ t.succ = (dats m 0 c).Φ t.castSucc from rfl,
    show (dats m 0 c).owesAt () t.succ = (dats m 0 c).owesAt () t.castSucc from rfl,
    after0, after1, after2, after4]
  simp only [after3]
  unfold hidden
  by_cases h : t.val % 4 = 0
  · simp only [decide_eq_true h, Bool.not_true]
    rw [rows_first m c t h]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ (iblk m c 0 t) (iblk m c 1 t) (iblk m c 2 t) ((isFirst_iff t).mpr h) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before3 m c t h, decide_eq_false h, Bool.not_false]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (iblk m c 0 t) (iblk m c 1 t) (iblk m c 2 t) (fun e => h ((isFirst_iff t).mp e)) (rows m c t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · cases decide (t.val % 4 = 3)
      · iexists (rows m c t); iexact H3
      · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every fair execution ends with each array at what the points stored and every counter at zero. -/
theorem run_points : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run: the results at what the points stored, the arguments unchanged, every counter at zero. -/
theorem run_main : θ_run defs (onTc (τ := τ) (main (F := F))) ⟨m, fun _ => 0, ρ⟩ (fun r => (∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1 3, (h.1 c).1 4,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩, h.2⟩) (run_points m ρ)

/-- The arguments end unchanged, and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2.2, h.2⟩) (run_main m ρ)

end Cert.HiddenLayer

end
-- ==== Proof.HiddenValue.lean ====
module

public import proofs.«01_k».proof.Proof.HiddenLayer
public import proofs.«01_k».proof.Proof.Gen.UpReferenceIdeal.Run

/-!
# The hidden layer of the feed-forward block

The rows of the block's input are normed; the hidden layer is the squared positive part of their product with the first
weight.
-/

@[expose] public section

set_option maxRecDepth 16384
set_option Elab.async false

noncomputable section

namespace Cert.HiddenLayer

open Cert.UpIdeal Cert.UpIdeal.Gen
open Idealize.ShloMosaic
open Idealize.ShloMosaic.TcCoe Idealize.ShloMosaic.Tactic
open Idealize.SL.Sem
open Idealize.ShloMosaic.Pipeline (Dat Cfg Window)

/-- Row `i` of block of rows `b`, and column `j` of block of columns `b`. -/
def at2 (b : Fin 2) (i : Fin 2048) : Fin 4096 := ⟨b.val * 2048 + i.val, by omega⟩
def at4 (b : Fin 4) (j : Fin 1024) : Fin 4096 := ⟨b.val * 1024 + j.val, by omega⟩

/-- The block of rows and the block of columns of point `t`. -/
def rb (t : Fin cfg0.N) : Fin 2 := ⟨t.val / 4, by have h : t.val < 8 := t.isLt; omega⟩
def cb (t : Fin cfg0.N) : Fin 4 := ⟨t.val % 4, by omega⟩
theorem rb_first (t : Fin cfg0.N) : rb (first t) = rb t := Fin.ext (by show 4 * (t.val / 4) / 4 = t.val / 4; omega)

theorem idx0 : ∀ t : Fin cfg0.N, ∀ a, (cfg0.win (0 : Fin 5)).index t a = (![(rb t).val, 0] : Fin 2 → ℕ) a := by decide +kernel
theorem idx1 : ∀ t : Fin cfg0.N, ∀ a, (cfg0.win (1 : Fin 5)).index t a = (![0, 0] : Fin 2 → ℕ) a := by decide +kernel
theorem idx2 : ∀ t : Fin cfg0.N, ∀ a, (cfg0.win (2 : Fin 5)).index t a = (![0, (cb t).val] : Fin 2 → ℕ) a := by decide +kernel
theorem idx3 : ∀ t : Fin cfg0.N, ∀ a, (cfg0.win (3 : Fin 5)).index t a = (![(rb t).val, 0] : Fin 2 → ℕ) a := by decide +kernel
theorem idx4 : ∀ t : Fin cfg0.N, ∀ a, (cfg0.win (4 : Fin 5)).index t a = (![(rb t).val, (cb t).val] : Fin 2 → ℕ) a := by decide +kernel

/-- The reciprocal root mean square of a row of 1024 entries. -/
def rstd (x : Fin 1024 → EReal) : EReal :=
  Ideal.rsqrt (Ideal.div (∑ d : Fin 1024, x d * x d) (show EReal from (FloatOps.ofBits .f32 0x44800000#32 : Ideal .f32)) + (show EReal from (FloatOps.ofBits .f32 0x358637BD#32 : Ideal .f32)))
/-- The squared positive part. -/
def squaredPos (z : EReal) : EReal := max z 0 * max z 0

theorem pay1_at (x0 : Vec Ideal S2048x1024 .f32) (x1 : Vec Ideal S1x1024 .f32) (i : Fin 2048) (d : Fin 1024) :
    k0_pay1 (F := Ideal) x0 x1 (ix2 i d) = (show EReal from x0 (ix2 i d)) * rstd (fun e => x0 (ix2 i e)) * (show EReal from x1 (ix2 (0 : Fin 1) d)) := by
  pointwise [k0_pay1]
  rfl
theorem pay2_at (a : Vec Ideal S2048x1024 .bf16) (w : Vec Ideal S1024x1024 .f32) (i : Fin 2048) (j : Fin 1024) :
    k0_pay2 (F := Ideal) a w (ix2 i j) = squaredPos (∑ k : Fin 1024, (show EReal from a (ix2 i k)) * (show EReal from w (ix2 k j))) := by
  pointwise [k0_pay2]
  rfl

/-- The reference's normed rows, and the squared positive part of its product. -/
def rRows (h : FVec Ideal Cert.UpReferenceIdeal.S4096x1024 .f32) (g : FVec Ideal Cert.UpReferenceIdeal.S1x1024 .f32) : FVec Ideal Cert.UpReferenceIdeal.S4096x1024 .f32 :=
  mulf (mulf h (broadcastInDim Cert.UpReferenceIdeal.S4096x1024 ![0, 1] Cert.UpReferenceIdeal.Gen.bcast_S4096x1_S4096x1024_0_1 (Host.rsqrt (addf (Host.divf (broadcastInDim Cert.UpReferenceIdeal.S4096x1 ![0] Cert.UpReferenceIdeal.Gen.bcast_S4096_S4096x1_0 (Host.reduceAdd (mulf h h) (constant Cert.UpReferenceIdeal.S_ .f32 0x00000000#32) Cert.UpReferenceIdeal.Gen.reducesTo_S4096x1024_S4096_d1 Cert.UpReferenceIdeal.Gen.h_S_)) (broadcastInDim Cert.UpReferenceIdeal.S4096x1 ![] Cert.UpReferenceIdeal.Gen.bcast_S_S4096x1 (constant Cert.UpReferenceIdeal.S_ .f32 0x44800000#32))) (broadcastInDim Cert.UpReferenceIdeal.S4096x1 ![] Cert.UpReferenceIdeal.Gen.bcast_S_S4096x1 (constant Cert.UpReferenceIdeal.S_ .f32 0x358637BD#32)))))) (broadcastInDim Cert.UpReferenceIdeal.S4096x1024 ![0, 1] Cert.UpReferenceIdeal.Gen.bcast_S1x1024_S4096x1024_0_1 g)
theorem rRows_at (h : FVec Ideal Cert.UpReferenceIdeal.S4096x1024 .f32) (g : FVec Ideal Cert.UpReferenceIdeal.S1x1024 .f32) (q : Fin 4096) (d : Fin 1024) :
    rRows h g (ix2 q d) = (show EReal from h (ix2 q d)) * rstd (fun e => h (ix2 q e)) * (show EReal from g (ix2 (0 : Fin 1) d)) := by
  pointwise [rRows]
  rfl
def rHidden (a : FVec Ideal Cert.UpReferenceIdeal.S4096x1024 .f32) (w : FVec Ideal Cert.UpReferenceIdeal.S1024x4096 .f32) : FVec Ideal Cert.UpReferenceIdeal.S4096x4096 .f32 :=
  mulf (maximumf (Host.dotGeneral Cert.UpReferenceIdeal.dot_S4096x1024_S1024x4096_S4096x4096_1_0_0_1_n_n none a w) (broadcastInDim Cert.UpReferenceIdeal.S4096x4096 ![] Cert.UpReferenceIdeal.Gen.bcast_S_S4096x4096 (constant Cert.UpReferenceIdeal.S_ .f32 0x00000000#32)))
    (maximumf (Host.dotGeneral Cert.UpReferenceIdeal.dot_S4096x1024_S1024x4096_S4096x4096_1_0_0_1_n_n none a w) (broadcastInDim Cert.UpReferenceIdeal.S4096x4096 ![] Cert.UpReferenceIdeal.Gen.bcast_S_S4096x4096 (constant Cert.UpReferenceIdeal.S_ .f32 0x00000000#32)))
theorem rHidden_at (a : FVec Ideal Cert.UpReferenceIdeal.S4096x1024 .f32) (w : FVec Ideal Cert.UpReferenceIdeal.S1024x4096 .f32) (q p : Fin 4096) :
    rHidden a w (ix2 q p) = squaredPos (∑ k : Fin 1024, (show EReal from a (ix2 q k)) * (show EReal from w (ix2 k p))) := by
  pointwise [rHidden]
  rfl

variable (m : (ℓ : Loc nD τ sig) → Buf (Elt Ideal) ℓ) (c : Dev nD)

theorem blk0 (t : Fin cfg0.N) (i : Fin 2048) (d : Fin 1024) : iblk m c 0 t (ix2 i d) = V m c main_arg0 (ix2 (at2 (rb t) i) d) := by
  refine congrArg (V m c main_arg0) (funext fun a => Fin.ext (((cfg0.win (0 : Fin 5)).rect_emb_val t _ a).trans ?_))
  rw [idx0]
  fin_cases a
  · show (rb t).val * 2048 + i.val = (rb t).val * 2048 + i.val; rfl
  · show 0 * 1024 + d.val = d.val; omega
theorem blk1 (t : Fin cfg0.N) (z : Fin 1) (d : Fin 1024) : iblk m c 1 t (ix2 z d) = V m c main_arg1 (ix2 z d) := by
  refine congrArg (V m c main_arg1) (funext fun a => Fin.ext (((cfg0.win (1 : Fin 5)).rect_emb_val t _ a).trans ?_))
  rw [idx1]
  fin_cases a
  · show 0 * 1 + z.val = z.val; omega
  · show 0 * 1024 + d.val = d.val; omega
theorem blk2 (t : Fin cfg0.N) (k j : Fin 1024) : iblk m c 2 t (ix2 k j) = V m c main_arg2 (ix2 k (at4 (cb t) j)) := by
  refine congrArg (V m c main_arg2) (funext fun a => Fin.ext (((cfg0.win (2 : Fin 5)).rect_emb_val t _ a).trans ?_))
  rw [idx2]
  fin_cases a
  · show 0 * 1024 + k.val = k.val; omega
  · show (cb t).val * 1024 + j.val = (cb t).val * 1024 + j.val; rfl
theorem emb3 (t : Fin cfg0.N) (i : Fin 2048) (d : Fin 1024) : ((cfg0.win (3 : Fin 5)).rect t).emb (ix2 i d) = ix2 (at2 (rb t) i) d := by
  refine funext fun a => Fin.ext (((cfg0.win (3 : Fin 5)).rect_emb_val t _ a).trans ?_)
  rw [idx3]
  fin_cases a
  · show (rb t).val * 2048 + i.val = (rb t).val * 2048 + i.val; rfl
  · show 0 * 1024 + d.val = d.val; omega
theorem emb4 (t : Fin cfg0.N) (i : Fin 2048) (j : Fin 1024) : ((cfg0.win (4 : Fin 5)).rect t).emb (ix2 i j) = ix2 (at2 (rb t) i) (at4 (cb t) j) := by
  refine funext fun a => Fin.ext (((cfg0.win (4 : Fin 5)).rect_emb_val t _ a).trans ?_)
  rw [idx4]
  fin_cases a
  · show (rb t).val * 2048 + i.val = (rb t).val * 2048 + i.val; rfl
  · show (cb t).val * 1024 + j.val = (cb t).val * 1024 + j.val; rfl

/-- The normed rows of the block's input. -/
def gRows (q : Fin 4096) (d : Fin 1024) : EReal :=
  (show EReal from V m c main_arg0 (ix2 q d)) * rstd (fun e => V m c main_arg0 (ix2 q e)) * (show EReal from V m c main_arg1 (ix2 (0 : Fin 1) d))
/-- The hidden layer. -/
def gHidden (q p : Fin 4096) : EReal := squaredPos (∑ k : Fin 1024, gRows m c q k * (show EReal from V m c main_arg2 (ix2 k p)))
def G3 : S4096x1024.Idx → EReal := fun j => gRows m c (j 0) (j 1)
def G4 : S4096x4096.Idx → EReal := fun j => gHidden m c (j 0) (j 1)

theorem rows_at (t : Fin cfg0.N) (i : Fin 2048) (d : Fin 1024) : rows m c t (ix2 i d) = gRows m c (at2 (rb t) i) d := by
  unfold rows
  refine (pay1_at _ _ i d).trans ?_
  have e : ∀ e : Fin 1024, iblk m c 0 (first t) (ix2 i e) = V m c main_arg0 (ix2 (at2 (rb t) i) e) := fun e =>
    (blk0 m c (first t) i e).trans (by rw [rb_first])
  exact congrArg₂ (fun a b : EReal => a * b) (congrArg₂ (fun a b : EReal => a * b) (e d) (congrArg rstd (funext e))) (blk1 m c (first t) 0 d)
theorem hidden_at (t : Fin cfg0.N) (i : Fin 2048) (j : Fin 1024) : hidden m c t (ix2 i j) = gHidden m c (at2 (rb t) i) (at4 (cb t) j) := by
  unfold hidden
  refine (pay2_at _ _ i j).trans (congrArg squaredPos (Finset.sum_congr rfl fun k _ => ?_))
  exact congrArg₂ (fun a b : EReal => a * b) (rows_at m c t i k) (blk2 m c t k j)

theorem stored3 (t : Fin cfg0.N) (y : S2048x1024.Idx) : rows m c t y = G3 m c (((cfg0.win (3 : Fin 5)).rect t).emb y) := by
  obtain ⟨i, d, rfl⟩ : ∃ a b, y = ix2 a b := ⟨y 0, y 1, eq_ix2 y⟩
  exact (rows_at m c t i d).trans (congrArg (G3 m c) (emb3 t i d)).symm
theorem stored4 (t : Fin cfg0.N) (y : S2048x1024.Idx) : hidden m c t y = G4 m c (((cfg0.win (4 : Fin 5)).rect t).emb y) := by
  obtain ⟨i, j, rfl⟩ : ∃ a b, y = ix2 a b := ⟨y 0, y 1, eq_ix2 y⟩
  exact (hidden_at m c t i j).trans (congrArg (G4 m c) (emb4 t i j)).symm

theorem arr3 : (dats m 0 c).arrAt (3 : Fin 5) cfg0.N = G3 m c :=
  (dats m 0 c).arrAt_eq_of_covers (3 : Fin 5) (G3 m c) (by decide +kernel) fun t hf y => (congrFun (after3 m c t) y).trans (stored3 m c t y)
theorem arr4 : (dats m 0 c).arrAt (4 : Fin 5) cfg0.N = G4 m c :=
  (dats m 0 c).arrAt_eq_of_covers (4 : Fin 5) (G4 m c) (by decide +kernel) fun t hf y => (congrFun (after4 m c t) y).trans (stored4 m c t y)

theorem rRows_eq (x0 : FVec Ideal Cert.UpReferenceIdeal.S4096x1024 .f32) (x1 : FVec Ideal Cert.UpReferenceIdeal.S1x1024 .f32)
    (h0 : x0 = V m c main_arg0) (h1 : x1 = V m c main_arg1) (q : Fin 4096) (d : Fin 1024) : rRows x0 x1 (ix2 q d) = gRows m c q d := by
  subst h0 h1
  exact rRows_at _ _ q d
theorem R3_eq (x0 : FVec Ideal Cert.UpReferenceIdeal.S4096x1024 .f32) (x1 : FVec Ideal Cert.UpReferenceIdeal.S1x1024 .f32)
    (h0 : x0 = V m c main_arg0) (h1 : x1 = V m c main_arg1) : truncf .bf16 (rRows x0 x1) Cert.UpReferenceIdeal.Gen.bitsLt_bf16_f32 = G3 m c := by
  funext j
  obtain ⟨q, d, rfl⟩ : ∃ a b, j = ix2 a b := ⟨j 0, j 1, eq_ix2 j⟩
  exact rRows_eq m c x0 x1 h0 h1 q d
theorem R4_eq (x0 : FVec Ideal Cert.UpReferenceIdeal.S4096x1024 .f32) (x1 : FVec Ideal Cert.UpReferenceIdeal.S1x1024 .f32) (x2 : FVec Ideal Cert.UpReferenceIdeal.S1024x4096 .f32)
    (h0 : x0 = V m c main_arg0) (h1 : x1 = V m c main_arg1) (h2 : x2 = V m c main_arg2) : truncf .bf16 (rHidden (rRows x0 x1) x2) Cert.UpReferenceIdeal.Gen.bitsLt_bf16_f32 = G4 m c := by
  funext j
  obtain ⟨q, p, rfl⟩ : ∃ a b, j = ix2 a b := ⟨j 0, j 1, eq_ix2 j⟩
  refine Eq.trans (rHidden_at (rRows x0 x1) x2 q p) ?_
  show _ = squaredPos (∑ k : Fin 1024, gRows m c q k * (show EReal from V m c main_arg2 (ix2 k p)))
  refine congrArg squaredPos (Finset.sum_congr rfl fun k _ => ?_)
  exact congrArg₂ (fun a b : EReal => a * b) (rRows_eq m c x0 x1 h0 h1 q k) (congrFun h2 _)

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = G3 m c
      ∧ r.2.mem ((c.tc : Thread nD τ).loc main_v0_1) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1).trans (arr3 m c), ((h.1 c).2.1).trans (arr4 m c), (h.1 c).2.2⟩) (run_main m ρ)

end Cert.HiddenLayer

end
-- ==== Proof.lean ====
/- The proof of the claims: the frames and the values of the attention gradient's kernel and of the feed-forward
   block's calls, assembled behind the witnesses of
   the programs' stated facts. -/
module

public import proofs.«01_k».proof.Defs
public import proofs.«01_k».proof.Proof.BitsFrame
public import proofs.«01_k».proof.Proof.IdealAgree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.WeightTwo
public import proofs.«01_k».proof.Proof.Gen.Dw2
public import proofs.«01_k».proof.Proof.Gen.Dw2.Frame
public import proofs.«01_k».proof.Proof.Gen.Dw2Ideal
public import proofs.«01_k».proof.Proof.Gen.Dw2ReferenceIdeal
public import proofs.«01_k».proof.Proof.Gen.Dw2ReferenceIdeal.Run
public import proofs.«01_k».proof.Proof.Gen.Dw2Ideal.Value
public import proofs.«01_k».proof.Proof.WeightOne
public import proofs.«01_k».proof.Proof.Gen.Dw1
public import proofs.«01_k».proof.Proof.Gen.Dw1.Frame
public import proofs.«01_k».proof.Proof.Gen.Dw1Ideal
public import proofs.«01_k».proof.Proof.Gen.Dw1ReferenceIdeal
public import proofs.«01_k».proof.Proof.Gen.Dw1ReferenceIdeal.Run
public import proofs.«01_k».proof.Proof.Gen.Dw1Ideal.Value
public import proofs.«01_k».proof.Proof.InputNorm
public import proofs.«01_k».proof.Proof.Gen.Dup
public import proofs.«01_k».proof.Proof.Gen.Dup.Frame
public import proofs.«01_k».proof.Proof.Gen.DupIdeal
public import proofs.«01_k».proof.Proof.Gen.DupReferenceIdeal
public import proofs.«01_k».proof.Proof.Gen.DupReferenceIdeal.Run
public import proofs.«01_k».proof.Proof.Gen.DupIdeal.Value
public import proofs.«01_k».proof.Proof.OutputNorm
public import proofs.«01_k».proof.Proof.Gen.Down
public import proofs.«01_k».proof.Proof.Gen.Down.Frame
public import proofs.«01_k».proof.Proof.Gen.DownIdeal
public import proofs.«01_k».proof.Proof.Gen.DownReferenceIdeal
public import proofs.«01_k».proof.Proof.Gen.DownReferenceIdeal.Run
public import proofs.«01_k».proof.Proof.Gen.DownIdeal.Value
public import proofs.«01_k».proof.Proof.HiddenValue
public import proofs.«01_k».proof.Proof.Gen.Up
public import proofs.«01_k».proof.Proof.Gen.Up.Launch
public import proofs.«01_k».proof.Proof.Gen.UpIdeal
public import proofs.«01_k».proof.Proof.Gen.UpReferenceIdeal
public import proofs.«01_k».proof.Proof.Gen.UpReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The constants of the kernel are the named reals, each at its place in the table of names. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "scale_log2e" .f32 0x3DD53B95#32 (((Real.sqrt 192)⁻¹ * (Real.log 2)⁻¹ : ℝ) : EReal) rfl,
   IdealRules.named_const.statement Cert.KernelIdeal.κ "scale" .f32 0x3D93CD3A#32 (((Real.sqrt 192)⁻¹ : ℝ) : EReal) rfl⟩

/-- The reference ends with its arguments unchanged; it has no counters. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)

/-- The three results of the kernel end at its gradients, and its arguments as they began. -/
theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v32_0) = Cert.AttnKernelIdeal.G6 m c
        ∧ r.2.mem ((c.tc : Thread Cert.KernelIdeal.nD Cert.KernelIdeal.τ).loc Cert.KernelIdeal.main_v32_1) = Cert.AttnKernelIdeal.G7 m c
        ∧ r.2.mem ((c.tc : Thread Cert.KernelIdeal.nD Cert.KernelIdeal.τ).loc Cert.KernelIdeal.main_v32_2) = Cert.AttnKernelIdeal.G8 m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
      ⟨((h.1 c).1 (6 : Fin 9)).trans (Cert.AttnKernelIdeal.arr6 m c), ((h.1 c).1 (7 : Fin 9)).trans (Cert.AttnKernelIdeal.arr7 m c),
        ((h.1 c).1 (8 : Fin 9)).trans (Cert.AttnKernelIdeal.arr8 m c), Cert.AttnKernelIdeal.kept_of_post m h.1 c⟩)
    (Cert.AttnKernelIdeal.run_main m ρ)

/-- On finite arguments the kernel and the reference end with the same three gradients. -/
theorem algebraic : Cert.algebraic_KernelIdeal_ReferenceIdeal_pre_finite := by
  intro m g m' g' hpre hagree
  refine ⟨fun c => Cert.AttnKernelIdeal.G6 m c, fun c => Cert.AttnKernelIdeal.G7 m c, fun c => Cert.AttnKernelIdeal.G8 m c, run_kernel m g, ?_⟩
  refine (θ_run Cert.ReferenceIdeal.defs _ _).mono (fun r h c => ?_) (Cert.ReferenceIdeal.Value.run (F := Ideal) m' g')
  obtain ⟨⟨r0, h0⟩, ⟨r1, h1⟩, ⟨r2, h2⟩, ⟨r3, h3⟩⟩ := Cert.AttnMatch.re_of_pre _ _ _ _ (hpre c)
  obtain ⟨a0, a1, a2, a3⟩ := hagree c
  obtain ⟨q0, q1, q2, hk⟩ := h c
  have b0 := a0.trans h0
  have b1 := a1.trans h1
  have b2 := a2.trans h2
  have b3 := a3.trans h3
  refine ⟨q0.trans ?_, q1.trans ?_, q2.trans ?_, hk⟩
  · refine (Cert.AttnReference.res_q m' c).trans ?_
    rw [b0, b1, b2, b3]
    exact (Cert.AttnMatch.G6_eq r0 r1 r2 r3 m c h0 h1 h2 h3).symm
  · refine (Cert.AttnReference.res_k m' c).trans ?_
    rw [b0, b1, b2, b3]
    exact (Cert.AttnMatch.G7_eq r0 r1 r2 r3 m c h0 h1 h2 h3).symm
  · refine (Cert.AttnReference.res_v m' c).trans ?_
    rw [b0, b1, b3]
    exact (Cert.AttnMatch.G8_eq r0 r1 r3 m c h0 h1 h3).symm

/-- The reference of the second weight's gradient ends with its arguments unchanged; it has no counters. -/
theorem frame_reference_dw2 (m : (ℓ : Loc Cert.Dw2ReferenceIdeal.nD Cert.Dw2ReferenceIdeal.τ Cert.Dw2ReferenceIdeal.sig) → Buf (Elt Ideal) ℓ) (ρ : Dev Cert.Dw2ReferenceIdeal.nD → PrngReg) :
    θ_run (Cert.Dw2ReferenceIdeal.defs (F := Ideal)) (onTc (τ := Cert.Dw2ReferenceIdeal.τ) (Cert.Dw2ReferenceIdeal.main (F := Ideal))) ⟨m, fun _ => 0, ρ⟩ (fun r =>
      (∀ c : Dev Cert.Dw2ReferenceIdeal.nD,
        r.2.mem ((c.tc : Thread Cert.Dw2ReferenceIdeal.nD Cert.Dw2ReferenceIdeal.τ).loc Cert.Dw2ReferenceIdeal.main_arg0) = m ((c.tc : Thread Cert.Dw2ReferenceIdeal.nD Cert.Dw2ReferenceIdeal.τ).loc Cert.Dw2ReferenceIdeal.main_arg0)
        ∧ r.2.mem ((c.tc : Thread Cert.Dw2ReferenceIdeal.nD Cert.Dw2ReferenceIdeal.τ).loc Cert.Dw2ReferenceIdeal.main_arg1) = m ((c.tc : Thread Cert.Dw2ReferenceIdeal.nD Cert.Dw2ReferenceIdeal.τ).loc Cert.Dw2ReferenceIdeal.main_arg1))
      ∧ r.2.sem = fun _ => 0) :=
  (θ_run Cert.Dw2ReferenceIdeal.defs _ _).mono (fun r h => ⟨fun c => (h c).2, sem_eq_zero_of_no_sems (by decide) r.2⟩)
    (Cert.Dw2ReferenceIdeal.Value.run (F := Ideal) m ρ)

/-- The kernel and the reference end with the same second weight's gradient. -/
theorem algebraic_dw2 : Cert.algebraic_Dw2Ideal_Dw2ReferenceIdeal := by
  intro m g m' g' _ hagree
  refine ⟨fun c => Cert.WeightTwo.G m c, Cert.WeightTwo.run m g, ?_⟩
  refine (θ_run Cert.Dw2ReferenceIdeal.defs _ _).mono (fun r h c => ?_) (Cert.Dw2ReferenceIdeal.Value.run (F := Ideal) m' g')
  obtain ⟨a0, a1⟩ := hagree c
  obtain ⟨q0, hk⟩ := h c
  exact ⟨q0.trans (Cert.WeightTwo.R_eq m c _ _ a0 a1), hk⟩

/-- The reference of the first weight's gradient ends with its arguments unchanged; it has no counters. -/
theorem frame_reference_dw1 (m : (ℓ : Loc Cert.Dw1ReferenceIdeal.nD Cert.Dw1ReferenceIdeal.τ Cert.Dw1ReferenceIdeal.sig) → Buf (Elt Ideal) ℓ) (ρ : Dev Cert.Dw1ReferenceIdeal.nD → PrngReg) :
    θ_run (Cert.Dw1ReferenceIdeal.defs (F := Ideal)) (onTc (τ := Cert.Dw1ReferenceIdeal.τ) (Cert.Dw1ReferenceIdeal.main (F := Ideal))) ⟨m, fun _ => 0, ρ⟩ (fun r =>
      (∀ c : Dev Cert.Dw1ReferenceIdeal.nD,
        r.2.mem ((c.tc : Thread Cert.Dw1ReferenceIdeal.nD Cert.Dw1ReferenceIdeal.τ).loc Cert.Dw1ReferenceIdeal.main_arg0) = m ((c.tc : Thread Cert.Dw1ReferenceIdeal.nD Cert.Dw1ReferenceIdeal.τ).loc Cert.Dw1ReferenceIdeal.main_arg0)
        ∧ r.2.mem ((c.tc : Thread Cert.Dw1ReferenceIdeal.nD Cert.Dw1ReferenceIdeal.τ).loc Cert.Dw1ReferenceIdeal.main_arg1) = m ((c.tc : Thread Cert.Dw1ReferenceIdeal.nD Cert.Dw1ReferenceIdeal.τ).loc Cert.Dw1ReferenceIdeal.main_arg1))
      ∧ r.2.sem = fun _ => 0) :=
  (θ_run Cert.Dw1ReferenceIdeal.defs _ _).mono (fun r h => ⟨fun c => (h c).2, sem_eq_zero_of_no_sems (by decide) r.2⟩)
    (Cert.Dw1ReferenceIdeal.Value.run (F := Ideal) m ρ)

/-- The kernel and the reference end with the same first weight's gradient. -/
theorem algebraic_dw1 : Cert.algebraic_Dw1Ideal_Dw1ReferenceIdeal := by
  intro m g m' g' _ hagree
  refine ⟨fun c => Cert.WeightOne.G m c, Cert.WeightOne.run m g, ?_⟩
  refine (θ_run Cert.Dw1ReferenceIdeal.defs _ _).mono (fun r h c => ?_) (Cert.Dw1ReferenceIdeal.Value.run (F := Ideal) m' g')
  obtain ⟨a0, a1⟩ := hagree c
  obtain ⟨q0, hk⟩ := h c
  exact ⟨q0.trans (Cert.WeightOne.R_eq m c _ _ a0 a1), hk⟩

/-- The reference of the input's gradient ends with its arguments unchanged; it has no counters. -/
theorem frame_reference_dup (m : (ℓ : Loc Cert.DupReferenceIdeal.nD Cert.DupReferenceIdeal.τ Cert.DupReferenceIdeal.sig) → Buf (Elt Ideal) ℓ) (ρ : Dev Cert.DupReferenceIdeal.nD → PrngReg) :
    θ_run (Cert.DupReferenceIdeal.defs (F := Ideal)) (onTc (τ := Cert.DupReferenceIdeal.τ) (Cert.DupReferenceIdeal.main (F := Ideal))) ⟨m, fun _ => 0, ρ⟩ (fun r =>
      (∀ c : Dev Cert.DupReferenceIdeal.nD,
        r.2.mem ((c.tc : Thread Cert.DupReferenceIdeal.nD Cert.DupReferenceIdeal.τ).loc Cert.DupReferenceIdeal.main_arg0) = m ((c.tc : Thread Cert.DupReferenceIdeal.nD Cert.DupReferenceIdeal.τ).loc Cert.DupReferenceIdeal.main_arg0)
        ∧ r.2.mem ((c.tc : Thread Cert.DupReferenceIdeal.nD Cert.DupReferenceIdeal.τ).loc Cert.DupReferenceIdeal.main_arg1) = m ((c.tc : Thread Cert.DupReferenceIdeal.nD Cert.DupReferenceIdeal.τ).loc Cert.DupReferenceIdeal.main_arg1)
        ∧ r.2.mem ((c.tc : Thread Cert.DupReferenceIdeal.nD Cert.DupReferenceIdeal.τ).loc Cert.DupReferenceIdeal.main_arg2) = m ((c.tc : Thread Cert.DupReferenceIdeal.nD Cert.DupReferenceIdeal.τ).loc Cert.DupReferenceIdeal.main_arg2)
        ∧ r.2.mem ((c.tc : Thread Cert.DupReferenceIdeal.nD Cert.DupReferenceIdeal.τ).loc Cert.DupReferenceIdeal.main_arg3) = m ((c.tc : Thread Cert.DupReferenceIdeal.nD Cert.DupReferenceIdeal.τ).loc Cert.DupReferenceIdeal.main_arg3)
        ∧ r.2.mem ((c.tc : Thread Cert.DupReferenceIdeal.nD Cert.DupReferenceIdeal.τ).loc Cert.DupReferenceIdeal.main_arg4) = m ((c.tc : Thread Cert.DupReferenceIdeal.nD Cert.DupReferenceIdeal.τ).loc Cert.DupReferenceIdeal.main_arg4))
      ∧ r.2.sem = fun _ => 0) :=
  (θ_run Cert.DupReferenceIdeal.defs _ _).mono (fun r h => ⟨fun c => (h c).2.2, sem_eq_zero_of_no_sems (by decide) r.2⟩)
    (Cert.DupReferenceIdeal.Value.run (F := Ideal) m ρ)

/-- The kernel and the reference end with the same gradients of the input and of the gains of its norm. -/
theorem algebraic_dup : Cert.algebraic_DupIdeal_DupReferenceIdeal := by
  intro m g m' g' _ hagree
  refine ⟨fun c => Cert.InputNorm.G5 m c, fun c => Cert.InputNorm.G6 m c, Cert.InputNorm.run m g, ?_⟩
  refine (θ_run Cert.DupReferenceIdeal.defs _ _).mono (fun r h c => ?_) (Cert.DupReferenceIdeal.Value.run (F := Ideal) m' g')
  obtain ⟨a0, a1, a2, a3, a4⟩ := hagree c
  obtain ⟨q0, q1, hk⟩ := h c
  exact ⟨q0.trans (Cert.InputNorm.rGrad_eq m c _ _ _ _ _ a0 a1 a2 a3 a4), q1.trans (Cert.InputNorm.rGain_eq m c _ _ _ a0 a1 a2), hk⟩

/-- The reference of the output ends with its arguments unchanged; it has no counters. -/
theorem frame_reference_down (m : (ℓ : Loc Cert.DownReferenceIdeal.nD Cert.DownReferenceIdeal.τ Cert.DownReferenceIdeal.sig) → Buf (Elt Ideal) ℓ) (ρ : Dev Cert.DownReferenceIdeal.nD → PrngReg) :
    θ_run (Cert.DownReferenceIdeal.defs (F := Ideal)) (onTc (τ := Cert.DownReferenceIdeal.τ) (Cert.DownReferenceIdeal.main (F := Ideal))) ⟨m, fun _ => 0, ρ⟩ (fun r =>
      (∀ c : Dev Cert.DownReferenceIdeal.nD,
        r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
        ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
        ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
        ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0) :=
  (θ_run Cert.DownReferenceIdeal.defs _ _).mono (fun r h => ⟨fun c => (h c).2.2, sem_eq_zero_of_no_sems (by decide) r.2⟩)
    (Cert.DownReferenceIdeal.Value.run (F := Ideal) m ρ)

/-- The kernel and the reference end with the same product and the same output of the feed-forward block. -/
theorem algebraic_down : Cert.algebraic_DownIdeal_DownReferenceIdeal := by
  intro m g m' g' _ hagree
  refine ⟨fun c => Cert.OutputNorm.G4 m c, fun c => Cert.OutputNorm.G5 m c, Cert.OutputNorm.run m g, ?_⟩
  refine (θ_run Cert.DownReferenceIdeal.defs _ _).mono (fun r h c => ?_) (Cert.DownReferenceIdeal.Value.run (F := Ideal) m' g')
  obtain ⟨a0, a1, a2, a3⟩ := hagree c
  obtain ⟨q0, q1, hk⟩ := h c
  exact ⟨q0.trans (Cert.OutputNorm.R4_eq m c _ _ a0 a1), q1.trans (Cert.OutputNorm.R5_eq m c _ _ _ _ a0 a1 a2 a3), hk⟩

/-- The reference of the hidden layer ends with its arguments unchanged; it has no counters. -/
theorem frame_reference_up (m : (ℓ : Loc Cert.UpReferenceIdeal.nD Cert.UpReferenceIdeal.τ Cert.UpReferenceIdeal.sig) → Buf (Elt Ideal) ℓ) (ρ : Dev Cert.UpReferenceIdeal.nD → PrngReg) :
    θ_run (Cert.UpReferenceIdeal.defs (F := Ideal)) (onTc (τ := Cert.UpReferenceIdeal.τ) (Cert.UpReferenceIdeal.main (F := Ideal))) ⟨m, fun _ => 0, ρ⟩ (fun r =>
      (∀ c : Dev Cert.UpReferenceIdeal.nD,
        r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
        ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
        ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0) :=
  (θ_run Cert.UpReferenceIdeal.defs _ _).mono (fun r h => ⟨fun c => (h c).2.2, sem_eq_zero_of_no_sems (by decide) r.2⟩)
    (Cert.UpReferenceIdeal.Value.run (F := Ideal) m ρ)

/-- The bodies of the two programs of the hidden layer are the same. -/
theorem bodies_up : (Cert.Up.defs₀ (F := Bits) : Defs Cert.UpIdeal.nD Cert.UpIdeal.τ Cert.UpIdeal.sig (Elt Bits) Cert.UpIdeal.Λ₀) =
    Cert.UpIdeal.defs₀ := by
  unfold Cert.Up.defs₀ Cert.UpIdeal.defs₀
  refine congrArg Defs.onTc (funext fun l => funext fun x => ?_)
  match l, x with
  | 0, (t, s) => rfl

/-- So are their calls. -/
theorem defs_up : (Cert.Up.defs (F := Bits) : Defs Cert.UpIdeal.nD Cert.UpIdeal.τ Cert.UpIdeal.sig (Elt Bits) _) = Cert.UpIdeal.defs :=
  congrArg (Pipeline.defs (Cert.UpIdeal.pcfgs (F := Bits))) bodies_up

/-- The two programs of the hidden layer have the same text, so the one run serves both. -/
theorem frame_up : Cert.quiescent_Up := fun m ρ _ => by
  have h := Cert.HiddenLayer.frame_main (F := Bits) m ρ
  rw [← defs_up] at h
  exact h

/-- The kernel and the reference end with the same normed rows and the same hidden layer. -/
theorem algebraic_up : Cert.algebraic_UpIdeal_UpReferenceIdeal := by
  intro m g m' g' _ hagree
  refine ⟨fun c => Cert.HiddenLayer.G3 m c, fun c => Cert.HiddenLayer.G4 m c, Cert.HiddenLayer.run m g, ?_⟩
  refine (θ_run Cert.UpReferenceIdeal.defs _ _).mono (fun r h c => ?_) (Cert.UpReferenceIdeal.Value.run (F := Ideal) m' g')
  obtain ⟨a0, a1, a2⟩ := hagree c
  obtain ⟨q0, q1, hk⟩ := h c
  exact ⟨q0.trans (Cert.HiddenLayer.R3_eq m c _ _ a0 a1), q1.trans (Cert.HiddenLayer.R4_eq m c _ _ _ a0 a1 a2), hk⟩

theorem claim : Cert.Claim :=
  ⟨Cert.Kernel.Gen.facts, Cert.KernelIdeal.Gen.facts, Cert.ReferenceIdeal.Gen.facts, Cert.Dw2.Gen.facts, Cert.Dw2Ideal.Gen.facts, Cert.Dw2ReferenceIdeal.Gen.facts, Cert.Dw1.Gen.facts, Cert.Dw1Ideal.Gen.facts, Cert.Dw1ReferenceIdeal.Gen.facts, Cert.Dup.Gen.facts, Cert.DupIdeal.Gen.facts, Cert.DupReferenceIdeal.Gen.facts, Cert.Down.Gen.facts, Cert.DownIdeal.Gen.facts, Cert.DownReferenceIdeal.Gen.facts, Cert.Up.Gen.facts, Cert.UpIdeal.Gen.facts, Cert.UpReferenceIdeal.Gen.facts, Cert.Pre_finite.Gen.facts,
    fun m ρ _ => Cert.AttnKernel.frame_main m ρ,
    fun m ρ _ => Cert.AttnKernelIdeal.frame_main m ρ,
    fun m ρ _ => Cert.AttnKernelIdeal.frame_main m ρ,
    fun m ρ _ => frame_reference m ρ,
    fun m ρ _ => frame_reference m ρ,
    fun m ρ _ => Cert.Dw2.Gen.frame m ρ,
    fun m ρ _ => Cert.Dw2Ideal.Gen.frame m ρ,
    fun m ρ _ => frame_reference_dw2 m ρ,
    fun m ρ _ => Cert.Dw1.Gen.frame m ρ,
    fun m ρ _ => Cert.Dw1Ideal.Gen.frame m ρ,
    fun m ρ _ => frame_reference_dw1 m ρ,
    fun m ρ _ => Cert.Dup.Gen.frame m ρ,
    fun m ρ _ => Cert.DupIdeal.Gen.frame m ρ,
    fun m ρ _ => frame_reference_dup m ρ,
    fun m ρ _ => Cert.Down.Gen.frame m ρ,
    fun m ρ _ => Cert.DownIdeal.Gen.frame m ρ,
    fun m ρ _ => frame_reference_down m ρ,
    frame_up,
    fun m ρ _ => Cert.HiddenLayer.frame_main m ρ,
    fun m ρ _ => frame_reference_up m ρ,
    preserves,
    algebraic,
    trivial,
    algebraic_dw2,
    trivial,
    algebraic_dw1,
    trivial,
    algebraic_dup,
    trivial,
    algebraic_down,
    trivial,
    algebraic_up⟩

end Cert.Proof

end
